-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ProjectIn (m : (ℓ : Loc Cert.ProjectIn.nD Cert.ProjectIn.τ Cert.ProjectIn.sig) → Buf (Elt Bits) ℓ) : Prop :=
  True

def Pre_ProjectInIdeal (m : (ℓ : Loc Cert.ProjectInIdeal.nD Cert.ProjectInIdeal.τ Cert.ProjectInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_ProjectKv (m : (ℓ : Loc Cert.ProjectKv.nD Cert.ProjectKv.τ Cert.ProjectKv.sig) → Buf (Elt Bits) ℓ) : Prop :=
  True

def Pre_ProjectKvIdeal (m : (ℓ : Loc Cert.ProjectKvIdeal.nD Cert.ProjectKvIdeal.τ Cert.ProjectKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_ProjectB (m : (ℓ : Loc Cert.ProjectB.nD Cert.ProjectB.τ Cert.ProjectB.sig) → Buf (Elt Bits) ℓ) : Prop :=
  True

def Pre_ProjectBIdeal (m : (ℓ : Loc Cert.ProjectBIdeal.nD Cert.ProjectBIdeal.τ Cert.ProjectBIdeal.sig) → Buf (Elt Ideal) ℓ) : Prop :=
  True

def Pre_ReferenceBIdeal (m : (ℓ : Loc Cert.ReferenceBIdeal.nD Cert.ReferenceBIdeal.τ Cert.ReferenceBIdeal.sig) → Buf (Elt Ideal) ℓ) : Prop :=
  True

def Pre_ProjectQ (m : (ℓ : Loc Cert.ProjectQ.nD Cert.ProjectQ.τ Cert.ProjectQ.sig) → Buf (Elt Bits) ℓ) : Prop :=
  True

def Pre_ProjectQIdeal (m : (ℓ : Loc Cert.ProjectQIdeal.nD Cert.ProjectQIdeal.τ Cert.ProjectQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_ProjectMem (m : (ℓ : Loc Cert.ProjectMem.nD Cert.ProjectMem.τ Cert.ProjectMem.sig) → Buf (Elt Bits) ℓ) : Prop :=
  True

def Pre_ProjectMemIdeal (m : (ℓ : Loc Cert.ProjectMemIdeal.nD Cert.ProjectMemIdeal.τ Cert.ProjectMemIdeal.sig) → Buf (Elt Ideal) ℓ) : Prop :=
  True

def Pre_ReferenceMemIdeal (m : (ℓ : Loc Cert.ReferenceMemIdeal.nD Cert.ReferenceMemIdeal.τ Cert.ReferenceMemIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_ReferenceMemoryIdeal (m : (ℓ : Loc Cert.ReferenceMemoryIdeal.nD Cert.ReferenceMemoryIdeal.τ Cert.ReferenceMemoryIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ProjectIn [hProjectIn : Cert.ProjectIn.Facts] : Prop :=
  ∀ (m : (ℓ : Loc Cert.ProjectIn.nD Cert.ProjectIn.τ Cert.ProjectIn.sig) → Buf (Elt Bits) ℓ) (g : Dev Cert.ProjectIn.nD → PrngReg), Pre_ProjectIn m →
    θ_run (Cert.ProjectIn.defs (F := Bits)) (onTc (τ := Cert.ProjectIn.τ) (Cert.ProjectIn.main (F := Bits))) ⟨m, fun _ => 0, g⟩ (fun r => (∀ c : Dev Cert.ProjectIn.nD,
      r.2.mem ((c.tc : Thread Cert.ProjectIn.nD Cert.ProjectIn.τ).loc Cert.ProjectIn.main_arg0) = m ((c.tc : Thread Cert.ProjectIn.nD Cert.ProjectIn.τ).loc Cert.ProjectIn.main_arg0)
      ∧ r.2.mem ((c.tc : Thread Cert.ProjectIn.nD Cert.ProjectIn.τ).loc Cert.ProjectIn.main_arg1) = m ((c.tc : Thread Cert.ProjectIn.nD Cert.ProjectIn.τ).loc Cert.ProjectIn.main_arg1))
      ∧ r.2.sem = fun _ => 0)

def quiescent_ProjectInIdeal [hProjectInIdeal : Cert.ProjectInIdeal.Facts] : Prop :=
  ∀ (m : (ℓ : Loc Cert.ProjectInIdeal.nD Cert.ProjectInIdeal.τ Cert.ProjectInIdeal.sig) → Buf (Elt Ideal) ℓ) (g : Dev Cert.ProjectInIdeal.nD → PrngReg), Pre_ProjectInIdeal m →
    θ_run (Cert.ProjectInIdeal.defs (F := Ideal)) (onTc (τ := Cert.ProjectInIdeal.τ) (Cert.ProjectInIdeal.main (F := Ideal))) ⟨m, fun _ => 0, g⟩ (fun r => (∀ c : Dev Cert.ProjectInIdeal.nD,
      r.2.mem ((c.tc : Thread Cert.ProjectInIdeal.nD Cert.ProjectInIdeal.τ).loc Cert.ProjectInIdeal.main_arg0) = m ((c.tc : Thread Cert.ProjectInIdeal.nD Cert.ProjectInIdeal.τ).loc Cert.ProjectInIdeal.main_arg0)
      ∧ r.2.mem ((c.tc : Thread Cert.ProjectInIdeal.nD Cert.ProjectInIdeal.τ).loc Cert.ProjectInIdeal.main_arg1) = m ((c.tc : Thread Cert.ProjectInIdeal.nD Cert.ProjectInIdeal.τ).loc Cert.ProjectInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_ProjectKv [hProjectKv : Cert.ProjectKv.Facts] : Prop :=
  ∀ (m : (ℓ : Loc Cert.ProjectKv.nD Cert.ProjectKv.τ Cert.ProjectKv.sig) → Buf (Elt Bits) ℓ) (g : Dev Cert.ProjectKv.nD → PrngReg), Pre_ProjectKv m →
    θ_run (Cert.ProjectKv.defs (F := Bits)) (onTc (τ := Cert.ProjectKv.τ) (Cert.ProjectKv.main (F := Bits))) ⟨m, fun _ => 0, g⟩ (fun r => (∀ c : Dev Cert.ProjectKv.nD,
      r.2.mem ((c.tc : Thread Cert.ProjectKv.nD Cert.ProjectKv.τ).loc Cert.ProjectKv.main_arg0) = m ((c.tc : Thread Cert.ProjectKv.nD Cert.ProjectKv.τ).loc Cert.ProjectKv.main_arg0)
      ∧ r.2.mem ((c.tc : Thread Cert.ProjectKv.nD Cert.ProjectKv.τ).loc Cert.ProjectKv.main_arg1) = m ((c.tc : Thread Cert.ProjectKv.nD Cert.ProjectKv.τ).loc Cert.ProjectKv.main_arg1))
      ∧ r.2.sem = fun _ => 0)

def quiescent_ProjectKvIdeal [hProjectKvIdeal : Cert.ProjectKvIdeal.Facts] : Prop :=
  ∀ (m : (ℓ : Loc Cert.ProjectKvIdeal.nD Cert.ProjectKvIdeal.τ Cert.ProjectKvIdeal.sig) → Buf (Elt Ideal) ℓ) (g : Dev Cert.ProjectKvIdeal.nD → PrngReg), Pre_ProjectKvIdeal m →
    θ_run (Cert.ProjectKvIdeal.defs (F := Ideal)) (onTc (τ := Cert.ProjectKvIdeal.τ) (Cert.ProjectKvIdeal.main (F := Ideal))) ⟨m, fun _ => 0, g⟩ (fun r => (∀ c : Dev Cert.ProjectKvIdeal.nD,
      r.2.mem ((c.tc : Thread Cert.ProjectKvIdeal.nD Cert.ProjectKvIdeal.τ).loc Cert.ProjectKvIdeal.main_arg0) = m ((c.tc : Thread Cert.ProjectKvIdeal.nD Cert.ProjectKvIdeal.τ).loc Cert.ProjectKvIdeal.main_arg0)
      ∧ r.2.mem ((c.tc : Thread Cert.ProjectKvIdeal.nD Cert.ProjectKvIdeal.τ).loc Cert.ProjectKvIdeal.main_arg1) = m ((c.tc : Thread Cert.ProjectKvIdeal.nD Cert.ProjectKvIdeal.τ).loc Cert.ProjectKvIdeal.main_arg1))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1))
      ∧ r.2.sem = fun _ => 0)

def quiescent_ProjectB [hProjectB : Cert.ProjectB.Facts] : Prop :=
  ∀ (m : (ℓ : Loc Cert.ProjectB.nD Cert.ProjectB.τ Cert.ProjectB.sig) → Buf (Elt Bits) ℓ) (g : Dev Cert.ProjectB.nD → PrngReg), Pre_ProjectB m →
    θ_run (Cert.ProjectB.defs (F := Bits)) (onTc (τ := Cert.ProjectB.τ) (Cert.ProjectB.main (F := Bits))) ⟨m, fun _ => 0, g⟩ (fun r => (∀ c : Dev Cert.ProjectB.nD,
      r.2.mem ((c.tc : Thread Cert.ProjectB.nD Cert.ProjectB.τ).loc Cert.ProjectB.main_arg0) = m ((c.tc : Thread Cert.ProjectB.nD Cert.ProjectB.τ).loc Cert.ProjectB.main_arg0)
      ∧ r.2.mem ((c.tc : Thread Cert.ProjectB.nD Cert.ProjectB.τ).loc Cert.ProjectB.main_arg1) = m ((c.tc : Thread Cert.ProjectB.nD Cert.ProjectB.τ).loc Cert.ProjectB.main_arg1))
      ∧ r.2.sem = fun _ => 0)

def quiescent_ProjectBIdeal [hProjectBIdeal : Cert.ProjectBIdeal.Facts] : Prop :=
  ∀ (m : (ℓ : Loc Cert.ProjectBIdeal.nD Cert.ProjectBIdeal.τ Cert.ProjectBIdeal.sig) → Buf (Elt Ideal) ℓ) (g : Dev Cert.ProjectBIdeal.nD → PrngReg), Pre_ProjectBIdeal m →
    θ_run (Cert.ProjectBIdeal.defs (F := Ideal)) (onTc (τ := Cert.ProjectBIdeal.τ) (Cert.ProjectBIdeal.main (F := Ideal))) ⟨m, fun _ => 0, g⟩ (fun r => (∀ c : Dev Cert.ProjectBIdeal.nD,
      r.2.mem ((c.tc : Thread Cert.ProjectBIdeal.nD Cert.ProjectBIdeal.τ).loc Cert.ProjectBIdeal.main_arg0) = m ((c.tc : Thread Cert.ProjectBIdeal.nD Cert.ProjectBIdeal.τ).loc Cert.ProjectBIdeal.main_arg0)
      ∧ r.2.mem ((c.tc : Thread Cert.ProjectBIdeal.nD Cert.ProjectBIdeal.τ).loc Cert.ProjectBIdeal.main_arg1) = m ((c.tc : Thread Cert.ProjectBIdeal.nD Cert.ProjectBIdeal.τ).loc Cert.ProjectBIdeal.main_arg1))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1))
      ∧ r.2.sem = fun _ => 0)

def quiescent_ProjectQ [hProjectQ : Cert.ProjectQ.Facts] : Prop :=
  ∀ (m : (ℓ : Loc Cert.ProjectQ.nD Cert.ProjectQ.τ Cert.ProjectQ.sig) → Buf (Elt Bits) ℓ) (g : Dev Cert.ProjectQ.nD → PrngReg), Pre_ProjectQ m →
    θ_run (Cert.ProjectQ.defs (F := Bits)) (onTc (τ := Cert.ProjectQ.τ) (Cert.ProjectQ.main (F := Bits))) ⟨m, fun _ => 0, g⟩ (fun r => (∀ c : Dev Cert.ProjectQ.nD,
      r.2.mem ((c.tc : Thread Cert.ProjectQ.nD Cert.ProjectQ.τ).loc Cert.ProjectQ.main_arg0) = m ((c.tc : Thread Cert.ProjectQ.nD Cert.ProjectQ.τ).loc Cert.ProjectQ.main_arg0)
      ∧ r.2.mem ((c.tc : Thread Cert.ProjectQ.nD Cert.ProjectQ.τ).loc Cert.ProjectQ.main_arg1) = m ((c.tc : Thread Cert.ProjectQ.nD Cert.ProjectQ.τ).loc Cert.ProjectQ.main_arg1))
      ∧ r.2.sem = fun _ => 0)

def quiescent_ProjectQIdeal [hProjectQIdeal : Cert.ProjectQIdeal.Facts] : Prop :=
  ∀ (m : (ℓ : Loc Cert.ProjectQIdeal.nD Cert.ProjectQIdeal.τ Cert.ProjectQIdeal.sig) → Buf (Elt Ideal) ℓ) (g : Dev Cert.ProjectQIdeal.nD → PrngReg), Pre_ProjectQIdeal m →
    θ_run (Cert.ProjectQIdeal.defs (F := Ideal)) (onTc (τ := Cert.ProjectQIdeal.τ) (Cert.ProjectQIdeal.main (F := Ideal))) ⟨m, fun _ => 0, g⟩ (fun r => (∀ c : Dev Cert.ProjectQIdeal.nD,
      r.2.mem ((c.tc : Thread Cert.ProjectQIdeal.nD Cert.ProjectQIdeal.τ).loc Cert.ProjectQIdeal.main_arg0) = m ((c.tc : Thread Cert.ProjectQIdeal.nD Cert.ProjectQIdeal.τ).loc Cert.ProjectQIdeal.main_arg0)
      ∧ r.2.mem ((c.tc : Thread Cert.ProjectQIdeal.nD Cert.ProjectQIdeal.τ).loc Cert.ProjectQIdeal.main_arg1) = m ((c.tc : Thread Cert.ProjectQIdeal.nD Cert.ProjectQIdeal.τ).loc Cert.ProjectQIdeal.main_arg1))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1))
      ∧ r.2.sem = fun _ => 0)

def quiescent_ProjectMem [hProjectMem : Cert.ProjectMem.Facts] : Prop :=
  ∀ (m : (ℓ : Loc Cert.ProjectMem.nD Cert.ProjectMem.τ Cert.ProjectMem.sig) → Buf (Elt Bits) ℓ) (g : Dev Cert.ProjectMem.nD → PrngReg), Pre_ProjectMem m →
    θ_run (Cert.ProjectMem.defs (F := Bits)) (onTc (τ := Cert.ProjectMem.τ) (Cert.ProjectMem.main (F := Bits))) ⟨m, fun _ => 0, g⟩ (fun r => (∀ c : Dev Cert.ProjectMem.nD,
      r.2.mem ((c.tc : Thread Cert.ProjectMem.nD Cert.ProjectMem.τ).loc Cert.ProjectMem.main_arg0) = m ((c.tc : Thread Cert.ProjectMem.nD Cert.ProjectMem.τ).loc Cert.ProjectMem.main_arg0)
      ∧ r.2.mem ((c.tc : Thread Cert.ProjectMem.nD Cert.ProjectMem.τ).loc Cert.ProjectMem.main_arg1) = m ((c.tc : Thread Cert.ProjectMem.nD Cert.ProjectMem.τ).loc Cert.ProjectMem.main_arg1))
      ∧ r.2.sem = fun _ => 0)

def quiescent_ProjectMemIdeal [hProjectMemIdeal : Cert.ProjectMemIdeal.Facts] : Prop :=
  ∀ (m : (ℓ : Loc Cert.ProjectMemIdeal.nD Cert.ProjectMemIdeal.τ Cert.ProjectMemIdeal.sig) → Buf (Elt Ideal) ℓ) (g : Dev Cert.ProjectMemIdeal.nD → PrngReg), Pre_ProjectMemIdeal m →
    θ_run (Cert.ProjectMemIdeal.defs (F := Ideal)) (onTc (τ := Cert.ProjectMemIdeal.τ) (Cert.ProjectMemIdeal.main (F := Ideal))) ⟨m, fun _ => 0, g⟩ (fun r => (∀ c : Dev Cert.ProjectMemIdeal.nD,
      r.2.mem ((c.tc : Thread Cert.ProjectMemIdeal.nD Cert.ProjectMemIdeal.τ).loc Cert.ProjectMemIdeal.main_arg0) = m ((c.tc : Thread Cert.ProjectMemIdeal.nD Cert.ProjectMemIdeal.τ).loc Cert.ProjectMemIdeal.main_arg0)
      ∧ r.2.mem ((c.tc : Thread Cert.ProjectMemIdeal.nD Cert.ProjectMemIdeal.τ).loc Cert.ProjectMemIdeal.main_arg1) = m ((c.tc : Thread Cert.ProjectMemIdeal.nD Cert.ProjectMemIdeal.τ).loc Cert.ProjectMemIdeal.main_arg1))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ r.2.sem = fun _ => 0)

def quiescent_ReferenceMemoryIdeal [hReferenceMemoryIdeal : Cert.ReferenceMemoryIdeal.Facts] : Prop :=
  ∀ (m : (ℓ : Loc Cert.ReferenceMemoryIdeal.nD Cert.ReferenceMemoryIdeal.τ Cert.ReferenceMemoryIdeal.sig) → Buf (Elt Ideal) ℓ) (g : Dev Cert.ReferenceMemoryIdeal.nD → PrngReg), Pre_ReferenceMemoryIdeal m →
    θ_run (Cert.ReferenceMemoryIdeal.defs (F := Ideal)) (onTc (τ := Cert.ReferenceMemoryIdeal.τ) (Cert.ReferenceMemoryIdeal.main (F := Ideal))) ⟨m, fun _ => 0, g⟩ (fun r => (∀ c : Dev Cert.ReferenceMemoryIdeal.nD,
      r.2.mem ((c.tc : Thread Cert.ReferenceMemoryIdeal.nD Cert.ReferenceMemoryIdeal.τ).loc Cert.ReferenceMemoryIdeal.main_arg0) = m ((c.tc : Thread Cert.ReferenceMemoryIdeal.nD Cert.ReferenceMemoryIdeal.τ).loc Cert.ReferenceMemoryIdeal.main_arg0)
      ∧ r.2.mem ((c.tc : Thread Cert.ReferenceMemoryIdeal.nD Cert.ReferenceMemoryIdeal.τ).loc Cert.ReferenceMemoryIdeal.main_arg1) = m ((c.tc : Thread Cert.ReferenceMemoryIdeal.nD Cert.ReferenceMemoryIdeal.τ).loc Cert.ReferenceMemoryIdeal.main_arg1))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_ProjectIn_ProjectInIdeal : Prop :=
  True

def algebraic_ProjectInIdeal_ReferenceInIdeal [hProjectInIdeal : Cert.ProjectInIdeal.Facts] [hReferenceInIdeal : Cert.ReferenceInIdeal.Facts] : Prop :=
  ∀ (m : (ℓ : Loc Cert.ProjectInIdeal.nD Cert.ProjectInIdeal.τ Cert.ProjectInIdeal.sig) → Buf (Elt Ideal) ℓ) (g : Dev Cert.ProjectInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_ProjectInIdeal m →
    (∀ c : Dev Cert.ProjectInIdeal.nD,
      m' ((c.tc : Thread Cert.ReferenceInIdeal.nD Cert.ReferenceInIdeal.τ).loc Cert.ReferenceInIdeal.main_arg0) = m ((c.tc : Thread Cert.ProjectInIdeal.nD Cert.ProjectInIdeal.τ).loc Cert.ProjectInIdeal.main_arg0)
      ∧ m' ((c.tc : Thread Cert.ReferenceInIdeal.nD Cert.ReferenceInIdeal.τ).loc Cert.ReferenceInIdeal.main_arg1) = m ((c.tc : Thread Cert.ProjectInIdeal.nD Cert.ProjectInIdeal.τ).loc Cert.ProjectInIdeal.main_arg1)) →
    ∃ (v0 : (c : Dev Cert.ProjectInIdeal.nD) → Buf (Elt Ideal) ((c.tc : Thread Cert.ProjectInIdeal.nD Cert.ProjectInIdeal.τ).loc Cert.ProjectInIdeal.main_v8)),
      θ_run (Cert.ProjectInIdeal.defs (F := Ideal)) (onTc (τ := Cert.ProjectInIdeal.τ) (Cert.ProjectInIdeal.main (F := Ideal))) ⟨m, fun _ => 0, g⟩ (fun r => ∀ c : Dev Cert.ProjectInIdeal.nD,
          r.2.mem ((c.tc : Thread Cert.ProjectInIdeal.nD Cert.ProjectInIdeal.τ).loc Cert.ProjectInIdeal.main_v8) = v0 c
          ∧ r.2.mem ((c.tc : Thread Cert.ProjectInIdeal.nD Cert.ProjectInIdeal.τ).loc Cert.ProjectInIdeal.main_arg0) = m ((c.tc : Thread Cert.ProjectInIdeal.nD Cert.ProjectInIdeal.τ).loc Cert.ProjectInIdeal.main_arg0)
          ∧ r.2.mem ((c.tc : Thread Cert.ProjectInIdeal.nD Cert.ProjectInIdeal.τ).loc Cert.ProjectInIdeal.main_arg1) = m ((c.tc : Thread Cert.ProjectInIdeal.nD Cert.ProjectInIdeal.τ).loc Cert.ProjectInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v10) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_ProjectKv_ProjectKvIdeal : Prop :=
  True

def algebraic_ProjectKvIdeal_ReferenceKvIdeal [hProjectKvIdeal : Cert.ProjectKvIdeal.Facts] [hReferenceKvIdeal : Cert.ReferenceKvIdeal.Facts] : Prop :=
  ∀ (m : (ℓ : Loc Cert.ProjectKvIdeal.nD Cert.ProjectKvIdeal.τ Cert.ProjectKvIdeal.sig) → Buf (Elt Ideal) ℓ) (g : Dev Cert.ProjectKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_ProjectKvIdeal m →
    (∀ c : Dev Cert.ProjectKvIdeal.nD,
      m' ((c.tc : Thread Cert.ReferenceKvIdeal.nD Cert.ReferenceKvIdeal.τ).loc Cert.ReferenceKvIdeal.main_arg0) = m ((c.tc : Thread Cert.ProjectKvIdeal.nD Cert.ProjectKvIdeal.τ).loc Cert.ProjectKvIdeal.main_arg0)
      ∧ m' ((c.tc : Thread Cert.ReferenceKvIdeal.nD Cert.ReferenceKvIdeal.τ).loc Cert.ReferenceKvIdeal.main_arg1) = m ((c.tc : Thread Cert.ProjectKvIdeal.nD Cert.ProjectKvIdeal.τ).loc Cert.ProjectKvIdeal.main_arg1)) →
    ∃ (v0 : (c : Dev Cert.ProjectKvIdeal.nD) → Buf (Elt Ideal) ((c.tc : Thread Cert.ProjectKvIdeal.nD Cert.ProjectKvIdeal.τ).loc Cert.ProjectKvIdeal.main_v3)),
      θ_run (Cert.ProjectKvIdeal.defs (F := Ideal)) (onTc (τ := Cert.ProjectKvIdeal.τ) (Cert.ProjectKvIdeal.main (F := Ideal))) ⟨m, fun _ => 0, g⟩ (fun r => ∀ c : Dev Cert.ProjectKvIdeal.nD,
          r.2.mem ((c.tc : Thread Cert.ProjectKvIdeal.nD Cert.ProjectKvIdeal.τ).loc Cert.ProjectKvIdeal.main_v3) = v0 c
          ∧ r.2.mem ((c.tc : Thread Cert.ProjectKvIdeal.nD Cert.ProjectKvIdeal.τ).loc Cert.ProjectKvIdeal.main_arg0) = m ((c.tc : Thread Cert.ProjectKvIdeal.nD Cert.ProjectKvIdeal.τ).loc Cert.ProjectKvIdeal.main_arg0)
          ∧ r.2.mem ((c.tc : Thread Cert.ProjectKvIdeal.nD Cert.ProjectKvIdeal.τ).loc Cert.ProjectKvIdeal.main_arg1) = m ((c.tc : Thread Cert.ProjectKvIdeal.nD Cert.ProjectKvIdeal.τ).loc Cert.ProjectKvIdeal.main_arg1))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v2) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1))

def preserves_ProjectB_ProjectBIdeal : Prop :=
  True

def algebraic_ProjectBIdeal_ReferenceBIdeal [hProjectBIdeal : Cert.ProjectBIdeal.Facts] [hReferenceBIdeal : Cert.ReferenceBIdeal.Facts] : Prop :=
  ∀ (m : (ℓ : Loc Cert.ProjectBIdeal.nD Cert.ProjectBIdeal.τ Cert.ProjectBIdeal.sig) → Buf (Elt Ideal) ℓ) (g : Dev Cert.ProjectBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_ProjectBIdeal m →
    (∀ c : Dev Cert.ProjectBIdeal.nD,
      m' ((c.tc : Thread Cert.ReferenceBIdeal.nD Cert.ReferenceBIdeal.τ).loc Cert.ReferenceBIdeal.main_arg0) = m ((c.tc : Thread Cert.ProjectBIdeal.nD Cert.ProjectBIdeal.τ).loc Cert.ProjectBIdeal.main_arg0)
      ∧ m' ((c.tc : Thread Cert.ReferenceBIdeal.nD Cert.ReferenceBIdeal.τ).loc Cert.ReferenceBIdeal.main_arg1) = m ((c.tc : Thread Cert.ProjectBIdeal.nD Cert.ProjectBIdeal.τ).loc Cert.ProjectBIdeal.main_arg1)) →
    ∃ (v0 : (c : Dev Cert.ProjectBIdeal.nD) → Buf (Elt Ideal) ((c.tc : Thread Cert.ProjectBIdeal.nD Cert.ProjectBIdeal.τ).loc Cert.ProjectBIdeal.main_v4)),
      θ_run (Cert.ProjectBIdeal.defs (F := Ideal)) (onTc (τ := Cert.ProjectBIdeal.τ) (Cert.ProjectBIdeal.main (F := Ideal))) ⟨m, fun _ => 0, g⟩ (fun r => ∀ c : Dev Cert.ProjectBIdeal.nD,
          r.2.mem ((c.tc : Thread Cert.ProjectBIdeal.nD Cert.ProjectBIdeal.τ).loc Cert.ProjectBIdeal.main_v4) = v0 c
          ∧ r.2.mem ((c.tc : Thread Cert.ProjectBIdeal.nD Cert.ProjectBIdeal.τ).loc Cert.ProjectBIdeal.main_arg0) = m ((c.tc : Thread Cert.ProjectBIdeal.nD Cert.ProjectBIdeal.τ).loc Cert.ProjectBIdeal.main_arg0)
          ∧ r.2.mem ((c.tc : Thread Cert.ProjectBIdeal.nD Cert.ProjectBIdeal.τ).loc Cert.ProjectBIdeal.main_arg1) = m ((c.tc : Thread Cert.ProjectBIdeal.nD Cert.ProjectBIdeal.τ).loc Cert.ProjectBIdeal.main_arg1))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v2) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1))

def preserves_ProjectQ_ProjectQIdeal : Prop :=
  True

def algebraic_ProjectQIdeal_ReferenceQIdeal [hProjectQIdeal : Cert.ProjectQIdeal.Facts] [hReferenceQIdeal : Cert.ReferenceQIdeal.Facts] : Prop :=
  ∀ (m : (ℓ : Loc Cert.ProjectQIdeal.nD Cert.ProjectQIdeal.τ Cert.ProjectQIdeal.sig) → Buf (Elt Ideal) ℓ) (g : Dev Cert.ProjectQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_ProjectQIdeal m →
    (∀ c : Dev Cert.ProjectQIdeal.nD,
      m' ((c.tc : Thread Cert.ReferenceQIdeal.nD Cert.ReferenceQIdeal.τ).loc Cert.ReferenceQIdeal.main_arg0) = m ((c.tc : Thread Cert.ProjectQIdeal.nD Cert.ProjectQIdeal.τ).loc Cert.ProjectQIdeal.main_arg0)
      ∧ m' ((c.tc : Thread Cert.ReferenceQIdeal.nD Cert.ReferenceQIdeal.τ).loc Cert.ReferenceQIdeal.main_arg1) = m ((c.tc : Thread Cert.ProjectQIdeal.nD Cert.ProjectQIdeal.τ).loc Cert.ProjectQIdeal.main_arg1)) →
    ∃ (v0 : (c : Dev Cert.ProjectQIdeal.nD) → Buf (Elt Ideal) ((c.tc : Thread Cert.ProjectQIdeal.nD Cert.ProjectQIdeal.τ).loc Cert.ProjectQIdeal.main_v3)),
      θ_run (Cert.ProjectQIdeal.defs (F := Ideal)) (onTc (τ := Cert.ProjectQIdeal.τ) (Cert.ProjectQIdeal.main (F := Ideal))) ⟨m, fun _ => 0, g⟩ (fun r => ∀ c : Dev Cert.ProjectQIdeal.nD,
          r.2.mem ((c.tc : Thread Cert.ProjectQIdeal.nD Cert.ProjectQIdeal.τ).loc Cert.ProjectQIdeal.main_v3) = v0 c
          ∧ r.2.mem ((c.tc : Thread Cert.ProjectQIdeal.nD Cert.ProjectQIdeal.τ).loc Cert.ProjectQIdeal.main_arg0) = m ((c.tc : Thread Cert.ProjectQIdeal.nD Cert.ProjectQIdeal.τ).loc Cert.ProjectQIdeal.main_arg0)
          ∧ r.2.mem ((c.tc : Thread Cert.ProjectQIdeal.nD Cert.ProjectQIdeal.τ).loc Cert.ProjectQIdeal.main_arg1) = m ((c.tc : Thread Cert.ProjectQIdeal.nD Cert.ProjectQIdeal.τ).loc Cert.ProjectQIdeal.main_arg1))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v1) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1))

def preserves_ProjectMem_ProjectMemIdeal : Prop :=
  True

def algebraic_ProjectMemIdeal_ReferenceMemIdeal [hProjectMemIdeal : Cert.ProjectMemIdeal.Facts] [hReferenceMemIdeal : Cert.ReferenceMemIdeal.Facts] : Prop :=
  ∀ (m : (ℓ : Loc Cert.ProjectMemIdeal.nD Cert.ProjectMemIdeal.τ Cert.ProjectMemIdeal.sig) → Buf (Elt Ideal) ℓ) (g : Dev Cert.ProjectMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_ProjectMemIdeal m →
    (∀ c : Dev Cert.ProjectMemIdeal.nD,
      m' ((c.tc : Thread Cert.ReferenceMemIdeal.nD Cert.ReferenceMemIdeal.τ).loc Cert.ReferenceMemIdeal.main_arg0) = m ((c.tc : Thread Cert.ProjectMemIdeal.nD Cert.ProjectMemIdeal.τ).loc Cert.ProjectMemIdeal.main_arg0)
      ∧ m' ((c.tc : Thread Cert.ReferenceMemIdeal.nD Cert.ReferenceMemIdeal.τ).loc Cert.ReferenceMemIdeal.main_arg1) = m ((c.tc : Thread Cert.ProjectMemIdeal.nD Cert.ProjectMemIdeal.τ).loc Cert.ProjectMemIdeal.main_arg1)) →
    ∃ (v0 : (c : Dev Cert.ProjectMemIdeal.nD) → Buf (Elt Ideal) ((c.tc : Thread Cert.ProjectMemIdeal.nD Cert.ProjectMemIdeal.τ).loc Cert.ProjectMemIdeal.main_v3)),
      θ_run (Cert.ProjectMemIdeal.defs (F := Ideal)) (onTc (τ := Cert.ProjectMemIdeal.τ) (Cert.ProjectMemIdeal.main (F := Ideal))) ⟨m, fun _ => 0, g⟩ (fun r => ∀ c : Dev Cert.ProjectMemIdeal.nD,
          r.2.mem ((c.tc : Thread Cert.ProjectMemIdeal.nD Cert.ProjectMemIdeal.τ).loc Cert.ProjectMemIdeal.main_v3) = v0 c
          ∧ r.2.mem ((c.tc : Thread Cert.ProjectMemIdeal.nD Cert.ProjectMemIdeal.τ).loc Cert.ProjectMemIdeal.main_arg0) = m ((c.tc : Thread Cert.ProjectMemIdeal.nD Cert.ProjectMemIdeal.τ).loc Cert.ProjectMemIdeal.main_arg0)
          ∧ r.2.mem ((c.tc : Thread Cert.ProjectMemIdeal.nD Cert.ProjectMemIdeal.τ).loc Cert.ProjectMemIdeal.main_arg1) = m ((c.tc : Thread Cert.ProjectMemIdeal.nD Cert.ProjectMemIdeal.τ).loc Cert.ProjectMemIdeal.main_arg1))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v2) = v0 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1))

def preserves_Norm_NormIdeal : Prop :=
  True

def algebraic_NormIdeal_ReferenceNormIdeal [hNormIdeal : Cert.NormIdeal.Facts] [hReferenceNormIdeal : Cert.ReferenceNormIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_NormIdeal m →
    (∀ c : Dev Cert.NormIdeal.nD,
      m' ((c.tc : Thread Cert.ReferenceNormIdeal.nD Cert.ReferenceNormIdeal.τ).loc Cert.ReferenceNormIdeal.main_arg0) = m ((c.tc : Thread Cert.NormIdeal.nD Cert.NormIdeal.τ).loc Cert.NormIdeal.main_arg0)
      ∧ m' ((c.tc : Thread Cert.ReferenceNormIdeal.nD Cert.ReferenceNormIdeal.τ).loc Cert.ReferenceNormIdeal.main_arg1) = m ((c.tc : Thread Cert.NormIdeal.nD Cert.NormIdeal.τ).loc Cert.NormIdeal.main_arg1)
      ∧ m' ((c.tc : Thread Cert.ReferenceNormIdeal.nD Cert.ReferenceNormIdeal.τ).loc Cert.ReferenceNormIdeal.main_arg2) = m ((c.tc : Thread Cert.NormIdeal.nD Cert.NormIdeal.τ).loc Cert.NormIdeal.main_arg2)
      ∧ m' ((c.tc : Thread Cert.ReferenceNormIdeal.nD Cert.ReferenceNormIdeal.τ).loc Cert.ReferenceNormIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v8_0)) (v1 : (c : Dev Cert.NormIdeal.nD) → Buf (Elt Ideal) ((c.tc : Thread Cert.NormIdeal.nD Cert.NormIdeal.τ).loc Cert.NormIdeal.main_v8_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v8_0) = v0 c
          ∧ r.2.mem ((c.tc : Thread Cert.NormIdeal.nD Cert.NormIdeal.τ).loc Cert.NormIdeal.main_v8_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v31) = v0 c
          ∧ r.2.mem ((c.tc : Thread Cert.ReferenceNormIdeal.nD Cert.ReferenceNormIdeal.τ).loc Cert.ReferenceNormIdeal.main_v32) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_Mix_MixIdeal : Prop :=
  IdealRules.bf16_pair.BufferStatement Cert.MixIdeal.S131072x2x128 Cert.MixIdeal.S131072x1x128
  ∧ IdealRules.bf16_pair.BufferStatement Cert.MixIdeal.S1024x2x128 Cert.MixIdeal.S1024x1x128
  ∧ IdealRules.bf16_pair.Statement Cert.MixIdeal.S256x2x128 Cert.MixIdeal.S256x1x128
  ∧ IdealRules.bf16_pack.Statement Cert.MixIdeal.S256x128

def algebraic_MixIdeal_ReferenceMixIdeal [hMixIdeal : Cert.MixIdeal.Facts] [hReferenceMixIdeal : Cert.ReferenceMixIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_MixIdeal m →
    (∀ c : Dev Cert.MixIdeal.nD,
      m' ((c.tc : Thread Cert.ReferenceMixIdeal.nD Cert.ReferenceMixIdeal.τ).loc Cert.ReferenceMixIdeal.main_arg0) = m ((c.tc : Thread Cert.MixIdeal.nD Cert.MixIdeal.τ).loc Cert.MixIdeal.main_arg0)
      ∧ m' ((c.tc : Thread Cert.ReferenceMixIdeal.nD Cert.ReferenceMixIdeal.τ).loc Cert.ReferenceMixIdeal.main_arg1) = m ((c.tc : Thread Cert.MixIdeal.nD Cert.MixIdeal.τ).loc Cert.MixIdeal.main_arg1)
      ∧ m' ((c.tc : Thread Cert.ReferenceMixIdeal.nD Cert.ReferenceMixIdeal.τ).loc Cert.ReferenceMixIdeal.main_arg2) = m ((c.tc : Thread Cert.MixIdeal.nD Cert.MixIdeal.τ).loc Cert.MixIdeal.main_arg2)
      ∧ m' ((c.tc : Thread Cert.ReferenceMixIdeal.nD Cert.ReferenceMixIdeal.τ).loc Cert.ReferenceMixIdeal.main_arg3) = m ((c.tc : Thread Cert.MixIdeal.nD Cert.MixIdeal.τ).loc Cert.MixIdeal.main_arg3)
      ∧ m' ((c.tc : Thread Cert.ReferenceMixIdeal.nD Cert.ReferenceMixIdeal.τ).loc Cert.ReferenceMixIdeal.main_arg4) = m ((c.tc : Thread Cert.MixIdeal.nD Cert.MixIdeal.τ).loc Cert.MixIdeal.main_arg4)
      ∧ m' ((c.tc : Thread Cert.ReferenceMixIdeal.nD Cert.ReferenceMixIdeal.τ).loc Cert.ReferenceMixIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v13_0)) (v1 : (c : Dev Cert.MixIdeal.nD) → Buf (Elt Ideal) ((c.tc : Thread Cert.MixIdeal.nD Cert.MixIdeal.τ).loc Cert.MixIdeal.main_v13_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v13_0) = v0 c
          ∧ r.2.mem ((c.tc : Thread Cert.MixIdeal.nD Cert.MixIdeal.τ).loc Cert.MixIdeal.main_v13_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v34) = v0 c
          ∧ r.2.mem ((c.tc : Thread Cert.ReferenceMixIdeal.nD Cert.ReferenceMixIdeal.τ).loc Cert.ReferenceMixIdeal.main_v35) = v1 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5))

def preserves_Memory_MemoryIdeal : Prop :=
  True

def algebraic_MemoryIdeal_ReferenceMemoryIdeal [hMemoryIdeal : Cert.MemoryIdeal.Facts] [hReferenceMemoryIdeal : Cert.ReferenceMemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.ReferenceMemoryIdeal.nD Cert.ReferenceMemoryIdeal.τ Cert.ReferenceMemoryIdeal.sig) → Buf (Elt Ideal) ℓ) (g' : Dev Cert.ReferenceMemoryIdeal.nD → PrngReg), Pre_MemoryIdeal m →
    (∀ c : Dev Cert.MemoryIdeal.nD,
      m' ((c.tc : Thread Cert.ReferenceMemoryIdeal.nD Cert.ReferenceMemoryIdeal.τ).loc Cert.ReferenceMemoryIdeal.main_arg0) = m ((c.tc : Thread Cert.MemoryIdeal.nD Cert.MemoryIdeal.τ).loc Cert.MemoryIdeal.main_arg0)
      ∧ m' ((c.tc : Thread Cert.ReferenceMemoryIdeal.nD Cert.ReferenceMemoryIdeal.τ).loc Cert.ReferenceMemoryIdeal.main_arg1) = m ((c.tc : Thread Cert.MemoryIdeal.nD Cert.MemoryIdeal.τ).loc Cert.MemoryIdeal.main_arg1)) →
    ∃ (v0 : (c : Dev Cert.MemoryIdeal.nD) → Buf (Elt Ideal) ((c.tc : Thread Cert.MemoryIdeal.nD Cert.MemoryIdeal.τ).loc Cert.MemoryIdeal.main_v2)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v2) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ θ_run (Cert.ReferenceMemoryIdeal.defs (F := Ideal)) (onTc (τ := Cert.ReferenceMemoryIdeal.τ) (Cert.ReferenceMemoryIdeal.main (F := Ideal))) ⟨m', fun _ => 0, g'⟩ (fun r => ∀ c : Dev Cert.ReferenceMemoryIdeal.nD,
          r.2.mem ((c.tc : Thread Cert.ReferenceMemoryIdeal.nD Cert.ReferenceMemoryIdeal.τ).loc Cert.ReferenceMemoryIdeal.main_v23) = v0 c
          ∧ r.2.mem ((c.tc : Thread Cert.ReferenceMemoryIdeal.nD Cert.ReferenceMemoryIdeal.τ).loc Cert.ReferenceMemoryIdeal.main_arg0) = m' ((c.tc : Thread Cert.ReferenceMemoryIdeal.nD Cert.ReferenceMemoryIdeal.τ).loc Cert.ReferenceMemoryIdeal.main_arg0)
          ∧ r.2.mem ((c.tc : Thread Cert.ReferenceMemoryIdeal.nD Cert.ReferenceMemoryIdeal.τ).loc Cert.ReferenceMemoryIdeal.main_arg1) = m' ((c.tc : Thread Cert.ReferenceMemoryIdeal.nD Cert.ReferenceMemoryIdeal.τ).loc Cert.ReferenceMemoryIdeal.main_arg1))

def Claim : Prop :=
  ∃ (hKernel : Cert.Kernel.Facts) (hKernelIdeal : Cert.KernelIdeal.Facts) (hReferenceIdeal : Cert.ReferenceIdeal.Facts) (hProjectIn : Cert.ProjectIn.Facts) (hProjectInIdeal : Cert.ProjectInIdeal.Facts) (hReferenceInIdeal : Cert.ReferenceInIdeal.Facts) (hProjectKv : Cert.ProjectKv.Facts) (hProjectKvIdeal : Cert.ProjectKvIdeal.Facts) (hReferenceKvIdeal : Cert.ReferenceKvIdeal.Facts) (hProjectB : Cert.ProjectB.Facts) (hProjectBIdeal : Cert.ProjectBIdeal.Facts) (hReferenceBIdeal : Cert.ReferenceBIdeal.Facts) (hProjectQ : Cert.ProjectQ.Facts) (hProjectQIdeal : Cert.ProjectQIdeal.Facts) (hReferenceQIdeal : Cert.ReferenceQIdeal.Facts) (hProjectMem : Cert.ProjectMem.Facts) (hProjectMemIdeal : Cert.ProjectMemIdeal.Facts) (hReferenceMemIdeal : Cert.ReferenceMemIdeal.Facts) (hNorm : Cert.Norm.Facts) (hNormIdeal : Cert.NormIdeal.Facts) (hReferenceNormIdeal : Cert.ReferenceNormIdeal.Facts) (hMix : Cert.Mix.Facts) (hMixIdeal : Cert.MixIdeal.Facts) (hReferenceMixIdeal : Cert.ReferenceMixIdeal.Facts) (hMemory : Cert.Memory.Facts) (hMemoryIdeal : Cert.MemoryIdeal.Facts) (hReferenceMemoryIdeal : Cert.ReferenceMemoryIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_ProjectIn (hProjectIn := hProjectIn)
    ∧ quiescent_ProjectInIdeal (hProjectInIdeal := hProjectInIdeal)
    ∧ quiescent_ReferenceInIdeal (hReferenceInIdeal := hReferenceInIdeal)
    ∧ quiescent_ProjectKv (hProjectKv := hProjectKv)
    ∧ quiescent_ProjectKvIdeal (hProjectKvIdeal := hProjectKvIdeal)
    ∧ quiescent_ReferenceKvIdeal (hReferenceKvIdeal := hReferenceKvIdeal)
    ∧ quiescent_ProjectB (hProjectB := hProjectB)
    ∧ quiescent_ProjectBIdeal (hProjectBIdeal := hProjectBIdeal)
    ∧ quiescent_ReferenceBIdeal (hReferenceBIdeal := hReferenceBIdeal)
    ∧ quiescent_ProjectQ (hProjectQ := hProjectQ)
    ∧ quiescent_ProjectQIdeal (hProjectQIdeal := hProjectQIdeal)
    ∧ quiescent_ReferenceQIdeal (hReferenceQIdeal := hReferenceQIdeal)
    ∧ quiescent_ProjectMem (hProjectMem := hProjectMem)
    ∧ quiescent_ProjectMemIdeal (hProjectMemIdeal := hProjectMemIdeal)
    ∧ quiescent_ReferenceMemIdeal (hReferenceMemIdeal := hReferenceMemIdeal)
    ∧ quiescent_Norm (hNorm := hNorm)
    ∧ quiescent_NormIdeal (hNormIdeal := hNormIdeal)
    ∧ quiescent_ReferenceNormIdeal (hReferenceNormIdeal := hReferenceNormIdeal)
    ∧ quiescent_Mix (hMix := hMix)
    ∧ quiescent_MixIdeal (hMixIdeal := hMixIdeal)
    ∧ quiescent_ReferenceMixIdeal (hReferenceMixIdeal := hReferenceMixIdeal)
    ∧ quiescent_Memory (hMemory := hMemory)
    ∧ quiescent_MemoryIdeal (hMemoryIdeal := hMemoryIdeal)
    ∧ quiescent_ReferenceMemoryIdeal (hReferenceMemoryIdeal := hReferenceMemoryIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_ProjectIn_ProjectInIdeal
    ∧ algebraic_ProjectInIdeal_ReferenceInIdeal (hProjectInIdeal := hProjectInIdeal) (hReferenceInIdeal := hReferenceInIdeal)
    ∧ preserves_ProjectKv_ProjectKvIdeal
    ∧ algebraic_ProjectKvIdeal_ReferenceKvIdeal (hProjectKvIdeal := hProjectKvIdeal) (hReferenceKvIdeal := hReferenceKvIdeal)
    ∧ preserves_ProjectB_ProjectBIdeal
    ∧ algebraic_ProjectBIdeal_ReferenceBIdeal (hProjectBIdeal := hProjectBIdeal) (hReferenceBIdeal := hReferenceBIdeal)
    ∧ preserves_ProjectQ_ProjectQIdeal
    ∧ algebraic_ProjectQIdeal_ReferenceQIdeal (hProjectQIdeal := hProjectQIdeal) (hReferenceQIdeal := hReferenceQIdeal)
    ∧ preserves_ProjectMem_ProjectMemIdeal
    ∧ algebraic_ProjectMemIdeal_ReferenceMemIdeal (hProjectMemIdeal := hProjectMemIdeal) (hReferenceMemIdeal := hReferenceMemIdeal)
    ∧ preserves_Norm_NormIdeal
    ∧ algebraic_NormIdeal_ReferenceNormIdeal (hNormIdeal := hNormIdeal) (hReferenceNormIdeal := hReferenceNormIdeal)
    ∧ preserves_Mix_MixIdeal
    ∧ algebraic_MixIdeal_ReferenceMixIdeal (hMixIdeal := hMixIdeal) (hReferenceMixIdeal := hReferenceMixIdeal)
    ∧ preserves_Memory_MemoryIdeal
    ∧ algebraic_MemoryIdeal_ReferenceMemoryIdeal (hMemoryIdeal := hMemoryIdeal) (hReferenceMemoryIdeal := hReferenceMemoryIdeal)
-- ==== Pre_finite_scores.lean ====
abbrev S8x4096x1024 : Shape := ⟨3, ![8, 4096, 1024]⟩
abbrev S8x4096x1536 : Shape := ⟨3, ![8, 4096, 1536]⟩
abbrev S8x4096x768 : Shape := ⟨3, ![8, 4096, 768]⟩
abbrev S_ : Shape := ⟨0, ![]⟩

class Facts : Prop where
  slices_S8x4096x1024_S8x4096x768_0_0_0 : S8x4096x1024.Slices ![0, 0, 0] S8x4096x768
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  slices_S8x4096x1536_S8x4096x768_0_0_0 : S8x4096x1536.Slices ![0, 0, 0] S8x4096x768

variable [Facts]

def fn {F : FTy → Type} [FloatOps F] (main_arg0 : FVec F S8x4096x1024 .f32) (main_arg1 : FVec F S8x4096x1536 .f32) : IVec S_ 1 :=
  let main_v0 : FVec F S8x4096x768 .f32 := (extractStridedSlice S8x4096x768 ![0, 0, 0] · slices_S8x4096x1024_S8x4096x768_0_0_0) main_arg0
  let main_v1 : FVec F S8x4096x768 .f32 := Host.absf main_v0
  let main_cst : FVec F S_ .f32 := constant S_ .f32 0x7F800000#32
  let main_v2 : FVec F S8x4096x768 .f32 := broadcastInDim S8x4096x768 ![] bcast_S_S8x4096x768 main_cst
  let main_v3 : IVec S8x4096x768 1 := cmpf .olt main_v1 main_v2
  let main_c : IVec S_ 1 := constantI S_ 1 1#1
  let main_v4 : IVec S_ 1 := (fun x v => Host.reduce IntOp.andi x v reducesTo_S8x4096x768_S_d0_1_2 h_S_) main_v3 main_c
  let main_v5 : FVec F S8x4096x768 .f32 := (extractStridedSlice S8x4096x768 ![0, 0, 0] · slices_S8x4096x1536_S8x4096x768_0_0_0) main_arg1
  let main_v6 : FVec F S8x4096x768 .f32 := Host.absf main_v5
  let main_cst_0 : FVec F S_ .f32 := constant S_ .f32 0x7F800000#32
  let main_v7 : FVec F S8x4096x768 .f32 := broadcastInDim S8x4096x768 ![] bcast_S_S8x4096x768 main_cst_0
  let main_v8 : IVec S8x4096x768 1 := cmpf .olt main_v6 main_v7
  let main_c_1 : IVec S_ 1 := constantI S_ 1 1#1
  let main_v9 : IVec S_ 1 := (fun x v => Host.reduce IntOp.andi x v reducesTo_S8x4096x768_S_d0_1_2 h_S_) main_v8 main_c_1
  let main_v10 : IVec S_ 1 := andi main_v4 main_v9
  main_v10
-- ==== Kernel.lean ====
abbrev S8x4096x1024 : Shape := ⟨3, ![8, 4096, 1024]⟩
abbrev S8x4096x1536 : Shape := ⟨3, ![8, 4096, 1536]⟩
abbrev S32768x1024 : Shape := ⟨2, ![32768, 1024]⟩
abbrev S32768x1536 : Shape := ⟨2, ![32768, 1536]⟩
abbrev S32768x768 : Shape := ⟨2, ![32768, 768]⟩
abbrev S256x128 : Shape := ⟨2, ![256, 128]⟩
abbrev S4096x128 : Shape := ⟨2, ![4096, 128]⟩
abbrev S256x256 : Shape := ⟨2, ![256, 256]⟩
abbrev S256x1 : Shape := ⟨2, ![256, 1]⟩

abbrev nBuf : Space → Nat
  | .hbm => 6
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1536, .f32⟩
  | .hbm, ⟨2, _⟩ => ⟨S32768x1024, .f32⟩
  | .hbm, ⟨3, _⟩ => ⟨S32768x1536, .f32⟩
  | .hbm, ⟨4, _⟩ => ⟨S32768x1536, .bf16⟩
  | .hbm, ⟨5, _⟩ => ⟨S32768x768, .f32⟩
  | .local _ .vmem, ⟨0, _⟩ => ⟨S256x128, .f32⟩
  | .local _ .vmem, ⟨1, _⟩ => ⟨S256x128, .f32⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x256, .f32⟩
  | .local _ .vmem, ⟨13, _⟩ => ⟨S256x256, .f32⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S256x256, .f32⟩
  | .local _ .vmem, ⟨19, _⟩ => ⟨S256x256, .f32⟩
  | .local _ .vmem, ⟨20, _⟩ => ⟨S256x256, .bf16⟩
  | .local _ .vmem, ⟨21, _⟩ => ⟨S256x256, .bf16⟩
  | .local _ .vmem, ⟨22, _⟩ => ⟨S256x256, .bf16⟩
  | .local _ .vmem, ⟨23, _⟩ => ⟨S256x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_scratch12 : Ref sig .tc := ⟨.vmem, 20, rfl⟩
abbrev cc0_scratch13 : Ref sig .tc := ⟨.vmem, 21, rfl⟩
abbrev cc0_scratch14 : Ref sig .tc := ⟨.vmem, 22, rfl⟩
abbrev cc0_scratch15 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 6, 16], ![false, false, false]⟩

def k0_mult1 (i : grid0.Coords) : BitVec 32 :=
  let arg2 : BitVec 32 := BitVec.ofNat 32 (i 2).val
  let c256_i32 : BitVec 32 := 256#32
  let v35 : BitVec 32 := Scalar.muli arg2 c256_i32
  v35
def k0_off1 (i : grid0.Coords) : Fin 2 → Nat :=
  let arg2 : BitVec 32 := BitVec.ofNat 32 (i 2).val
  let c256_i32 : BitVec 32 := 256#32
  let v35 : BitVec 32 := Scalar.muli arg2 c256_i32
  let v36 : BitVec 32 := v35
  let v37 : Index := Scalar.indexCast v36
  let c0_15 : Index := 0#32
  ![v37.toNat, 0]
@[reducible] def k0_t1_loop (i : grid0.Coords) : Scf.Loop 32 :=
  let c0_i32_45 : BitVec 32 := 0#32
  let arg2 : BitVec 32 := BitVec.ofNat 32 (i 2).val
  let c0_i32 : BitVec 32 := 0#32
  let v101 : BitVec 1 := Scalar.cmpi .sgt arg2 c0_i32
  let v102 : BitVec 32 := Scalar.extui v101
  let c0_i32_40 : BitVec 32 := 0#32
  let v103 : BitVec 1 := Scalar.cmpi .slt arg2 c0_i32_40
  let v104 : BitVec 32 := Scalar.extui v103
  let v105 : BitVec 32 := Scalar.subi v102 v104
  let c2_i32 : BitVec 32 := 2#32
  let c0_i32_41 : BitVec 32 := 0#32
  let v106 : BitVec 1 := Scalar.cmpi .sgt c2_i32 c0_i32_41
  let v107 : BitVec 32 := Scalar.extui v106
  let c0_i32_42 : BitVec 32 := 0#32
  let v108 : BitVec 1 := Scalar.cmpi .slt c2_i32 c0_i32_42
  let v109 : BitVec 32 := Scalar.extui v108
  let v110 : BitVec 32 := Scalar.subi v107 v109
  let v111 : BitVec 1 := Scalar.cmpi .ne v105 v110
  let v112 : BitVec 32 := Scalar.remsi arg2 c2_i32
  let c0_i32_43 : BitVec 32 := 0#32
  let v113 : BitVec 1 := Scalar.cmpi .ne v112 c0_i32_43
  let v114 : BitVec 1 := Scalar.andi v111 v113
  let v100 : BitVec 32 := Scalar.divsi arg2 c2_i32
  let c1_i32 : BitVec 32 := 1#32
  let v115 : BitVec 32 := Scalar.subi v100 c1_i32
  let v116 : BitVec 32 := Scalar.select v114 v115 v100
  let v117 : BitVec 32 := Scalar.subi v116 c0_i32_45
  let c1_i32_46 : BitVec 32 := 1#32
  let v119 : BitVec 32 := Scalar.divsi v117 c1_i32_46
  let v120 : BitVec 32 := Scalar.muli v119 c1_i32_46
  let v121 : BitVec 32 := Scalar.addi c0_i32_45 v120
  let c1_i32_47 : BitVec 32 := 1#32
  ⟨c0_i32_45, v121, c1_i32_47⟩
def k0_mult2 (i : grid0.Coords) (k0_t1 : Fin (k0_t1_loop i).trips) : BitVec 32 :=
  let arg2 : BitVec 32 := BitVec.ofNat 32 (i 2).val
  let c2_i32_71 : BitVec 32 := 2#32
  let c0_i32_45 : BitVec 32 := 0#32
  let c1_i32_47 : BitVec 32 := 1#32
  let arg23 : BitVec 32 := Scf.iv c0_i32_45 c1_i32_47 k0_t1
  let v152 : BitVec 32 := Scalar.muli c2_i32_71 arg23
  let v153 : BitVec 32 := Scalar.subi arg2 v152
  let c1_i32_72 : BitVec 32 := 1#32
  let v154 : BitVec 32 := Scalar.subi v153 c1_i32_72
  let c256_i32_73 : BitVec 32 := 256#32
  let v155 : BitVec 32 := Scalar.muli v154 c256_i32_73
  v155
def k0_off2 (i : grid0.Coords) (k0_t1 : Fin (k0_t1_loop i).trips) (c1_i32_72 : BitVec 32) : Fin 2 → Nat :=
  let arg2 : BitVec 32 := BitVec.ofNat 32 (i 2).val
  let c2_i32_71 : BitVec 32 := 2#32
  let c0_i32_45 : BitVec 32 := 0#32
  let c1_i32_47 : BitVec 32 := 1#32
  let arg23 : BitVec 32 := Scf.iv c0_i32_45 c1_i32_47 k0_t1
  let v152 : BitVec 32 := Scalar.muli c2_i32_71 arg23
  let v153 : BitVec 32 := Scalar.subi arg2 v152
  let v154 : BitVec 32 := Scalar.subi v153 c1_i32_72
  let c256_i32_73 : BitVec 32 := 256#32
  let v155 : BitVec 32 := Scalar.muli v154 c256_i32_73
  let v156 : BitVec 32 := v155
  let v157 : Index := Scalar.indexCast v156
  let c0_74 : Index := 0#32
  ![v157.toNat, 0]
def k0_mult3 (i : grid0.Coords) (k0_t1 : Fin (k0_t1_loop i).trips) : BitVec 32 :=
  let arg2 : BitVec 32 := BitVec.ofNat 32 (i 2).val
  let c2_i32_71 : BitVec 32 := 2#32
  let c0_i32_45 : BitVec 32 := 0#32
  let c1_i32_47 : BitVec 32 := 1#32
  let arg23 : BitVec 32 := Scf.iv c0_i32_45 c1_i32_47 k0_t1
  let v152 : BitVec 32 := Scalar.muli c2_i32_71 arg23
  let v153 : BitVec 32 := Scalar.subi arg2 v152
  let c256_i32_95 : BitVec 32 := 256#32
  let v214 : BitVec 32 := Scalar.muli v153 c256_i32_95
  v214
def k0_off3 (i : grid0.Coords) (k0_t1 : Fin (k0_t1_loop i).trips) : Fin 2 → Nat :=
  let arg2 : BitVec 32 := BitVec.ofNat 32 (i 2).val
  let c2_i32_71 : BitVec 32 := 2#32
  let c0_i32_45 : BitVec 32 := 0#32
  let c1_i32_47 : BitVec 32 := 1#32
  let arg23 : BitVec 32 := Scf.iv c0_i32_45 c1_i32_47 k0_t1
  let v152 : BitVec 32 := Scalar.muli c2_i32_71 arg23
  let v153 : BitVec 32 := Scalar.subi arg2 v152
  let c256_i32_95 : BitVec 32 := 256#32
  let v214 : BitVec 32 := Scalar.muli v153 c256_i32_95
  let v215 : BitVec 32 := v214
  let v216 : Index := Scalar.indexCast v215
  let c0_96 : Index := 0#32
  ![v216.toNat, 0]
def k0_mult4 (i : grid0.Coords) (k0_t1 : Fin (k0_t1_loop i).trips) : BitVec 32 :=
  let arg2 : BitVec 32 := BitVec.ofNat 32 (i 2).val
  let c2_i32_71 : BitVec 32 := 2#32
  let c0_i32_45 : BitVec 32 := 0#32
  let c1_i32_47 : BitVec 32 := 1#32
  let arg23 : BitVec 32 := Scf.iv c0_i32_45 c1_i32_47 k0_t1
  let v152 : BitVec 32 := Scalar.muli c2_i32_71 arg23
  let v153 : BitVec 32 := Scalar.subi arg2 v152
  let c2_i32_131 : BitVec 32 := 2#32
  let v281 : BitVec 32 := Scalar.subi v153 c2_i32_131
  let c256_i32_132 : BitVec 32 := 256#32
  let v282 : BitVec 32 := Scalar.muli v281 c256_i32_132
  v282
def k0_mult5 (i : grid0.Coords) (k0_t1 : Fin (k0_t1_loop i).trips) : BitVec 32 :=
  let arg2 : BitVec 32 := BitVec.ofNat 32 (i 2).val
  let c2_i32_71 : BitVec 32 := 2#32
  let c0_i32_45 : BitVec 32 := 0#32
  let c1_i32_47 : BitVec 32 := 1#32
  let arg23 : BitVec 32 := Scf.iv c0_i32_45 c1_i32_47 k0_t1
  let v152 : BitVec 32 := Scalar.muli c2_i32_71 arg23
  let v153 : BitVec 32 := Scalar.subi arg2 v152
  let c1_i32_154 : BitVec 32 := 1#32
  let v341 : BitVec 32 := Scalar.subi v153 c1_i32_154
  let c256_i32_155 : BitVec 32 := 256#32
  let v342 : BitVec 32 := Scalar.muli v341 c256_i32_155
  v342
@[reducible] def k0_t2_loop (i : grid0.Coords) : Scf.Loop 32 :=
  let c0_i32_45 : BitVec 32 := 0#32
  let arg2 : BitVec 32 := BitVec.ofNat 32 (i 2).val
  let c0_i32 : BitVec 32 := 0#32
  let v101 : BitVec 1 := Scalar.cmpi .sgt arg2 c0_i32
  let v102 : BitVec 32 := Scalar.extui v101
  let c0_i32_40 : BitVec 32 := 0#32
  let v103 : BitVec 1 := Scalar.cmpi .slt arg2 c0_i32_40
  let v104 : BitVec 32 := Scalar.extui v103
  let v105 : BitVec 32 := Scalar.subi v102 v104
  let c2_i32 : BitVec 32 := 2#32
  let c0_i32_41 : BitVec 32 := 0#32
  let v106 : BitVec 1 := Scalar.cmpi .sgt c2_i32 c0_i32_41
  let v107 : BitVec 32 := Scalar.extui v106
  let c0_i32_42 : BitVec 32 := 0#32
  let v108 : BitVec 1 := Scalar.cmpi .slt c2_i32 c0_i32_42
  let v109 : BitVec 32 := Scalar.extui v108
  let v110 : BitVec 32 := Scalar.subi v107 v109
  let v111 : BitVec 1 := Scalar.cmpi .ne v105 v110
  let v112 : BitVec 32 := Scalar.remsi arg2 c2_i32
  let c0_i32_43 : BitVec 32 := 0#32
  let v113 : BitVec 1 := Scalar.cmpi .ne v112 c0_i32_43
  let v114 : BitVec 1 := Scalar.andi v111 v113
  let v100 : BitVec 32 := Scalar.divsi arg2 c2_i32
  let c1_i32 : BitVec 32 := 1#32
  let v115 : BitVec 32 := Scalar.subi v100 c1_i32
  let v116 : BitVec 32 := Scalar.select v114 v115 v100
  let v117 : BitVec 32 := Scalar.subi v116 c0_i32_45
  let c1_i32_46 : BitVec 32 := 1#32
  let v119 : BitVec 32 := Scalar.divsi v117 c1_i32_46
  let v120 : BitVec 32 := Scalar.muli v119 c1_i32_46
  let v121 : BitVec 32 := Scalar.addi c0_i32_45 v120
  let v118 : BitVec 32 := Scalar.addi c0_i32_45 v117
  let c1_i32_48 : BitVec 32 := 1#32
  ⟨v121, v118, c1_i32_48⟩
def k0_mult6 (i : grid0.Coords) (k0_t2 : Fin (k0_t2_loop i).trips) : BitVec 32 :=
  let arg2 : BitVec 32 := BitVec.ofNat 32 (i 2).val
  let c2_i32_71 : BitVec 32 := 2#32
  let c0_i32_45 : BitVec 32 := 0#32
  let c0_i32 : BitVec 32 := 0#32
  let v101 : BitVec 1 := Scalar.cmpi .sgt arg2 c0_i32
  let v102 : BitVec 32 := Scalar.extui v101
  let c0_i32_40 : BitVec 32 := 0#32
  let v103 : BitVec 1 := Scalar.cmpi .slt arg2 c0_i32_40
  let v104 : BitVec 32 := Scalar.extui v103
  let v105 : BitVec 32 := Scalar.subi v102 v104
  let c2_i32 : BitVec 32 := 2#32
  let c0_i32_41 : BitVec 32 := 0#32
  let v106 : BitVec 1 := Scalar.cmpi .sgt c2_i32 c0_i32_41
  let v107 : BitVec 32 := Scalar.extui v106
  let c0_i32_42 : BitVec 32 := 0#32
  let v108 : BitVec 1 := Scalar.cmpi .slt c2_i32 c0_i32_42
  let v109 : BitVec 32 := Scalar.extui v108
  let v110 : BitVec 32 := Scalar.subi v107 v109
  let v111 : BitVec 1 := Scalar.cmpi .ne v105 v110
  let v112 : BitVec 32 := Scalar.remsi arg2 c2_i32
  let c0_i32_43 : BitVec 32 := 0#32
  let v113 : BitVec 1 := Scalar.cmpi .ne v112 c0_i32_43
  let v114 : BitVec 1 := Scalar.andi v111 v113
  let v100 : BitVec 32 := Scalar.divsi arg2 c2_i32
  let c1_i32 : BitVec 32 := 1#32
  let v115 : BitVec 32 := Scalar.subi v100 c1_i32
  let v116 : BitVec 32 := Scalar.select v114 v115 v100
  let v117 : BitVec 32 := Scalar.subi v116 c0_i32_45
  let c1_i32_46 : BitVec 32 := 1#32
  let v119 : BitVec 32 := Scalar.divsi v117 c1_i32_46
  let v120 : BitVec 32 := Scalar.muli v119 c1_i32_46
  let v121 : BitVec 32 := Scalar.addi c0_i32_45 v120
  let c1_i32_48 : BitVec 32 := 1#32
  let arg23 : BitVec 32 := Scf.iv v121 c1_i32_48 k0_t2
  let v152 : BitVec 32 := Scalar.muli c2_i32_71 arg23
  let v153 : BitVec 32 := Scalar.subi arg2 v152
  let c1_i32_72 : BitVec 32 := 1#32
  let v154 : BitVec 32 := Scalar.subi v153 c1_i32_72
  let c256_i32_73 : BitVec 32 := 256#32
  let v155 : BitVec 32 := Scalar.muli v154 c256_i32_73
  v155
def k0_off4 (i : grid0.Coords) (k0_t2 : Fin (k0_t2_loop i).trips) (c1_i32_72 : BitVec 32) : Fin 2 → Nat :=
  let arg2 : BitVec 32 := BitVec.ofNat 32 (i 2).val
  let c2_i32_71 : BitVec 32 := 2#32
  let c0_i32_45 : BitVec 32 := 0#32
  let c0_i32 : BitVec 32 := 0#32
  let v101 : BitVec 1 := Scalar.cmpi .sgt arg2 c0_i32
  let v102 : BitVec 32 := Scalar.extui v101
  let c0_i32_40 : BitVec 32 := 0#32
  let v103 : BitVec 1 := Scalar.cmpi .slt arg2 c0_i32_40
  let v104 : BitVec 32 := Scalar.extui v103
  let v105 : BitVec 32 := Scalar.subi v102 v104
  let c2_i32 : BitVec 32 := 2#32
  let c0_i32_41 : BitVec 32 := 0#32
  let v106 : BitVec 1 := Scalar.cmpi .sgt c2_i32 c0_i32_41
  let v107 : BitVec 32 := Scalar.extui v106
  let c0_i32_42 : BitVec 32 := 0#32
  let v108 : BitVec 1 := Scalar.cmpi .slt c2_i32 c0_i32_42
  let v109 : BitVec 32 := Scalar.extui v108
  let v110 : BitVec 32 := Scalar.subi v107 v109
  let v111 : BitVec 1 := Scalar.cmpi .ne v105 v110
  let v112 : BitVec 32 := Scalar.remsi arg2 c2_i32
  let c0_i32_43 : BitVec 32 := 0#32
  let v113 : BitVec 1 := Scalar.cmpi .ne v112 c0_i32_43
  let v114 : BitVec 1 := Scalar.andi v111 v113
  let v100 : BitVec 32 := Scalar.divsi arg2 c2_i32
  let c1_i32 : BitVec 32 := 1#32
  let v115 : BitVec 32 := Scalar.subi v100 c1_i32
  let v116 : BitVec 32 := Scalar.select v114 v115 v100
  let v117 : BitVec 32 := Scalar.subi v116 c0_i32_45
  let c1_i32_46 : BitVec 32 := 1#32
  let v119 : BitVec 32 := Scalar.divsi v117 c1_i32_46
  let v120 : BitVec 32 := Scalar.muli v119 c1_i32_46
  let v121 : BitVec 32 := Scalar.addi c0_i32_45 v120
  let c1_i32_48 : BitVec 32 := 1#32
  let arg23 : BitVec 32 := Scf.iv v121 c1_i32_48 k0_t2
  let v152 : BitVec 32 := Scalar.muli c2_i32_71 arg23
  let v153 : BitVec 32 := Scalar.subi arg2 v152
  let v154 : BitVec 32 := Scalar.subi v153 c1_i32_72
  let c256_i32_73 : BitVec 32 := 256#32
  let v155 : BitVec 32 := Scalar.muli v154 c256_i32_73
  let v156 : BitVec 32 := v155
  let v157 : Index := Scalar.indexCast v156
  let c0_74 : Index := 0#32
  ![v157.toNat, 0]
def k0_mult7 (i : grid0.Coords) (k0_t2 : Fin (k0_t2_loop i).trips) : BitVec 32 :=
  let arg2 : BitVec 32 := BitVec.ofNat 32 (i 2).val
  let c2_i32_71 : BitVec 32 := 2#32
  let c0_i32_45 : BitVec 32 := 0#32
  let c0_i32 : BitVec 32 := 0#32
  let v101 : BitVec 1 := Scalar.cmpi .sgt arg2 c0_i32
  let v102 : BitVec 32 := Scalar.extui v101
  let c0_i32_40 : BitVec 32 := 0#32
  let v103 : BitVec 1 := Scalar.cmpi .slt arg2 c0_i32_40
  let v104 : BitVec 32 := Scalar.extui v103
  let v105 : BitVec 32 := Scalar.subi v102 v104
  let c2_i32 : BitVec 32 := 2#32
  let c0_i32_41 : BitVec 32 := 0#32
  let v106 : BitVec 1 := Scalar.cmpi .sgt c2_i32 c0_i32_41
  let v107 : BitVec 32 := Scalar.extui v106
  let c0_i32_42 : BitVec 32 := 0#32
  let v108 : BitVec 1 := Scalar.cmpi .slt c2_i32 c0_i32_42
  let v109 : BitVec 32 := Scalar.extui v108
  let v110 : BitVec 32 := Scalar.subi v107 v109
  let v111 : BitVec 1 := Scalar.cmpi .ne v105 v110
  let v112 : BitVec 32 := Scalar.remsi arg2 c2_i32
  let c0_i32_43 : BitVec 32 := 0#32
  let v113 : BitVec 1 := Scalar.cmpi .ne v112 c0_i32_43
  let v114 : BitVec 1 := Scalar.andi v111 v113
  let v100 : BitVec 32 := Scalar.divsi arg2 c2_i32
  let c1_i32 : BitVec 32 := 1#32
  let v115 : BitVec 32 := Scalar.subi v100 c1_i32
  let v116 : BitVec 32 := Scalar.select v114 v115 v100
  let v117 : BitVec 32 := Scalar.subi v116 c0_i32_45
  let c1_i32_46 : BitVec 32 := 1#32
  let v119 : BitVec 32 := Scalar.divsi v117 c1_i32_46
  let v120 : BitVec 32 := Scalar.muli v119 c1_i32_46
  let v121 : BitVec 32 := Scalar.addi c0_i32_45 v120
  let c1_i32_48 : BitVec 32 := 1#32
  let arg23 : BitVec 32 := Scf.iv v121 c1_i32_48 k0_t2
  let v152 : BitVec 32 := Scalar.muli c2_i32_71 arg23
  let v153 : BitVec 32 := Scalar.subi arg2 v152
  let c256_i32_95 : BitVec 32 := 256#32
  let v214 : BitVec 32 := Scalar.muli v153 c256_i32_95
  v214
def k0_off5 (i : grid0.Coords) (k0_t2 : Fin (k0_t2_loop i).trips) : Fin 2 → Nat :=
  let arg2 : BitVec 32 := BitVec.ofNat 32 (i 2).val
  let c2_i32_71 : BitVec 32 := 2#32
  let c0_i32_45 : BitVec 32 := 0#32
  let c0_i32 : BitVec 32 := 0#32
  let v101 : BitVec 1 := Scalar.cmpi .sgt arg2 c0_i32
  let v102 : BitVec 32 := Scalar.extui v101
  let c0_i32_40 : BitVec 32 := 0#32
  let v103 : BitVec 1 := Scalar.cmpi .slt arg2 c0_i32_40
  let v104 : BitVec 32 := Scalar.extui v103
  let v105 : BitVec 32 := Scalar.subi v102 v104
  let c2_i32 : BitVec 32 := 2#32
  let c0_i32_41 : BitVec 32 := 0#32
  let v106 : BitVec 1 := Scalar.cmpi .sgt c2_i32 c0_i32_41
  let v107 : BitVec 32 := Scalar.extui v106
  let c0_i32_42 : BitVec 32 := 0#32
  let v108 : BitVec 1 := Scalar.cmpi .slt c2_i32 c0_i32_42
  let v109 : BitVec 32 := Scalar.extui v108
  let v110 : BitVec 32 := Scalar.subi v107 v109
  let v111 : BitVec 1 := Scalar.cmpi .ne v105 v110
  let v112 : BitVec 32 := Scalar.remsi arg2 c2_i32
  let c0_i32_43 : BitVec 32 := 0#32
  let v113 : BitVec 1 := Scalar.cmpi .ne v112 c0_i32_43
  let v114 : BitVec 1 := Scalar.andi v111 v113
  let v100 : BitVec 32 := Scalar.divsi arg2 c2_i32
  let c1_i32 : BitVec 32 := 1#32
  let v115 : BitVec 32 := Scalar.subi v100 c1_i32
  let v116 : BitVec 32 := Scalar.select v114 v115 v100
  let v117 : BitVec 32 := Scalar.subi v116 c0_i32_45
  let c1_i32_46 : BitVec 32 := 1#32
  let v119 : BitVec 32 := Scalar.divsi v117 c1_i32_46
  let v120 : BitVec 32 := Scalar.muli v119 c1_i32_46
  let v121 : BitVec 32 := Scalar.addi c0_i32_45 v120
  let c1_i32_48 : BitVec 32 := 1#32
  let arg23 : BitVec 32 := Scf.iv v121 c1_i32_48 k0_t2
  let v152 : BitVec 32 := Scalar.muli c2_i32_71 arg23
  let v153 : BitVec 32 := Scalar.subi arg2 v152
  let c256_i32_95 : BitVec 32 := 256#32
  let v214 : BitVec 32 := Scalar.muli v153 c256_i32_95
  let v215 : BitVec 32 := v214
  let v216 : Index := Scalar.indexCast v215
  let c0_96 : Index := 0#32
  ![v216.toNat, 0]
def k0_mult8 (i : grid0.Coords) (k0_t2 : Fin (k0_t2_loop i).trips) : BitVec 32 :=
  let arg2 : BitVec 32 := BitVec.ofNat 32 (i 2).val
  let c2_i32_71 : BitVec 32 := 2#32
  let c0_i32_45 : BitVec 32 := 0#32
  let c0_i32 : BitVec 32 := 0#32
  let v101 : BitVec 1 := Scalar.cmpi .sgt arg2 c0_i32
  let v102 : BitVec 32 := Scalar.extui v101
  let c0_i32_40 : BitVec 32 := 0#32
  let v103 : BitVec 1 := Scalar.cmpi .slt arg2 c0_i32_40
  let v104 : BitVec 32 := Scalar.extui v103
  let v105 : BitVec 32 := Scalar.subi v102 v104
  let c2_i32 : BitVec 32 := 2#32
  let c0_i32_41 : BitVec 32 := 0#32
  let v106 : BitVec 1 := Scalar.cmpi .sgt c2_i32 c0_i32_41
  let v107 : BitVec 32 := Scalar.extui v106
  let c0_i32_42 : BitVec 32 := 0#32
  let v108 : BitVec 1 := Scalar.cmpi .slt c2_i32 c0_i32_42
  let v109 : BitVec 32 := Scalar.extui v108
  let v110 : BitVec 32 := Scalar.subi v107 v109
  let v111 : BitVec 1 := Scalar.cmpi .ne v105 v110
  let v112 : BitVec 32 := Scalar.remsi arg2 c2_i32
  let c0_i32_43 : BitVec 32 := 0#32
  let v113 : BitVec 1 := Scalar.cmpi .ne v112 c0_i32_43
  let v114 : BitVec 1 := Scalar.andi v111 v113
  let v100 : BitVec 32 := Scalar.divsi arg2 c2_i32
  let c1_i32 : BitVec 32 := 1#32
  let v115 : BitVec 32 := Scalar.subi v100 c1_i32
  let v116 : BitVec 32 := Scalar.select v114 v115 v100
  let v117 : BitVec 32 := Scalar.subi v116 c0_i32_45
  let c1_i32_46 : BitVec 32 := 1#32
  let v119 : BitVec 32 := Scalar.divsi v117 c1_i32_46
  let v120 : BitVec 32 := Scalar.muli v119 c1_i32_46
  let v121 : BitVec 32 := Scalar.addi c0_i32_45 v120
  let c1_i32_48 : BitVec 32 := 1#32
  let arg23 : BitVec 32 := Scf.iv v121 c1_i32_48 k0_t2
  let v152 : BitVec 32 := Scalar.muli c2_i32_71 arg23
  let v153 : BitVec 32 := Scalar.subi arg2 v152
  let c2_i32_131 : BitVec 32 := 2#32
  let v281 : BitVec 32 := Scalar.subi v153 c2_i32_131
  let c256_i32_132 : BitVec 32 := 256#32
  let v282 : BitVec 32 := Scalar.muli v281 c256_i32_132
  v282
def k0_mult9 (i : grid0.Coords) (k0_t2 : Fin (k0_t2_loop i).trips) : BitVec 32 :=
  let arg2 : BitVec 32 := BitVec.ofNat 32 (i 2).val
  let c2_i32_71 : BitVec 32 := 2#32
  let c0_i32_45 : BitVec 32 := 0#32
  let c0_i32 : BitVec 32 := 0#32
  let v101 : BitVec 1 := Scalar.cmpi .sgt arg2 c0_i32
  let v102 : BitVec 32 := Scalar.extui v101
  let c0_i32_40 : BitVec 32 := 0#32
  let v103 : BitVec 1 := Scalar.cmpi .slt arg2 c0_i32_40
  let v104 : BitVec 32 := Scalar.extui v103
  let v105 : BitVec 32 := Scalar.subi v102 v104
  let c2_i32 : BitVec 32 := 2#32
  let c0_i32_41 : BitVec 32 := 0#32
  let v106 : BitVec 1 := Scalar.cmpi .sgt c2_i32 c0_i32_41
  let v107 : BitVec 32 := Scalar.extui v106
  let c0_i32_42 : BitVec 32 := 0#32
  let v108 : BitVec 1 := Scalar.cmpi .slt c2_i32 c0_i32_42
  let v109 : BitVec 32 := Scalar.extui v108
  let v110 : BitVec 32 := Scalar.subi v107 v109
  let v111 : BitVec 1 := Scalar.cmpi .ne v105 v110
  let v112 : BitVec 32 := Scalar.remsi arg2 c2_i32
  let c0_i32_43 : BitVec 32 := 0#32
  let v113 : BitVec 1 := Scalar.cmpi .ne v112 c0_i32_43
  let v114 : BitVec 1 := Scalar.andi v111 v113
  let v100 : BitVec 32 := Scalar.divsi arg2 c2_i32
  let c1_i32 : BitVec 32 := 1#32
  let v115 : BitVec 32 := Scalar.subi v100 c1_i32
  let v116 : BitVec 32 := Scalar.select v114 v115 v100
  let v117 : BitVec 32 := Scalar.subi v116 c0_i32_45
  let c1_i32_46 : BitVec 32 := 1#32
  let v119 : BitVec 32 := Scalar.divsi v117 c1_i32_46
  let v120 : BitVec 32 := Scalar.muli v119 c1_i32_46
  let v121 : BitVec 32 := Scalar.addi c0_i32_45 v120
  let c1_i32_48 : BitVec 32 := 1#32
  let arg23 : BitVec 32 := Scf.iv v121 c1_i32_48 k0_t2
  let v152 : BitVec 32 := Scalar.muli c2_i32_71 arg23
  let v153 : BitVec 32 := Scalar.subi arg2 v152
  let c1_i32_154 : BitVec 32 := 1#32
  let v341 : BitVec 32 := Scalar.subi v153 c1_i32_154
  let c256_i32_155 : BitVec 32 := 256#32
  let v342 : BitVec 32 := Scalar.muli v341 c256_i32_155
  v342
def k0_cond1 (i : grid0.Coords) : BitVec 1 :=
  let arg2 : BitVec 32 := BitVec.ofNat 32 (i 2).val
  let c2_i32_49 : BitVec 32 := 2#32
  let c0_i32_50 : BitVec 32 := 0#32
  let v122 : BitVec 1 := Scalar.cmpi .eq c2_i32_49 c0_i32_50
  let c1_i32_51 : BitVec 32 := 1#32
  let v123 : BitVec 32 := Scalar.select v122 c1_i32_51 c2_i32_49
  let v124 : BitVec 32 := Scalar.remsi arg2 v123
  let c0_i32_53 : BitVec 32 := 0#32
  let v126 : BitVec 1 := Scalar.cmpi .slt v124 c0_i32_53
  let c0_i32_54 : BitVec 32 := 0#32
  let v127 : BitVec 1 := Scalar.cmpi .slt v123 c0_i32_54
  let v128 : BitVec 1 := Scalar.xori v126 v127
  let c0_i32_52 : BitVec 32 := 0#32
  let v125 : BitVec 1 := Scalar.cmpi .ne v124 c0_i32_52
  let v129 : BitVec 1 := Scalar.andi v128 v125
  let v130 : BitVec 32 := Scalar.addi v124 v123
  let v131 : BitVec 32 := Scalar.select v129 v130 v124
  let c1_i32_55 : BitVec 32 := 1#32
  let v132 : BitVec 1 := Scalar.cmpi .eq v131 c1_i32_55
  let v133 : BitVec 32 := Scalar.extui v132
  let c0_i32_56 : BitVec 32 := 0#32
  let v134 : BitVec 1 := Scalar.cmpi .ne v133 c0_i32_56
  v134

def k0_mult10 : BitVec 32 :=
  let c0_i32_71 : BitVec 32 := 0#32
  c0_i32_71
def k0_mult11 : BitVec 32 :=
  let c256_i32_93 : BitVec 32 := 256#32
  c256_i32_93
def k0_mult12 : BitVec 32 :=
  let c0_i32_129 : BitVec 32 := 0#32
  c0_i32_129
def k0_cond2 (i : grid0.Coords) : BitVec 1 :=
  let arg2 : BitVec 32 := BitVec.ofNat 32 (i 2).val
  let c2_i32_57 : BitVec 32 := 2#32
  let c0_i32_58 : BitVec 32 := 0#32
  let v135 : BitVec 1 := Scalar.cmpi .eq c2_i32_57 c0_i32_58
  let c1_i32_59 : BitVec 32 := 1#32
  let v136 : BitVec 32 := Scalar.select v135 c1_i32_59 c2_i32_57
  let v137 : BitVec 32 := Scalar.remsi arg2 v136
  let c0_i32_61 : BitVec 32 := 0#32
  let v139 : BitVec 1 := Scalar.cmpi .slt v137 c0_i32_61
  let c0_i32_62 : BitVec 32 := 0#32
  let v140 : BitVec 1 := Scalar.cmpi .slt v136 c0_i32_62
  let v141 : BitVec 1 := Scalar.xori v139 v140
  let c0_i32_60 : BitVec 32 := 0#32
  let v138 : BitVec 1 := Scalar.cmpi .ne v137 c0_i32_60
  let v142 : BitVec 1 := Scalar.andi v141 v138
  let v143 : BitVec 32 := Scalar.addi v137 v136
  let v144 : BitVec 32 := Scalar.select v142 v143 v137
  let c0_i32_63 : BitVec 32 := 0#32
  let v145 : BitVec 1 := Scalar.cmpi .eq v144 c0_i32_63
  let v146 : BitVec 32 := Scalar.extui v145
  let c0_i32_64 : BitVec 32 := 0#32
  let v147 : BitVec 1 := Scalar.cmpi .ne v146 c0_i32_64
  v147

def k0_mult13 : BitVec 32 :=
  let c0_i32_71 : BitVec 32 := 0#32
  c0_i32_71
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "masked" => some ⊥
  | _ => none
-- ==== ReferenceIdeal.lean ====
abbrev S8x4096x1024 : Shape := ⟨3, ![8, 4096, 1024]⟩
abbrev S8x4096x1536 : Shape := ⟨3, ![8, 4096, 1536]⟩
abbrev S8x4096x768 : Shape := ⟨3, ![8, 4096, 768]⟩
abbrev S8x4096x256 : Shape := ⟨3, ![8, 4096, 256]⟩
abbrev S8x4096x12x64 : Shape := ⟨4, ![8, 4096, 12, 64]⟩
abbrev S8x12x4096x64 : Shape := ⟨4, ![8, 12, 4096, 64]⟩
abbrev S8x12x4096x4096 : Shape := ⟨4, ![8, 12, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S32768x768 : Shape := ⟨2, ![32768, 768]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1536, .f32⟩
  | .hbm, ⟨2, _⟩ => ⟨S8x4096x768, .f32⟩
  | .hbm, ⟨3, _⟩ => ⟨S8x4096x256, .f32⟩
  | .hbm, ⟨4, _⟩ => ⟨S8x4096x768, .f32⟩
  | .hbm, ⟨5, _⟩ => ⟨S8x4096x768, .f32⟩
  | .hbm, ⟨6, _⟩ => ⟨S8x4096x12x64, .f32⟩
  | .hbm, ⟨7, _⟩ => ⟨S8x12x4096x64, .f32⟩
  | .hbm, ⟨8, _⟩ => ⟨S8x4096x12x64, .f32⟩
  | .hbm, ⟨9, _⟩ => ⟨S8x12x4096x64, .f32⟩
  | .hbm, ⟨10, _⟩ => ⟨S8x4096x12x64, .f32⟩
  | .hbm, ⟨11, _⟩ => ⟨S8x12x4096x64, .f32⟩
  | .hbm, ⟨12, _⟩ => ⟨S8x12x4096x4096, .f32⟩
  | .hbm, ⟨13, _⟩ => ⟨S_, .f32⟩
  | .hbm, ⟨14, _⟩ => ⟨S8x12x4096x4096, .f32⟩
  | .hbm, ⟨15, _⟩ => ⟨S8x12x4096x4096, .f32⟩
  | .hbm, ⟨16, _⟩ => ⟨S4096, .i32⟩
  | .hbm, ⟨17, _⟩ => ⟨S4096x1, .i32⟩
  | .hbm, ⟨18, _⟩ => ⟨S4096, .i32⟩
  | .hbm, ⟨19, _⟩ => ⟨S1x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S8x12x4096x4096, .f32⟩
  | .hbm, ⟨24, _⟩ => ⟨S8x12x4096x4096, .f32⟩
  | .hbm, ⟨25, _⟩ => ⟨S_, .f32⟩
  | .hbm, ⟨26, _⟩ => ⟨S8x12x4096x4096, .f32⟩
  | .hbm, ⟨27, _⟩ => ⟨S8x12x4096x4096, .f32⟩
  | .hbm, ⟨28, _⟩ => ⟨S8x12x4096x4096, .f32⟩
  | .hbm, ⟨29, _⟩ => ⟨S8x12x4096x4096, .f32⟩
  | .hbm, ⟨30, _⟩ => ⟨S8x12x4096x4096, .i1⟩
  | .hbm, ⟨31, _⟩ => ⟨S8x12x4096x4096, .f32⟩
  | .hbm, ⟨32, _⟩ => ⟨S8x12x4096x4096, .f32⟩
  | .hbm, ⟨33, _⟩ => ⟨S8x12x4096x4096, .f32⟩
  | .hbm, ⟨34, _⟩ => ⟨S8x12x4096x4096, .f32⟩
  | .hbm, ⟨35, _⟩ => ⟨S8x12x4096x4096, .f32⟩
  | .hbm, ⟨36, _⟩ => ⟨S8x12x4096x4096, .f32⟩
  | .hbm, ⟨37, _⟩ => ⟨S8x12x4096x4096, .f32⟩
  | .hbm, ⟨38, _⟩ => ⟨S8x12x4096x4096, .f32⟩
  | .hbm, ⟨39, _⟩ => ⟨S8x12x4096x4096, .f32⟩
  | .hbm, ⟨40, _⟩ => ⟨S_, .f32⟩
  | .hbm, ⟨41, _⟩ => ⟨S_, .f32⟩
  | .hbm, ⟨42, _⟩ => ⟨S8x12x4096x4096, .i1⟩
  | .hbm, ⟨43, _⟩ => ⟨S8x12x4096x4096, .f32⟩
  | .hbm, ⟨44, _⟩ => ⟨S8x12x4096x4096, .f32⟩
  | .hbm, ⟨45, _⟩ => ⟨S8x12x4096x4096, .f32⟩
  | .hbm, ⟨46, _⟩ => ⟨S_, .f32⟩
  | .hbm, ⟨47, _⟩ => ⟨S8x12x4096x4096, .f32⟩
  | .hbm, ⟨48, _⟩ => ⟨S8x12x4096x4096, .f32⟩
  | .hbm, ⟨49, _⟩ => ⟨S8x12x4096x4096, .f32⟩
  | .hbm, ⟨50, _⟩ => ⟨S8x12x4096x4096, .f32⟩
  | .hbm, ⟨51, _⟩ => ⟨S8x12x4096x4096, .i1⟩
  | .hbm, ⟨52, _⟩ => ⟨S8x12x4096x4096, .f32⟩
  | .hbm, ⟨53, _⟩ => ⟨S8x12x4096x4096, .f32⟩
  | .hbm, ⟨54, _⟩ => ⟨S8x12x4096x4096, .f32⟩
  | .hbm, ⟨55, _⟩ => ⟨S8x12x4096x4096, .f32⟩
  | .hbm, ⟨56, _⟩ => ⟨S8x12x4096x4096, .f32⟩
  | .hbm, ⟨57, _⟩ => ⟨S8x12x4096x4096, .f32⟩
  | .hbm, ⟨58, _⟩ => ⟨S8x12x4096x4096, .f32⟩
  | .hbm, ⟨59, _⟩ => ⟨S8x12x4096x4096, .f32⟩
  | .hbm, ⟨60, _⟩ => ⟨S8x12x4096x4096, .f32⟩
  | .hbm, ⟨61, _⟩ => ⟨S_, .f32⟩
  | .hbm, ⟨62, _⟩ => ⟨S_, .f32⟩
  | .hbm, ⟨63, _⟩ => ⟨S8x12x4096x4096, .f32⟩
  | .hbm, ⟨64, _⟩ => ⟨S8x12x4096x4096, .f32⟩
  | .hbm, ⟨65, _⟩ => ⟨S8x12x4096x4096, .f32⟩
  | .hbm, ⟨66, _⟩ => ⟨S8x12x4096x4096, .f32⟩
  | .hbm, ⟨67, _⟩ => ⟨S_, .f32⟩
  | .hbm, ⟨68, _⟩ => ⟨S_, .f32⟩
  | .hbm, ⟨69, _⟩ => ⟨S8x12x4096x4096, .i1⟩
  | .hbm, ⟨70, _⟩ => ⟨S8x12x4096x4096, .f32⟩
  | .hbm, ⟨71, _⟩ => ⟨S8x12x4096x4096, .f32⟩
  | .hbm, ⟨72, _⟩ => ⟨S8x12x4096x64, .f32⟩
  | .hbm, ⟨73, _⟩ => ⟨S8x4096x12x64, .f32⟩
  | .hbm, ⟨74, _⟩ => ⟨S8x4096x768, .f32⟩
  | .hbm, ⟨75, _⟩ => ⟨S32768x768, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v21 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_call2_v0 : Ref sig .tc := ⟨.hbm, 45, rfl⟩
abbrev main_call2_call0_cst : Ref sig .tc := ⟨.hbm, 46, rfl⟩
abbrev main_call2_call0_v0 : Ref sig .tc := ⟨.hbm, 47, rfl⟩
abbrev main_call2_call0_v1 : Ref sig .tc := ⟨.hbm, 48, rfl⟩
abbrev main_call2_call0_v2 : Ref sig .tc := ⟨.hbm, 49, rfl⟩
abbrev main_call2_call0_v3 : Ref sig .tc := ⟨.hbm, 50, rfl⟩
abbrev main_call2_call0_v4 : Ref sig .tc := ⟨.hbm, 51, rfl⟩
abbrev main_call2_call0_v5 : Ref sig .tc := ⟨.hbm, 52, rfl⟩
abbrev main_call2_call0_v6 : Ref sig .tc := ⟨.hbm, 53, rfl⟩
abbrev main_call2_call0_v7 : Ref sig .tc := ⟨.hbm, 54, rfl⟩
abbrev main_call2_call0_v8 : Ref sig .tc := ⟨.hbm, 55, rfl⟩
abbrev main_call2_call0_v9 : Ref sig .tc := ⟨.hbm, 56, rfl⟩
abbrev main_call2_call0_v10 : Ref sig .tc := ⟨.hbm, 57, rfl⟩
abbrev main_call2_call0_v11 : Ref sig .tc := ⟨.hbm, 58, rfl⟩
abbrev main_call2_v1 : Ref sig .tc := ⟨.hbm, 59, rfl⟩
abbrev main_v23 : Ref sig .tc := ⟨.hbm, 60, rfl⟩
abbrev main_call3_cst : Ref sig .tc := ⟨.hbm, 61, rfl⟩
abbrev main_call3_v0 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩

abbrev nD : Nat := 1
abbrev τ : Topo := Topo.v7x

variable {F : FTy → Type} [FloatOps F]
-- ==== ProjectIn.lean ====
abbrev S8x4096x1024 : Shape := ⟨3, ![8, 4096, 1024]⟩
abbrev S1x1024x2576 : Shape := ⟨3, ![1, 1024, 2576]⟩
abbrev S32768x1024 : Shape := ⟨2, ![32768, 1024]⟩
abbrev S1024x2576 : Shape := ⟨2, ![1024, 2576]⟩
abbrev S1024x2304 : Shape := ⟨2, ![1024, 2304]⟩
abbrev S1024x256 : Shape := ⟨2, ![1024, 256]⟩
abbrev S1024x16 : Shape := ⟨2, ![1024, 16]⟩
abbrev S_ : Shape := ⟨0, ![]⟩
abbrev S1024x240 : Shape := ⟨2, ![1024, 240]⟩
abbrev S1024x2816 : Shape := ⟨2, ![1024, 2816]⟩
abbrev S32768x2816 : Shape := ⟨2, ![32768, 2816]⟩
abbrev S512x1024 : Shape := ⟨2, ![512, 1024]⟩
abbrev S512x2816 : Shape := ⟨2, ![512, 2816]⟩

abbrev nBuf : Space → Nat
  | .hbm => 12
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S1x1024x2576, .f32⟩
  | .hbm, ⟨2, _⟩ => ⟨S32768x1024, .f32⟩
  | .hbm, ⟨3, _⟩ => ⟨S1024x2576, .f32⟩
  | .hbm, ⟨4, _⟩ => ⟨S1024x2304, .f32⟩
  | .hbm, ⟨5, _⟩ => ⟨S1024x256, .f32⟩
  | .hbm, ⟨6, _⟩ => ⟨S1024x16, .f32⟩
  | .hbm, ⟨7, _⟩ => ⟨S_, .f32⟩
  | .hbm, ⟨8, _⟩ => ⟨S1024x240, .f32⟩
  | .hbm, ⟨9, _⟩ => ⟨S1024x2816, .f32⟩
  | .hbm, ⟨10, _⟩ => ⟨S1024x2816, .bf16⟩
  | .hbm, ⟨11, _⟩ => ⟨S32768x2816, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S512x2816, .f32⟩
  | .local _ .vmem, ⟨4, _⟩ => ⟨S512x2816, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceInIdeal.lean ====
abbrev S8x4096x1024 : Shape := ⟨3, ![8, 4096, 1024]⟩
abbrev S1x1024x2576 : Shape := ⟨3, ![1, 1024, 2576]⟩
abbrev S32768x1024 : Shape := ⟨2, ![32768, 1024]⟩
abbrev S1024x2576 : Shape := ⟨2, ![1024, 2576]⟩
abbrev S32768x2576 : Shape := ⟨2, ![32768, 2576]⟩
abbrev S32768x384 : Shape := ⟨2, ![32768, 384]⟩
abbrev S32768x768 : Shape := ⟨2, ![32768, 768]⟩
abbrev S32768x16 : Shape := ⟨2, ![32768, 16]⟩
abbrev S32768x256 : Shape := ⟨2, ![32768, 256]⟩
abbrev S_ : Shape := ⟨0, ![]⟩
abbrev S32768x240 : Shape := ⟨2, ![32768, 240]⟩
abbrev S32768x2816 : Shape := ⟨2, ![32768, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x2576, .f32⟩
  | .hbm, ⟨2, _⟩ => ⟨S32768x1024, .f32⟩
  | .hbm, ⟨3, _⟩ => ⟨S1024x2576, .f32⟩
  | .hbm, ⟨4, _⟩ => ⟨S32768x2576, .f32⟩
  | .hbm, ⟨5, _⟩ => ⟨S32768x384, .f32⟩
  | .hbm, ⟨6, _⟩ => ⟨S32768x384, .f32⟩
  | .hbm, ⟨7, _⟩ => ⟨S32768x768, .f32⟩
  | .hbm, ⟨8, _⟩ => ⟨S32768x768, .f32⟩
  | .hbm, ⟨9, _⟩ => ⟨S32768x16, .f32⟩
  | .hbm, ⟨10, _⟩ => ⟨S32768x256, .f32⟩
  | .hbm, ⟨11, _⟩ => ⟨S_, .f32⟩
  | .hbm, ⟨12, _⟩ => ⟨S32768x240, .f32⟩
  | .hbm, ⟨13, _⟩ => ⟨S32768x2816, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== ProjectKv.lean ====
abbrev S8x4096x1024 : Shape := ⟨3, ![8, 4096, 1024]⟩
abbrev S1024x1536 : Shape := ⟨2, ![1024, 1536]⟩
abbrev S32768x1024 : Shape := ⟨2, ![32768, 1024]⟩
abbrev S32768x1536 : Shape := ⟨2, ![32768, 1536]⟩
abbrev S512x1024 : Shape := ⟨2, ![512, 1024]⟩
abbrev S512x1536 : Shape := ⟨2, ![512, 1536]⟩

abbrev nBuf : Space → Nat
  | .hbm => 6
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S1024x1536, .f32⟩
  | .hbm, ⟨2, _⟩ => ⟨S32768x1024, .f32⟩
  | .hbm, ⟨3, _⟩ => ⟨S32768x1024, .bf16⟩
  | .hbm, ⟨4, _⟩ => ⟨S1024x1536, .bf16⟩
  | .hbm, ⟨5, _⟩ => ⟨S32768x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x1536, .bf16⟩
  | .local _ .vmem, ⟨4, _⟩ => ⟨S512x1536, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceKvIdeal.lean ====
abbrev S8x4096x1024 : Shape := ⟨3, ![8, 4096, 1024]⟩
abbrev S1024x1536 : Shape := ⟨2, ![1024, 1536]⟩
abbrev S32768x1024 : Shape := ⟨2, ![32768, 1024]⟩
abbrev S32768x1536 : Shape := ⟨2, ![32768, 1536]⟩

abbrev nBuf : Space → Nat
  | .hbm => 5
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1536, .f32⟩
  | .hbm, ⟨2, _⟩ => ⟨S32768x1024, .f32⟩
  | .hbm, ⟨3, _⟩ => ⟨S32768x1536, .f32⟩
  | .hbm, ⟨4, _⟩ => ⟨S32768x1536, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjectB.lean ====
abbrev S8x4096x1024 : Shape := ⟨3, ![8, 4096, 1024]⟩
abbrev S1x1024x1024 : Shape := ⟨3, ![1, 1024, 1024]⟩
abbrev S32768x1024 : Shape := ⟨2, ![32768, 1024]⟩
abbrev S1024x1024 : Shape := ⟨2, ![1024, 1024]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S1x1024x1024, .f32⟩
  | .hbm, ⟨2, _⟩ => ⟨S32768x1024, .f32⟩
  | .hbm, ⟨3, _⟩ => ⟨S32768x1024, .bf16⟩
  | .hbm, ⟨4, _⟩ => ⟨S1024x1024, .f32⟩
  | .hbm, ⟨5, _⟩ => ⟨S1024x1024, .bf16⟩
  | .hbm, ⟨6, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceBIdeal.lean ====
abbrev S8x4096x1024 : Shape := ⟨3, ![8, 4096, 1024]⟩
abbrev S1x1024x1024 : Shape := ⟨3, ![1, 1024, 1024]⟩
abbrev S32768x1024 : Shape := ⟨2, ![32768, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x1024, .f32⟩
  | .hbm, ⟨2, _⟩ => ⟨S32768x1024, .f32⟩
  | .hbm, ⟨3, _⟩ => ⟨S1024x1024, .f32⟩
  | .hbm, ⟨4, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjectQ.lean ====
abbrev S8x4096x1024 : Shape := ⟨3, ![8, 4096, 1024]⟩
abbrev S1024x2048 : Shape := ⟨2, ![1024, 2048]⟩
abbrev S32768x1024 : Shape := ⟨2, ![32768, 1024]⟩
abbrev S32768x2048 : Shape := ⟨2, ![32768, 2048]⟩
abbrev S512x1024 : Shape := ⟨2, ![512, 1024]⟩
abbrev S512x2048 : Shape := ⟨2, ![512, 2048]⟩

abbrev nBuf : Space → Nat
  | .hbm => 6
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S1024x2048, .f32⟩
  | .hbm, ⟨2, _⟩ => ⟨S32768x1024, .f32⟩
  | .hbm, ⟨3, _⟩ => ⟨S32768x1024, .bf16⟩
  | .hbm, ⟨4, _⟩ => ⟨S1024x2048, .bf16⟩
  | .hbm, ⟨5, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceQIdeal.lean ====
abbrev S8x4096x1024 : Shape := ⟨3, ![8, 4096, 1024]⟩
abbrev S1024x2048 : Shape := ⟨2, ![1024, 2048]⟩
abbrev S32768x1024 : Shape := ⟨2, ![32768, 1024]⟩
abbrev S32768x2048 : Shape := ⟨2, ![32768, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x2048, .f32⟩
  | .hbm, ⟨2, _⟩ => ⟨S32768x1024, .f32⟩
  | .hbm, ⟨3, _⟩ => ⟨S32768x2048, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjectMem.lean ====
abbrev S8x256x1024 : Shape := ⟨3, ![8, 256, 1024]⟩
abbrev S1x1024x512 : Shape := ⟨3, ![1, 1024, 512]⟩
abbrev S2048x1024 : Shape := ⟨2, ![2048, 1024]⟩
abbrev S1024x512 : Shape := ⟨2, ![1024, 512]⟩
abbrev S2048x512 : Shape := ⟨2, ![2048, 512]⟩
abbrev S512x1024 : Shape := ⟨2, ![512, 1024]⟩
abbrev S512x512 : Shape := ⟨2, ![512, 512]⟩

abbrev nBuf : Space → Nat
  | .hbm => 6
  | .vmem => 5
  | .smem => 0
  | _ => 0

abbrev bufTy : (tb : Table) → Fin (tcTables nBuf tb) → BufTy
  | .hbm, ⟨0, _⟩ => ⟨S8x256x1024, .f32⟩
  | .hbm, ⟨1, _⟩ => ⟨S1x1024x512, .f32⟩
  | .hbm, ⟨2, _⟩ => ⟨S2048x1024, .f32⟩
  | .hbm, ⟨3, _⟩ => ⟨S1024x512, .f32⟩
  | .hbm, ⟨4, _⟩ => ⟨S1024x512, .bf16⟩
  | .hbm, ⟨5, _⟩ => ⟨S2048x512, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceMemIdeal.lean ====
abbrev S8x256x1024 : Shape := ⟨3, ![8, 256, 1024]⟩
abbrev S1x1024x512 : Shape := ⟨3, ![1, 1024, 512]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 5
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024x512, .f32⟩
  | .hbm, ⟨2, _⟩ => ⟨S2048x1024, .f32⟩
  | .hbm, ⟨3, _⟩ => ⟨S1024x512, .f32⟩
  | .hbm, ⟨4, _⟩ => ⟨S2048x512, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Norm.lean ====
abbrev S8x4096x1024 : Shape := ⟨3, ![8, 4096, 1024]⟩
abbrev S2x2x1024 : Shape := ⟨3, ![2, 2, 1024]⟩
abbrev S262144x128 : Shape := ⟨2, ![262144, 128]⟩
abbrev S32768x1024 : Shape := ⟨2, ![32768, 1024]⟩
abbrev S1x1x1024 : Shape := ⟨3, ![1, 1, 1024]⟩
abbrev S1024 : Shape := ⟨1, ![1024]⟩
abbrev S1x1024 : Shape := ⟨2, ![1, 1024]⟩
abbrev S4096x128 : Shape := ⟨2, ![4096, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 14
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S2x2x1024, .f32⟩
  | .hbm, ⟨3, _⟩ => ⟨S2x2x1024, .f32⟩
  | .hbm, ⟨4, _⟩ => ⟨S262144x128, .f32⟩
  | .hbm, ⟨5, _⟩ => ⟨S32768x1024, .f32⟩
  | .hbm, ⟨6, _⟩ => ⟨S1x1x1024, .f32⟩
  | .hbm, ⟨7, _⟩ => ⟨S1024, .f32⟩
  | .hbm, ⟨8, _⟩ => ⟨S1x1024, .f32⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1024, .bf16⟩
  | .local _ .vmem, ⟨0, _⟩ => ⟨S4096x128, .f32⟩
  | .local _ .vmem, ⟨1, _⟩ => ⟨S4096x128, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceNormIdeal.lean ====
abbrev S8x4096x1024 : Shape := ⟨3, ![8, 4096, 1024]⟩
abbrev S2x2x1024 : Shape := ⟨3, ![2, 2, 1024]⟩
abbrev S_ : Shape := ⟨0, ![]⟩
abbrev S1x1x1024 : Shape := ⟨3, ![1, 1, 1024]⟩
abbrev S1024 : Shape := ⟨1, ![1024]⟩
abbrev S8x4096 : Shape := ⟨2, ![8, 4096]⟩
abbrev S8x4096x1 : Shape := ⟨3, ![8, 4096, 1]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S2x2x1024, .f32⟩
  | .hbm, ⟨3, _⟩ => ⟨S2x2x1024, .f32⟩
  | .hbm, ⟨4, _⟩ => ⟨S_, .f32⟩
  | .hbm, ⟨5, _⟩ => ⟨S8x4096x1024, .f32⟩
  | .hbm, ⟨6, _⟩ => ⟨S8x4096x1024, .f32⟩
  | .hbm, ⟨7, _⟩ => ⟨S8x4096x1024, .f32⟩
  | .hbm, ⟨8, _⟩ => ⟨S1x1x1024, .f32⟩
  | .hbm, ⟨9, _⟩ => ⟨S1024, .f32⟩
  | .hbm, ⟨10, _⟩ => ⟨S1x1x1024, .f32⟩
  | .hbm, ⟨11, _⟩ => ⟨S1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1, .f32⟩
  | .hbm, ⟨33, _⟩ => ⟨S8x4096x1024, .f32⟩
  | .hbm, ⟨34, _⟩ => ⟨S8x4096x1024, .f32⟩
  | .hbm, ⟨35, _⟩ => ⟨S1x1x1024, .f32⟩
  | .hbm, ⟨36, _⟩ => ⟨S8x4096x1024, .f32⟩
  | .hbm, ⟨37, _⟩ => ⟨S8x4096x1024, .f32⟩
  | .hbm, ⟨38, _⟩ => ⟨S1x1x1024, .f32⟩
  | .hbm, ⟨39, _⟩ => ⟨S8x4096x1024, .f32⟩
  | .hbm, ⟨40, _⟩ => ⟨S8x4096x1024, .f32⟩
  | .hbm, ⟨41, _⟩ => ⟨S32768x1024, .f32⟩
  | .hbm, ⟨42, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Mix.lean ====
abbrev S8x4096x768 : Shape := ⟨3, ![8, 4096, 768]⟩
abbrev S8x4096x256 : Shape := ⟨3, ![8, 4096, 256]⟩
abbrev S8x4096x1024 : Shape := ⟨3, ![8, 4096, 1024]⟩
abbrev S1x1024x1024 : Shape := ⟨3, ![1, 1024, 1024]⟩
abbrev S2x2x1024 : Shape := ⟨3, ![2, 2, 1024]⟩
abbrev S1024x1024 : Shape := ⟨2, ![1024, 1024]⟩
abbrev S32768x768 : Shape := ⟨2, ![32768, 768]⟩
abbrev S32768x256 : Shape := ⟨2, ![32768, 256]⟩
abbrev S32768x1024 : Shape := ⟨2, ![32768, 1024]⟩
abbrev S768x1024 : Shape := ⟨2, ![768, 1024]⟩
abbrev S256x1024 : Shape := ⟨2, ![256, 1024]⟩
abbrev S1x1x1024 : Shape := ⟨3, ![1, 1, 1024]⟩
abbrev S1024 : Shape := ⟨1, ![1024]⟩
abbrev S1x1024 : Shape := ⟨2, ![1, 1024]⟩
abbrev S131072x128 : Shape := ⟨2, ![131072, 128]⟩
abbrev S256x768 : Shape := ⟨2, ![256, 768]⟩
abbrev S256x256 : Shape := ⟨2, ![256, 256]⟩
abbrev S1024x128 : Shape := ⟨2, ![1024, 128]⟩
abbrev S256 : Shape := ⟨1, ![256]⟩
abbrev S256x1 : Shape := ⟨2, ![256, 1]⟩
abbrev S256x128 : Shape := ⟨2, ![256, 128]⟩

abbrev nBuf : Space → Nat
  | .hbm => 22
  | .vmem => 16
  | .smem => 0
  | _ => 0

abbrev bufTy : (tb : Table) → Fin (tcTables nBuf tb) → BufTy
  | .hbm, ⟨0, _⟩ => ⟨S8x4096x768, .f32⟩
  | .hbm, ⟨1, _⟩ => ⟨S8x4096x256, .f32⟩
  | .hbm, ⟨2, _⟩ => ⟨S8x4096x1024, .f32⟩
  | .hbm, ⟨3, _⟩ => ⟨S1x1024x1024, .f32⟩
  | .hbm, ⟨4, _⟩ => ⟨S2x2x1024, .f32⟩
  | .hbm, ⟨5, _⟩ => ⟨S2x2x1024, .f32⟩
  | .hbm, ⟨6, _⟩ => ⟨S1024x1024, .f32⟩
  | .hbm, ⟨7, _⟩ => ⟨S1024x1024, .bf16⟩
  | .hbm, ⟨8, _⟩ => ⟨S32768x768, .f32⟩
  | .hbm, ⟨9, _⟩ => ⟨S32768x256, .f32⟩
  | .hbm, ⟨10, _⟩ => ⟨S32768x1024, .f32⟩
  | .hbm, ⟨11, _⟩ => ⟨S768x1024, .bf16⟩
  | .hbm, ⟨12, _⟩ => ⟨S256x1024, .bf16⟩
  | .hbm, ⟨13, _⟩ => ⟨S1x1x1024, .f32⟩
  | .hbm, ⟨14, _⟩ => ⟨S1024, .f32⟩
  | .hbm, ⟨15, _⟩ => ⟨S1x1024, .f32⟩
  | .hbm, ⟨16, _⟩ => ⟨S1x1x1024, .f32⟩
  | .hbm, ⟨17, _⟩ => ⟨S1024, .f32⟩
  | .hbm, ⟨18, _⟩ => ⟨S1x1024, .f32⟩
  | .hbm, ⟨19, _⟩ => ⟨S32768x1024, .f32⟩
  | .hbm, ⟨20, _⟩ => ⟨S32768x1024, .bf16⟩
  | .hbm, ⟨21, _⟩ => ⟨S131072x128, .i32⟩
  | .local _ .vmem, ⟨0, _⟩ => ⟨S256x768, .f32⟩
  | .local _ .vmem, ⟨1, _⟩ => ⟨S256x768, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S768x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1024x128, .i32⟩
  | .local _ .vmem, ⟨15, _⟩ => ⟨S1024x128, .i32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixIdeal.lean ====
abbrev S8x4096x768 : Shape := ⟨3, ![8, 4096, 768]⟩
abbrev S8x4096x256 : Shape := ⟨3, ![8, 4096, 256]⟩
abbrev S8x4096x1024 : Shape := ⟨3, ![8, 4096, 1024]⟩
abbrev S1x1024x1024 : Shape := ⟨3, ![1, 1024, 1024]⟩
abbrev S2x2x1024 : Shape := ⟨3, ![2, 2, 1024]⟩
abbrev S1024x1024 : Shape := ⟨2, ![1024, 1024]⟩
abbrev S32768x768 : Shape := ⟨2, ![32768, 768]⟩
abbrev S32768x256 : Shape := ⟨2, ![32768, 256]⟩
abbrev S32768x1024 : Shape := ⟨2, ![32768, 1024]⟩
abbrev S768x1024 : Shape := ⟨2, ![768, 1024]⟩
abbrev S256x1024 : Shape := ⟨2, ![256, 1024]⟩
abbrev S1x1x1024 : Shape := ⟨3, ![1, 1, 1024]⟩
abbrev S1024 : Shape := ⟨1, ![1024]⟩
abbrev S1x1024 : Shape := ⟨2, ![1, 1024]⟩
abbrev S131072x2x128 : Shape := ⟨3, ![131072, 2, 128]⟩
abbrev S131072x1x128 : Shape := ⟨3, ![131072, 1, 128]⟩
abbrev S131072x128 : Shape := ⟨2, ![131072, 128]⟩
abbrev S256x768 : Shape := ⟨2, ![256, 768]⟩
abbrev S256x256 : Shape := ⟨2, ![256, 256]⟩
abbrev S1024x128 : Shape := ⟨2, ![1024, 128]⟩
abbrev S1024x2x128 : Shape := ⟨3, ![1024, 2, 128]⟩
abbrev S1024x1x128 : Shape := ⟨3, ![1024, 1, 128]⟩
abbrev S256 : Shape := ⟨1, ![256]⟩
abbrev S256x1 : Shape := ⟨2, ![256, 1]⟩
abbrev S256x128 : Shape := ⟨2, ![256, 128]⟩
abbrev S256x2x128 : Shape := ⟨3, ![256, 2, 128]⟩
abbrev S256x1x128 : Shape := ⟨3, ![256, 1, 128]⟩

abbrev nBuf : Space → Nat
  | .hbm => 22
  | .vmem => 16
  | .smem => 0
  | _ => 0

abbrev bufTy : (tb : Table) → Fin (tcTables nBuf tb) → BufTy
  | .hbm, ⟨0, _⟩ => ⟨S8x4096x768, .f32⟩
  | .hbm, ⟨1, _⟩ => ⟨S8x4096x256, .f32⟩
  | .hbm, ⟨2, _⟩ => ⟨S8x4096x1024, .f32⟩
  | .hbm, ⟨3, _⟩ => ⟨S1x1024x1024, .f32⟩
  | .hbm, ⟨4, _⟩ => ⟨S2x2x1024, .f32⟩
  | .hbm, ⟨5, _⟩ => ⟨S2x2x1024, .f32⟩
  | .hbm, ⟨6, _⟩ => ⟨S1024x1024, .f32⟩
  | .hbm, ⟨7, _⟩ => ⟨S1024x1024, .bf16⟩
  | .hbm, ⟨8, _⟩ => ⟨S32768x768, .f32⟩
  | .hbm, ⟨9, _⟩ => ⟨S32768x256, .f32⟩
  | .hbm, ⟨10, _⟩ => ⟨S32768x1024, .f32⟩
  | .hbm, ⟨11, _⟩ => ⟨S768x1024, .bf16⟩
  | .hbm, ⟨12, _⟩ => ⟨S256x1024, .bf16⟩
  | .hbm, ⟨13, _⟩ => ⟨S1x1x1024, .f32⟩
  | .hbm, ⟨14, _⟩ => ⟨S1024, .f32⟩
  | .hbm, ⟨15, _⟩ => ⟨S1x1024, .f32⟩
  | .hbm, ⟨16, _⟩ => ⟨S1x1x1024, .f32⟩
  | .hbm, ⟨17, _⟩ => ⟨S1024, .f32⟩
  | .hbm, ⟨18, _⟩ => ⟨S1x1024, .f32⟩
  | .hbm, ⟨19, _⟩ => ⟨S32768x1024, .f32⟩
  | .hbm, ⟨20, _⟩ => ⟨S32768x1024, .bf16⟩
  | .hbm, ⟨21, _⟩ => ⟨S131072x2x128, .bf16⟩
  | .local _ .vmem, ⟨0, _⟩ => ⟨S256x768, .f32⟩
  | .local _ .vmem, ⟨1, _⟩ => ⟨S256x768, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S768x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1024x2x128, .bf16⟩
  | .local _ .vmem, ⟨15, _⟩ => ⟨S1024x2x128, .bf16⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x2x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceMixIdeal.lean ====
abbrev S8x4096x768 : Shape := ⟨3, ![8, 4096, 768]⟩
abbrev S8x4096x256 : Shape := ⟨3, ![8, 4096, 256]⟩
abbrev S8x4096x1024 : Shape := ⟨3, ![8, 4096, 1024]⟩
abbrev S1x1024x1024 : Shape := ⟨3, ![1, 1024, 1024]⟩
abbrev S2x2x1024 : Shape := ⟨3, ![2, 2, 1024]⟩
abbrev S1024x1024 : Shape := ⟨2, ![1024, 1024]⟩
abbrev S_ : Shape := ⟨0, ![]⟩
abbrev S1x1x1024 : Shape := ⟨3, ![1, 1, 1024]⟩
abbrev S1024 : Shape := ⟨1, ![1024]⟩
abbrev S8x4096 : Shape := ⟨2, ![8, 4096]⟩
abbrev S8x4096x1 : Shape := ⟨3, ![8, 4096, 1]⟩
abbrev S32768x1024 : Shape := ⟨2, ![32768, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S8x4096x256, .f32⟩
  | .hbm, ⟨2, _⟩ => ⟨S8x4096x1024, .f32⟩
  | .hbm, ⟨3, _⟩ => ⟨S1x1024x1024, .f32⟩
  | .hbm, ⟨4, _⟩ => ⟨S2x2x1024, .f32⟩
  | .hbm, ⟨5, _⟩ => ⟨S2x2x1024, .f32⟩
  | .hbm, ⟨6, _⟩ => ⟨S8x4096x1024, .f32⟩
  | .hbm, ⟨7, _⟩ => ⟨S1024x1024, .f32⟩
  | .hbm, ⟨8, _⟩ => ⟨S8x4096x1024, .f32⟩
  | .hbm, ⟨9, _⟩ => ⟨S_, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S1x1x1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S1x1x1024, .f32⟩
  | .hbm, ⟨41, _⟩ => ⟨S8x4096x1024, .f32⟩
  | .hbm, ⟨42, _⟩ => ⟨S8x4096x1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | .hbm, ⟨46, _⟩ => ⟨S32768x1024, .f32⟩
  | .hbm, ⟨47, _⟩ => ⟨S32768x1024, .bf16⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Memory.lean ====
abbrev S8x4096x1024 : Shape := ⟨3, ![8, 4096, 1024]⟩
abbrev S8x256x512 : Shape := ⟨3, ![8, 256, 512]⟩
abbrev S32768x1024 : Shape := ⟨2, ![32768, 1024]⟩
abbrev S2048x512 : Shape := ⟨2, ![2048, 512]⟩
abbrev S32768x256 : Shape := ⟨2, ![32768, 256]⟩
abbrev S512x256 : Shape := ⟨2, ![512, 256]⟩
abbrev S256x512 : Shape := ⟨2, ![256, 512]⟩
abbrev S512x128 : Shape := ⟨2, ![512, 128]⟩
abbrev S256x128 : Shape := ⟨2, ![256, 128]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S8x256x512, .f32⟩
  | .hbm, ⟨2, _⟩ => ⟨S32768x1024, .f32⟩
  | .hbm, ⟨3, _⟩ => ⟨S2048x512, .f32⟩
  | .hbm, ⟨4, _⟩ => ⟨S32768x256, .f32⟩
  | .local _ .vmem, ⟨0, _⟩ => ⟨S512x256, .f32⟩
  | .local _ .vmem, ⟨1, _⟩ => ⟨S512x256, .f32⟩
  | .local _ .vmem, ⟨2, _⟩ => ⟨S256x512, .f32⟩
  | .local _ .vmem, ⟨3, _⟩ => ⟨S256x512, .f32⟩
  | .local _ .vmem, ⟨4, _⟩ => ⟨S512x256, .f32⟩
  | .local _ .vmem, ⟨5, _⟩ => ⟨S512x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMemoryIdeal.lean ====
abbrev S8x4096x1024 : Shape := ⟨3, ![8, 4096, 1024]⟩
abbrev S8x256x512 : Shape := ⟨3, ![8, 256, 512]⟩
abbrev S8x4096x768 : Shape := ⟨3, ![8, 4096, 768]⟩
abbrev S8x4096x256 : Shape := ⟨3, ![8, 4096, 256]⟩
abbrev S8x256x256 : Shape := ⟨3, ![8, 256, 256]⟩
abbrev S8x4096x4x64 : Shape := ⟨4, ![8, 4096, 4, 64]⟩
abbrev S8x256x4x64 : Shape := ⟨4, ![8, 256, 4, 64]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S32768x256 : Shape := ⟨2, ![32768, 256]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x512, .f32⟩
  | .hbm, ⟨2, _⟩ => ⟨S8x4096x768, .f32⟩
  | .hbm, ⟨3, _⟩ => ⟨S8x4096x256, .f32⟩
  | .hbm, ⟨4, _⟩ => ⟨S8x256x256, .f32⟩
  | .hbm, ⟨5, _⟩ => ⟨S8x256x256, .f32⟩
  | .hbm, ⟨6, _⟩ => ⟨S8x4096x4x64, .f32⟩
  | .hbm, ⟨7, _⟩ => ⟨S8x256x4x64, .f32⟩
  | .hbm, ⟨8, _⟩ => ⟨S8x256x4x64, .f32⟩
  | .hbm, ⟨9, _⟩ => ⟨S8x4x4096x256, .f32⟩
  | .hbm, ⟨10, _⟩ => ⟨S_, .f32⟩
  | .hbm, ⟨11, _⟩ => ⟨S8x4x4096x256, .f32⟩
  | .hbm, ⟨12, _⟩ => ⟨S8x4x4096x256, .f32⟩
  | .hbm, ⟨13, _⟩ => ⟨S_, .f32⟩
  | .hbm, ⟨14, _⟩ => ⟨S8x4x4096, .f32⟩
  | .hbm, ⟨15, _⟩ => ⟨S_, .f32⟩
  | .hbm, ⟨16, _⟩ => ⟨S8x4x4096, .f32⟩
  | .hbm, ⟨17, _⟩ => ⟨S8x4x4096, .f32⟩
  | .hbm, ⟨18, _⟩ => ⟨S8x4x4096x1, .f32⟩
  | .hbm, ⟨19, _⟩ => ⟨S8x4x4096x256, .f32⟩
  | .hbm, ⟨20, _⟩ => ⟨S8x4x4096x256, .f32⟩
  | .hbm, ⟨21, _⟩ => ⟨S8x4x4096x256, .f32⟩
  | .hbm, ⟨22, _⟩ => ⟨S_, .f32⟩
  | .hbm, ⟨23, _⟩ => ⟨S8x4x4096, .f32⟩
  | .hbm, ⟨24, _⟩ => ⟨S8x4x4096x1, .f32⟩
  | .hbm, ⟨25, _⟩ => ⟨S8x4x4096x256, .f32⟩
  | .hbm, ⟨26, _⟩ => ⟨S8x4x4096x256, .f32⟩
  | .hbm, ⟨27, _⟩ => ⟨S8x4x64x4096, .f32⟩
  | .hbm, ⟨28, _⟩ => ⟨S8x4096x4x64, .f32⟩
  | .hbm, ⟨29, _⟩ => ⟨S32768x256, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Proof.Blocks.lean ====
module

public import proofs.«01_k».proof.Proof.Gen.KernelIdeal.Frame
public import proofs.«01_k».proof.Proof.Gen.KernelIdeal.Skeleton

@[expose] public section

set_option maxRecDepth 16384

noncomputable section

namespace Cert.KernelIdeal.Stick

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! # One head's walk over the key blocks, latest block first

A query block `i` (256 queries) meets the key blocks `i, i - 1, …, 0` in this order. Each meeting has two halves:
the scores of the block, kept as three arrays (the log-sigmoid, and the log of the complement as a coarse and a fine
half), and their use, which adds the block's weighted values to the output and the block's log mass to the running sum. -/

/-- The scores of one key block as the kernel keeps them: the log-sigmoid of the scores, and the log of one minus the
    sigmoid as a coarse half and the remainder. -/
structure Staged (F : FTy → Type) where
  ls : FVec F S256x256 .f32
  hi : FVec F S256x256 .bf16
  lo : FVec F S256x256 .bf16

/-- Key (or value) block `j` of an array of 16 blocks of 256 rows. -/
def blk (x : Vec F S4096x128 .bf16) (j : ℕ) : Vec F S256x128 .bf16 :=
  View.ld x (Rect.unit (s := S4096x128) ![256 * min j 15, 0] S256x128.size
    (by intro a; fin_cases a <;> simp [S256x128, S4096x128] <;> omega))

/-- The query's place in its block, at each entry of a block's score array. -/
def rows : IVec S256x256 32 := iota .tc S256x256 32 [0] iota_S256x256_d0_w32

/-- The key's place in its block. -/
def cols : IVec S256x256 32 := iota .tc S256x256 32 [1] iota_S256x256_d1_w32

/-- The scores of a key block before the query block: no mask. -/
def plain (q k : FVec F S256x128 .bf16) : Staged F :=
  ⟨k0_pay8 q k, k0_pay9 q k, k0_pay10 q k⟩

/-- The scores of the query block's own key block: only the keys before the query. -/
def diag (q k : FVec F S256x128 .bf16) : Staged F :=
  ⟨k0_pay148 rows cols q k,
   k0_pay149 rows cols q k,
   k0_pay150 rows cols q k⟩

/-- The scores met at step `s` of query block `i`. -/
def staged (i : ℕ) (q : FVec F S256x128 .bf16) (K : Vec F S4096x128 .bf16) (s : ℕ) : Staged F :=
  if s = 0 then diag q (blk K i) else plain q (blk K (i - s))

/-- The output after a block is used: the old one and the block's weighted values. -/
def stepAcc (u : FVec F S256x256 .bf16) (v : Vec F S256x128 .bf16) (t : Staged F) (run acc : FVec F S256x128 .f32) :
    FVec F S256x128 .f32 :=
  k0_pay23 (k0_pay19 v) (k0_pay20 u t.hi t.lo) run t.ls acc

/-- The running log mass after a block is used. -/
def stepRun (u : FVec F S256x256 .bf16) (t : Staged F) (run : FVec F S256x128 .f32) : FVec F S256x128 .f32 :=
  k0_pay24 t.hi t.lo (k0_pay20 u t.hi t.lo) run

/-- The running log mass (first) and the output (second) after `s` steps of query block `i`. -/
def walk (u : FVec F S256x256 .bf16) (i : ℕ) (q : FVec F S256x128 .bf16) (K V : Vec F S4096x128 .bf16) :
    ℕ → FVec F S256x128 .f32 × FVec F S256x128 .f32
  | 0 => (k0_pay137, k0_pay137)
  | s + 1 =>
    let p := walk u i q K V s
    (stepRun u (staged i q K s) p.1, stepAcc u (blk V (i - s)) (staged i q K s) p.1 p.2)

theorem staged_zero (i : ℕ) (q : FVec F S256x128 .bf16) (K : Vec F S4096x128 .bf16) :
    staged i q K 0 = diag q (blk K i) := if_pos rfl

theorem staged_succ (i : ℕ) (q : FVec F S256x128 .bf16) (K : Vec F S4096x128 .bf16) (s : ℕ) :
    staged i q K (s + 1) = plain q (blk K (i - (s + 1))) := if_neg (Nat.succ_ne_zero s)

/-- A load of a block is the block, whatever the offsets are written as. -/
theorem ld_blk (x : Vec F S4096x128 .bf16) {off : Fin 2 → ℕ} (j : ℕ) (h : off = ![256 * min j 15, 0])
    (inb : ∀ a, off a + S256x128.size a ≤ S4096x128.size a) :
    View.ld x (Rect.unit (s := S4096x128) off S256x128.size inb) = blk x j := by
  subst h; rfl

end Cert.KernelIdeal.Stick
-- ==== Proof.Trip.lean ====
module

public import proofs.«01_k».proof.Proof.Gen.KernelIdeal.Frame
public import proofs.«01_k».proof.Proof.Gen.KernelIdeal.Loops
public import proofs.«01_k».proof.Proof.Blocks
public import Idealize.ShloMosaic.Lib.Pipeline.Value

@[expose] public section

set_option maxRecDepth 16384

noncomputable section

namespace Cert.KernelIdeal.Stick

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! # One trip of the counted loop: two key blocks -/

theorem off00 : (![0, 0] : Fin 2 → ℕ) = fun _ => 0 := by funext a; fin_cases a <;> rfl

/-- What a buffer written whole reads: the last payload. -/
theorem read_unit_cons {S : Shape} {e : EltTy} (v : View sig .tc .vmem S e) (f : v.ty.Contents (Elt F)) {off : Fin S.rank → ℕ}
    (h : off = fun _ => 0) (inb : ∀ a, off a + S.size a ≤ S.size a) (w : Vec F S e) (L : List (View.Piece (Elt F) S e)) :
    v.read (Elt F) (v.writes (Elt F) f (⟨Rect.unit off S.size inb, w⟩ :: L)) = w := by
  subst h
  rw [View.read_writes_eq_canon _ _ _ (fun y => ⟨_, List.mem_cons_self, by
    show y ∈ (Rect.whole S).set; rw [Rect.set_whole]; exact Finset.mem_univ y⟩)]
  exact View.canon_cons_unit_zero rfl inb w L

/-- A load of the whole of a buffer written whole reads the last payload. -/
theorem readCov_unit_cons {S : Shape} {e : EltTy} (v : View sig .tc .vmem S e) {off : Fin S.rank → ℕ}
    (h : off = fun _ => 0) (inb inb' : ∀ a, off a + S.size a ≤ S.size a) (w : Vec F S e) (L : List (View.Piece (Elt F) S e)) :
    v.readCov (⟨Rect.unit off S.size inb, w⟩ :: L) (Rect.unit off S.size inb').toLoadRect = w := by
  show View.ld (v.read (Elt F) (v.writes (Elt F) v.junk _)) (Rect.unit off S.size inb') = w
  rw [read_unit_cons v _ h, View.ld_unit_zero h]

section Whole
variable {e : EltTy}

theorem read_scores (v : View sig .tc .vmem S256x256 e) (f : v.ty.Contents (Elt F))
    (inb : ∀ a, (![0, 0] : Fin 2 → ℕ) a + S256x256.size a ≤ S256x256.size a) (w : Vec F S256x256 e) (L : List (View.Piece (Elt F) S256x256 e)) :
    v.read (Elt F) (v.writes (Elt F) f (⟨Rect.unit ![0, 0] (no_index S256x256.size) inb, w⟩ :: L)) = w :=
  read_unit_cons v f off00 inb w L
theorem readCov_scores (v : View sig .tc .vmem S256x256 e)
    (inb inb' : ∀ a, (![0, 0] : Fin 2 → ℕ) a + S256x256.size a ≤ S256x256.size a) (w : Vec F S256x256 e) (L : List (View.Piece (Elt F) S256x256 e)) :
    v.readCov (⟨Rect.unit ![0, 0] (no_index S256x256.size) inb, w⟩ :: L) (Rect.unit ![0, 0] (no_index S256x256.size) inb').toLoadRect = w :=
  readCov_unit_cons v off00 inb inb' w L
theorem ld_scores (x : Vec F S256x256 e)
    (inb : ∀ a, (![0, 0] : Fin 2 → ℕ) a + S256x256.size a ≤ S256x256.size a) :
    View.ld x (Rect.unit (s := S256x256) ![0, 0] (no_index S256x256.size) inb) = x :=
  View.ld_unit_zero off00 inb x
theorem read_rows (v : View sig .tc .vmem S256x128 e) (f : v.ty.Contents (Elt F))
    (inb : ∀ a, (![0, 0] : Fin 2 → ℕ) a + S256x128.size a ≤ S256x128.size a) (w : Vec F S256x128 e) (L : List (View.Piece (Elt F) S256x128 e)) :
    v.read (Elt F) (v.writes (Elt F) f (⟨Rect.unit ![0, 0] (no_index S256x128.size) inb, w⟩ :: L)) = w :=
  read_unit_cons v f off00 inb w L
theorem readCov_rows (v : View sig .tc .vmem S256x128 e)
    (inb inb' : ∀ a, (![0, 0] : Fin 2 → ℕ) a + S256x128.size a ≤ S256x128.size a) (w : Vec F S256x128 e) (L : List (View.Piece (Elt F) S256x128 e)) :
    v.readCov (⟨Rect.unit ![0, 0] (no_index S256x128.size) inb, w⟩ :: L) (Rect.unit ![0, 0] (no_index S256x128.size) inb').toLoadRect = w :=
  readCov_unit_cons v off00 inb inb' w L
theorem ld_rows (x : Vec F S256x128 e)
    (inb : ∀ a, (![0, 0] : Fin 2 → ℕ) a + S256x128.size a ≤ S256x128.size a) :
    View.ld x (Rect.unit (s := S256x128) ![0, 0] (no_index S256x128.size) inb) = x :=
  View.ld_unit_zero off00 inb x
end Whole

/-- The key blocks a trip reads are the two before the one at hand, -/
theorem off2_1_eq : ∀ (i : grid0.Coords) (k : Fin (k0_t1_loop i).trips),
    k0_off2 i k 1#32 = ![256 * min ((i 2).val - (2 * k.val + 1)) 15, 0] := by decide +kernel

theorem off2_2_eq : ∀ (i : grid0.Coords) (k : Fin (k0_t1_loop i).trips),
    k0_off2 i k 2#32 = ![256 * min ((i 2).val - (2 * k.val + 1 + 1)) 15, 0] := by decide +kernel

/-- and the value block it uses first the one at hand. -/
theorem off3_eq : ∀ (i : grid0.Coords) (k : Fin (k0_t1_loop i).trips),
    k0_off3 i k = ![256 * min ((i 2).val - 2 * k.val) 15, 0] := by decide +kernel

/-- The scratch buffers of a query block between two steps: the outputs and running sums of both heads, the scores at
    hand of both heads, and the second set of score buffers at anything. -/
def State (c : Dev nD) (arg7 : Memref sig .tc .vmem S256x128 .f32) (arg8 : Memref sig .tc .vmem S256x128 .f32) (arg9 : Memref sig .tc .vmem S256x128 .f32) (arg10 : Memref sig .tc .vmem S256x128 .f32) (arg11 : Memref sig .tc .vmem S256x256 .f32) (arg12 : Memref sig .tc .vmem S256x256 .f32) (arg13 : Memref sig .tc .vmem S256x256 .bf16) (arg14 : Memref sig .tc .vmem S256x256 .bf16) (arg15 : Memref sig .tc .vmem S256x256 .bf16) (arg16 : Memref sig .tc .vmem S256x256 .bf16) (arg17 : Memref sig .tc .vmem S256x256 .f32) (arg18 : Memref sig .tc .vmem S256x256 .f32) (arg19 : Memref sig .tc .vmem S256x256 .bf16) (arg20 : Memref sig .tc .vmem S256x256 .bf16) (arg21 : Memref sig .tc .vmem S256x256 .bf16) (arg22 : Memref sig .tc .vmem S256x256 .bf16) (a b : FVec F S256x128 .f32 × FVec F S256x128 .f32) (s t : Staged F) : sProp 𝕄 :=
  iprop(owns (c : Thread nD τ) arg7 fullShare a.2
    ∗ owns (c : Thread nD τ) arg8 fullShare b.2
    ∗ owns (c : Thread nD τ) arg9 fullShare a.1
    ∗ owns (c : Thread nD τ) arg10 fullShare b.1
    ∗ owns (c : Thread nD τ) arg11 fullShare s.ls
    ∗ owns (c : Thread nD τ) arg12 fullShare t.ls
    ∗ owns (c : Thread nD τ) arg13 fullShare s.hi
    ∗ owns (c : Thread nD τ) arg14 fullShare t.hi
    ∗ owns (c : Thread nD τ) arg15 fullShare s.lo
    ∗ owns (c : Thread nD τ) arg16 fullShare t.lo
    ∗ (∃ d, owns (c : Thread nD τ) arg17 fullShare d)
    ∗ (∃ d, owns (c : Thread nD τ) arg18 fullShare d)
    ∗ (∃ d, owns (c : Thread nD τ) arg19 fullShare d)
    ∗ (∃ d, owns (c : Thread nD τ) arg20 fullShare d)
    ∗ (∃ d, owns (c : Thread nD τ) arg21 fullShare d)
    ∗ (∃ d, owns (c : Thread nD τ) arg22 fullShare d))

variable (c : Dev nD) (i : grid0.Coords) (arg3 : Memref sig .tc .vmem S256x128 .f32) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x256 .bf16) (harg15 : arg15.IsWhole) (arg16 : Memref sig .tc .vmem S256x256 .bf16) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .bf16) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x256 .bf16) (harg22 : arg22.IsWhole)

set_option maxHeartbeats 1600000 in
/-- One trip uses the block at hand and the one before it, and leaves the scores of the next. -/
theorem trip (arg2 : BitVec 32) (u : FVec F S256x256 .bf16) (qa qb : FVec F S256x128 .bf16) (v100 : BitVec 32) (v114 : BitVec 1) (v115 : BitVec 32)
    (K V : Vec F S4096x128 .bf16) (a b : FVec F S256x128 .f32 × FVec F S256x128 .f32) (s t : Staged F) (k : Fin (k0_t1_loop i).trips) :
    iprop(owns (c : Thread nD τ) arg4 fullShare K ∗ owns (c : Thread nD τ) arg5 fullShare V ∗ State c arg7 arg8 arg9 arg10 arg11 arg12 arg13 arg14 arg15 arg16 arg17 arg18 arg19 arg20 arg21 arg22 a b s t)
      ⊢ wp frame (wpE (defs₀ (F := F)) Variants.none c none) Set.univ
        (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 u qa qb v100 v114 v115 k ())
        fun _ => iprop(owns (c : Thread nD τ) arg4 fullShare K ∗ owns (c : Thread nD τ) arg5 fullShare V
          ∗ State c arg7 arg8 arg9 arg10 arg11 arg12 arg13 arg14 arg15 arg16 arg17 arg18 arg19 arg20 arg21 arg22
            (stepRun u (plain qa (blk K ((i 2).val - (2 * k.val + 1)))) (stepRun u s a.1),
             stepAcc u (blk V ((i 2).val - (2 * k.val + 1))) (plain qa (blk K ((i 2).val - (2 * k.val + 1)))) (stepRun u s a.1)
              (stepAcc u (blk V ((i 2).val - 2 * k.val)) s a.1 a.2))
            (stepRun u (plain qb (blk K ((i 2).val - (2 * k.val + 1)))) (stepRun u t b.1),
             stepAcc u (blk V ((i 2).val - (2 * k.val + 1))) (plain qb (blk K ((i 2).val - (2 * k.val + 1)))) (stepRun u t b.1)
              (stepAcc u (blk V ((i 2).val - 2 * k.val)) t b.1 b.2))
            (plain qa (blk K ((i 2).val - (2 * k.val + 1 + 1)))) (plain qb (blk K ((i 2).val - (2 * k.val + 1 + 1))))) := by
  unfold k0_t1_body
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel State owns
  obtain ⟨ls, hi, lo⟩ := s
  obtain ⟨ls', hi', lo'⟩ := t
  obtain ⟨a9, a7⟩ := a
  obtain ⟨b10, b8⟩ := b
  dsimp only
  iintro ⟨⟨%f4, %h4, H4⟩, ⟨%f5, %h5, H5⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩⟩
  subst h4 h5 h7 h8 h9 h10 h11 h12 h13 h14 h15 h16
  sl_exec
  sl_step
  sl_unfold_words
  rw [← ld_blk (arg4.view.read (Elt F) f4) _ (off2_1_eq i k) (k0_off2_inb i k 0), ← ld_blk (arg4.view.read (Elt F) f4) _ (off2_2_eq i k) (k0_off2_inb i k 1),
    ← ld_blk (arg5.view.read (Elt F) f5) _ (off2_1_eq i k) (k0_off2_inb i k 0), ← ld_blk (arg5.view.read (Elt F) f5) _ (off3_eq i k) (k0_off3_inb i k)]
  isplitl [H4]
  · iexists f4; isplitr; · ipureintro; rfl
    iexact H4
  isplitl [H5]
  · iexists f5; isplitr; · ipureintro; rfl
    iexact H5
  isplitl [H7]
  · iexists _; isplitr
    swap; · iexact H7
    ipureintro
    simp only [read_scores, read_rows, readCov_scores, readCov_rows, View.readAt_eq_ld, ld_scores, ld_rows]
    rfl
  isplitl [H8]
  · iexists _; isplitr
    swap; · iexact H8
    ipureintro
    simp only [read_scores, read_rows, readCov_scores, readCov_rows, View.readAt_eq_ld, ld_scores, ld_rows]
    rfl
  isplitl [H9]
  · iexists _; isplitr
    swap; · iexact H9
    ipureintro
    simp only [read_scores, read_rows, readCov_scores, readCov_rows, View.readAt_eq_ld, ld_scores, ld_rows]
    rfl
  isplitl [H10]
  · iexists _; isplitr
    swap; · iexact H10
    ipureintro
    simp only [read_scores, read_rows, readCov_scores, readCov_rows, View.readAt_eq_ld, ld_scores, ld_rows]
    rfl
  isplitl [H11]
  · iexists _; isplitr
    swap; · iexact H11
    ipureintro
    simp only [read_scores, read_rows, readCov_scores, readCov_rows, View.readAt_eq_ld, ld_scores, ld_rows]
    rfl
  isplitl [H12]
  · iexists _; isplitr
    swap; · iexact H12
    ipureintro
    simp only [read_scores, read_rows, readCov_scores, readCov_rows, View.readAt_eq_ld, ld_scores, ld_rows]
    rfl
  isplitl [H13]
  · iexists _; isplitr
    swap; · iexact H13
    ipureintro
    simp only [read_scores, read_rows, readCov_scores, readCov_rows, View.readAt_eq_ld, ld_scores, ld_rows]
    rfl
  isplitl [H14]
  · iexists _; isplitr
    swap; · iexact H14
    ipureintro
    simp only [read_scores, read_rows, readCov_scores, readCov_rows, View.readAt_eq_ld, ld_scores, ld_rows]
    rfl
  isplitl [H15]
  · iexists _; isplitr
    swap; · iexact H15
    ipureintro
    simp only [read_scores, read_rows, readCov_scores, readCov_rows, View.readAt_eq_ld, ld_scores, ld_rows]
    rfl
  isplitl [H16]
  · iexists _; isplitr
    swap; · iexact H16
    ipureintro
    simp only [read_scores, read_rows, readCov_scores, readCov_rows, View.readAt_eq_ld, ld_scores, ld_rows]
    rfl
  isplitl [H17]
  · iexists _, _; isplitr
    swap; · iexact H17
    ipureintro; rfl
  isplitl [H18]
  · iexists _, _; isplitr
    swap; · iexact H18
    ipureintro; rfl
  isplitl [H19]
  · iexists _, _; isplitr
    swap; · iexact H19
    ipureintro; rfl
  isplitl [H20]
  · iexists _, _; isplitr
    swap; · iexact H20
    ipureintro; rfl
  isplitl [H21]
  · iexists _, _; isplitr
    swap; · iexact H21
    ipureintro; rfl
  iexists _, _; isplitr
  swap; · iexact H22
  ipureintro; rfl

end Cert.KernelIdeal.Stick
-- ==== Proof.Rest.lean ====
module

public import proofs.«01_k».proof.Proof.Gen.KernelIdeal.Frame
public import proofs.«01_k».proof.Proof.Trip

@[expose] public section

set_option maxRecDepth 16384

noncomputable section

namespace Cert.KernelIdeal.Stick

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! # The kernel at one grid point: a query block against all the key blocks up to its own -/

/-- The loop makes one trip per two blocks before the query's own. -/
theorem trips_eq : ∀ i : grid0.Coords, (k0_t1_loop i).trips = (i 2).val / 2 := by decide +kernel

/-- An odd block number leaves two blocks to use, -/
theorem odd_iff : ∀ i : grid0.Coords, k0_cond1 i = 1#1 ↔ (i 2).val % 2 = 1 := by decide +kernel

/-- an even one leaves one. -/
theorem even_iff : ∀ i : grid0.Coords, k0_cond2 i = 1#1 ↔ (i 2).val % 2 = 0 := by decide +kernel

/-- The key-after-key mask as numbers: one where the first key comes after the second. -/
def after : FVec F S256x256 .bf16 := k0_pay132

/-- The scaled queries of the first head (the lanes of the second at zero), -/
def headA (x : Vec F S256x128 .f32) : FVec F S256x128 .bf16 := k0_pay135 x

/-- and of the second. -/
def headB (x : Vec F S256x128 .f32) : FVec F S256x128 .bf16 := k0_pay136 x

/-- What the kernel leaves in a query block: each head's output on its own lanes. -/
def outBlk (i : ℕ) (x : Vec F S256x128 .f32) (K V : Vec F S4096x128 .bf16) : Vec F S256x128 .f32 :=
  k0_pay1 k0_pay133 (walk after i (headA x) K V (i + 1)).2 (walk after i (headB x) K V (i + 1)).2

/-- The last step uses block 0 with the scores at hand. -/
theorem walk_last (u : FVec F S256x256 .bf16) (i : ℕ) (q : FVec F S256x128 .bf16) (K V : Vec F S4096x128 .bf16) :
    (walk u i q K V (i + 1)).2 = stepAcc u (blk V 0) (staged i q K i) (walk u i q K V i).1 (walk u i q K V i).2 := by
  show stepAcc u (blk V (i - i)) _ _ _ = _
  rw [Nat.sub_self]

/-- The last two steps use block 1 with the scores at hand and block 0 with its own. -/
theorem walk_last_two (u : FVec F S256x256 .bf16) (i : ℕ) (q : FVec F S256x128 .bf16) (K V : Vec F S4096x128 .bf16) (hi : 0 < i) :
    (walk u i q K V (i + 1)).2 = stepAcc u (blk V 0) (plain q (blk K 0))
      (stepRun u (staged i q K (i - 1)) (walk u i q K V (i - 1)).1)
      (stepAcc u (blk V 1) (staged i q K (i - 1)) (walk u i q K V (i - 1)).1 (walk u i q K V (i - 1)).2) := by
  obtain ⟨n, rfl⟩ : ∃ n, i = n + 1 := ⟨i - 1, by omega⟩
  rw [walk_last, staged_succ]
  show stepAcc u (blk V 0) (plain q (blk K (n + 1 - (n + 1)))) (stepRun u (staged (n + 1) q K n) _) (stepAcc u (blk V (n + 1 - n)) _ _ _) = _
  rw [Nat.sub_self, show n + 1 - n = 1 by omega, show n + 1 - 1 = n by omega]

variable (c : Dev nD) (i : grid0.Coords) (arg3 : Memref sig .tc .vmem S256x128 .f32) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x256 .bf16) (harg15 : arg15.IsWhole) (arg16 : Memref sig .tc .vmem S256x256 .bf16) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .bf16) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x256 .bf16) (harg22 : arg22.IsWhole)

/-- Before trip `k` of the loop `2 k` blocks are used and the scores of the next are at hand. -/
def inv (x : Vec F S256x128 .f32) (K V : Vec F S4096x128 .bf16) (k : ℕ) (_ : Unit) : sProp 𝕄 :=
  iprop(owns (c : Thread nD τ) arg4 fullShare K ∗ owns (c : Thread nD τ) arg5 fullShare V
    ∗ State c arg7 arg8 arg9 arg10 arg11 arg12 arg13 arg14 arg15 arg16 arg17 arg18 arg19 arg20 arg21 arg22 (walk after (i 2).val (headA x) K V (2 * k)) (walk after (i 2).val (headB x) K V (2 * k))
      (staged (i 2).val (headA x) K (2 * k)) (staged (i 2).val (headB x) K (2 * k)))

/-- A trip keeps it. -/
theorem inv_step (x : Vec F S256x128 .f32) (K V : Vec F S4096x128 .bf16) (arg2 : BitVec 32) (v100 : BitVec 32) (v114 : BitVec 1) (v115 : BitVec 32)
    (k : Fin (k0_t1_loop i).trips) (acc : Unit) :
    inv c i arg4 arg5 arg7 arg8 arg9 arg10 arg11 arg12 arg13 arg14 arg15 arg16 arg17 arg18 arg19 arg20 arg21 arg22 x K V k acc
      ⊢ wp frame (wpE (defs₀ (F := F)) Variants.none c none) Set.univ
        (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 k0_pay132 (k0_pay135 x) (k0_pay136 x) v100 v114 v115 k acc)
        (inv c i arg4 arg5 arg7 arg8 arg9 arg10 arg11 arg12 arg13 arg14 arg15 arg16 arg17 arg18 arg19 arg20 arg21 arg22 x K V (k.val + 1)) := by
  have h := trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 k0_pay132 (k0_pay135 x) (k0_pay136 x) v100 v114 v115 K V
    (walk after (i 2).val (headA x) K V (2 * k.val)) (walk after (i 2).val (headB x) K V (2 * k.val))
    (staged (i 2).val (headA x) K (2 * k.val)) (staged (i 2).val (headB x) K (2 * k.val)) k
  exact h

/-- What a query block's steps leave: the first head's output as the value, the second's in its buffer. -/
def Done (x : Vec F S256x128 .f32) (K V : Vec F S4096x128 .bf16) (v : Vec F S256x128 .f32) : sProp 𝕄 :=
  iprop(⌜v = (walk after (i 2).val (headA x) K V ((i 2).val + 1)).2⌝
    ∗ owns (c : Thread nD τ) arg4 fullShare K ∗ owns (c : Thread nD τ) arg5 fullShare V
    ∗ owns (c : Thread nD τ) arg8 fullShare (walk after (i 2).val (headB x) K V ((i 2).val + 1)).2
    ∗ (∃ d, owns (c : Thread nD τ) arg7 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d))

set_option maxHeartbeats 1600000 in
/-- An odd block: the loop, then the last two blocks. -/
theorem rest_odd (hpar : (i 2).val % 2 = 1) (x : Vec F S256x128 .f32) (K V : Vec F S4096x128 .bf16) (arg2 : BitVec 32) (v100 : BitVec 32) (v114 : BitVec 1) (v115 : BitVec 32)
    (Q : Vec F S256x128 .f32 → sProp 𝕄) :
    iprop(inv c i arg4 arg5 arg7 arg8 arg9 arg10 arg11 arg12 arg13 arg14 arg15 arg16 arg17 arg18 arg19 arg20 arg21 arg22 x K V 0 ()
        ∗ (∀ v, Done c i arg4 arg5 arg7 arg8 arg9 arg10 arg11 arg12 arg13 arg14 arg15 arg16 arg17 arg18 arg19 arg20 arg21 arg22 x K V v -∗ Q v))
      ⊢ wp frame (wpE (defs₀ (F := F)) Variants.none c none) Set.univ
        (k0_part21 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 k0_pay132 (k0_pay135 x) (k0_pay136 x) v100 v114 v115) Q := by
  have ht : 2 * (k0_t1_loop i).trips = (i 2).val - 1 := by rw [trips_eq]; omega
  have h1 : k0_cond1 i = 1#1 := by rw [odd_iff]; omega
  have h2 : ¬ k0_cond2 i = 1#1 := by rw [even_iff]; omega
  simp only [k0_part21_eq_skeleton]
  unfold k0_part21_skel
  simp only [k0_part13_eq_skeleton, k0_part14_eq_skeleton, k0_part15_eq_skeleton, k0_part16_eq_skeleton]
  unfold k0_part13_skel k0_part14_skel k0_part15_skel k0_part16_skel
  simp only [dif_pos h1, dif_neg h2]
  iintro ⟨HI, Hk⟩
  sl_for (inv c i arg4 arg5 arg7 arg8 arg9 arg10 arg11 arg12 arg13 arg14 arg15 arg16 arg17 arg18 arg19 arg20 arg21 arg22 x K V) $$ [HI]
  · exact inv_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x K V arg2 v100 v114 v115
  · iexact HI
  iintro %acc HI
  sl_for (fun _ _ => inv c i arg4 arg5 arg7 arg8 arg9 arg10 arg11 arg12 arg13 arg14 arg15 arg16 arg17 arg18 arg19 arg20 arg21 arg22 x K V (k0_t1_loop i).trips ()) $$ [HI]
  · intro k _; exact absurd k.isLt (Nat.not_lt.2 (Nat.le_trans (k0_t2_abs i).2.1 (Nat.zero_le _)))
  · iexact HI
  iintro %acc' HI
  unfold inv State owns
  icases HI with ⟨⟨%f4, %h4, H4⟩, ⟨%f5, %h5, H5⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩⟩
  sl_exec
  sl_step
  sl_unfold_words
  iapply Hk
  unfold Done owns
  isplitr
  · ipureintro
    simp only [read_scores, read_rows, readCov_scores, readCov_rows, View.readAt_eq_ld, ld_scores, ld_rows, h4, h5, h7, h8, h9, h10, h11, h12, h13, h14, h15, h16, ht]
    rw [walk_last_two _ _ _ _ _ (by omega), ← ld_blk K 0 (off := ![0, 0]) rfl inb_S4096x128_S256x128_0_0, ← ld_blk V 0 (off := ![0, 0]) rfl inb_S4096x128_S256x128_0_0, ← ld_blk V 1 (off := ![256, 0]) rfl inb_S4096x128_S256x128_256_0]
    rfl
  isplitl [H4]
  · iexists _; isplitr
    swap; · iexact H4
    ipureintro; exact h4
  isplitl [H5]
  · iexists _; isplitr
    swap; · iexact H5
    ipureintro; exact h5
  isplitl [H8]
  · iexists _; isplitr
    swap; · iexact H8
    ipureintro
    simp only [read_scores, read_rows, readCov_scores, readCov_rows, View.readAt_eq_ld, ld_scores, ld_rows, h4, h5, h7, h8, h9, h10, h11, h12, h13, h14, h15, h16, ht]
    rw [walk_last_two _ _ _ _ _ (by omega), ← ld_blk K 0 (off := ![0, 0]) rfl inb_S4096x128_S256x128_0_0, ← ld_blk V 0 (off := ![0, 0]) rfl inb_S4096x128_S256x128_0_0, ← ld_blk V 1 (off := ![256, 0]) rfl inb_S4096x128_S256x128_256_0]
    rfl
  isplitl [H7]
  · iexists _, _; isplitr
    swap; · iexact H7
    ipureintro; rfl
  isplitl [H9]
  · iexists _, _; isplitr
    swap; · iexact H9
    ipureintro; rfl
  isplitl [H10]
  · iexists _, _; isplitr
    swap; · iexact H10
    ipureintro; rfl
  isplitl [H11]
  · iexists _, _; isplitr
    swap; · iexact H11
    ipureintro; rfl
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [H16]
  · iexists _, _; isplitr
    swap; · iexact H16
    ipureintro; rfl
  isplitl [H17]
  · iexists _, _; isplitr
    swap; · iexact H17
    ipureintro; rfl
  isplitl [H18]
  · iexists _, _; isplitr
    swap; · iexact H18
    ipureintro; rfl
  isplitl [H19]
  · iexists _, _; isplitr
    swap; · iexact H19
    ipureintro; rfl
  isplitl [H20]
  · iexists _, _; isplitr
    swap; · iexact H20
    ipureintro; rfl
  isplitl [H21]
  · iexists _, _; isplitr
    swap; · iexact H21
    ipureintro; rfl
  iexists _, _; isplitr
  swap; · iexact H22
  ipureintro; rfl

set_option maxHeartbeats 1600000 in
/-- An even block: the loop, then the last block. -/
theorem rest_even (hpar : (i 2).val % 2 = 0) (x : Vec F S256x128 .f32) (K V : Vec F S4096x128 .bf16) (arg2 : BitVec 32) (v100 : BitVec 32) (v114 : BitVec 1) (v115 : BitVec 32)
    (Q : Vec F S256x128 .f32 → sProp 𝕄) :
    iprop(inv c i arg4 arg5 arg7 arg8 arg9 arg10 arg11 arg12 arg13 arg14 arg15 arg16 arg17 arg18 arg19 arg20 arg21 arg22 x K V 0 ()
        ∗ (∀ v, Done c i arg4 arg5 arg7 arg8 arg9 arg10 arg11 arg12 arg13 arg14 arg15 arg16 arg17 arg18 arg19 arg20 arg21 arg22 x K V v -∗ Q v))
      ⊢ wp frame (wpE (defs₀ (F := F)) Variants.none c none) Set.univ
        (k0_part21 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 k0_pay132 (k0_pay135 x) (k0_pay136 x) v100 v114 v115) Q := by
  have ht : 2 * (k0_t1_loop i).trips = (i 2).val := by rw [trips_eq]; omega
  have h1 : ¬ k0_cond1 i = 1#1 := by rw [odd_iff]; omega
  have h2 : k0_cond2 i = 1#1 := by rw [even_iff]; omega
  simp only [k0_part21_eq_skeleton]
  unfold k0_part21_skel
  simp only [k0_part17_eq_skeleton]
  unfold k0_part17_skel
  simp only [dif_neg h1, dif_pos h2]
  iintro ⟨HI, Hk⟩
  sl_for (inv c i arg4 arg5 arg7 arg8 arg9 arg10 arg11 arg12 arg13 arg14 arg15 arg16 arg17 arg18 arg19 arg20 arg21 arg22 x K V) $$ [HI]
  · exact inv_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x K V arg2 v100 v114 v115
  · iexact HI
  iintro %acc HI
  sl_for (fun _ _ => inv c i arg4 arg5 arg7 arg8 arg9 arg10 arg11 arg12 arg13 arg14 arg15 arg16 arg17 arg18 arg19 arg20 arg21 arg22 x K V (k0_t1_loop i).trips ()) $$ [HI]
  · intro k _; exact absurd k.isLt (Nat.not_lt.2 (Nat.le_trans (k0_t2_abs i).2.1 (Nat.zero_le _)))
  · iexact HI
  iintro %acc' HI
  unfold inv State owns
  icases HI with ⟨⟨%f4, %h4, H4⟩, ⟨%f5, %h5, H5⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩⟩
  sl_exec
  sl_step
  sl_unfold_words
  iapply Hk
  unfold Done owns
  isplitr
  · ipureintro
    simp only [read_scores, read_rows, readCov_scores, readCov_rows, View.readAt_eq_ld, ld_scores, ld_rows, h4, h5, h7, h8, h9, h10, h11, h12, h13, h14, h15, h16, ht]
    rw [walk_last, ← ld_blk V 0 (off := ![0, 0]) rfl inb_S4096x128_S256x128_0_0]
    rfl
  isplitl [H4]
  · iexists _; isplitr
    swap; · iexact H4
    ipureintro; exact h4
  isplitl [H5]
  · iexists _; isplitr
    swap; · iexact H5
    ipureintro; exact h5
  isplitl [H8]
  · iexists _; isplitr
    swap; · iexact H8
    ipureintro
    simp only [read_scores, read_rows, readCov_scores, readCov_rows, View.readAt_eq_ld, ld_scores, ld_rows, h4, h5, h7, h8, h9, h10, h11, h12, h13, h14, h15, h16, ht]
    rw [walk_last, ← ld_blk V 0 (off := ![0, 0]) rfl inb_S4096x128_S256x128_0_0]
    rfl
  isplitl [H7]
  · iexists _, _; isplitr
    swap; · iexact H7
    ipureintro; rfl
  isplitl [H9]
  · iexists _, _; isplitr
    swap; · iexact H9
    ipureintro; rfl
  isplitl [H10]
  · iexists _, _; isplitr
    swap; · iexact H10
    ipureintro; rfl
  isplitl [H11]
  · iexists _, _; isplitr
    swap; · iexact H11
    ipureintro; rfl
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [H16]
  · iexists _, _; isplitr
    swap; · iexact H16
    ipureintro; rfl
  isplitl [H17]
  · iexists _, _; isplitr
    swap; · iexact H17
    ipureintro; rfl
  isplitl [H18]
  · iexists _, _; isplitr
    swap; · iexact H18
    ipureintro; rfl
  isplitl [H19]
  · iexists _, _; isplitr
    swap; · iexact H19
    ipureintro; rfl
  isplitl [H20]
  · iexists _, _; isplitr
    swap; · iexact H20
    ipureintro; rfl
  isplitl [H21]
  · iexists _, _; isplitr
    swap; · iexact H21
    ipureintro; rfl
  iexists _, _; isplitr
  swap; · iexact H22
  ipureintro; rfl

end Cert.KernelIdeal.Stick
-- ==== Proof.Body.lean ====
module

public import proofs.«01_k».proof.Proof.Gen.KernelIdeal.Frame
public import proofs.«01_k».proof.Proof.Rest

@[expose] public section

set_option maxRecDepth 16384

noncomputable section

namespace Cert.KernelIdeal.Stick

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! # The kernel at one grid point, as a triple -/

variable (c : Dev nD) (i : grid0.Coords) (arg3 : Memref sig .tc .vmem S256x128 .f32) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x256 .bf16) (harg15 : arg15.IsWhole) (arg16 : Memref sig .tc .vmem S256x256 .bf16) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .bf16) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x256 .bf16) (harg22 : arg22.IsWhole)

/-- The first key block read is the query's own. -/
theorem off1_eq : ∀ i : grid0.Coords, k0_off1 i = ![256 * min (i 2).val 15, 0] := by decide +kernel

/-- The loop and the last blocks, whatever the block's parity. -/
theorem rest (x : Vec F S256x128 .f32) (K V : Vec F S4096x128 .bf16) (arg2 : BitVec 32) (v100 : BitVec 32) (v114 : BitVec 1) (v115 : BitVec 32)
    (Q : Vec F S256x128 .f32 → sProp 𝕄) :
    iprop(inv c i arg4 arg5 arg7 arg8 arg9 arg10 arg11 arg12 arg13 arg14 arg15 arg16 arg17 arg18 arg19 arg20 arg21 arg22 x K V 0 ()
        ∗ (∀ v, Done c i arg4 arg5 arg7 arg8 arg9 arg10 arg11 arg12 arg13 arg14 arg15 arg16 arg17 arg18 arg19 arg20 arg21 arg22 x K V v -∗ Q v))
      ⊢ wp frame (wpE (defs₀ (F := F)) Variants.none c none) Set.univ
        (k0_part21 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 k0_pay132 (k0_pay135 x) (k0_pay136 x) v100 v114 v115) Q := by
  rcases Nat.mod_two_eq_zero_or_one (i 2).val with h | h
  · exact rest_even c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h x K V arg2 v100 v114 v115 Q
  · exact rest_odd c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h x K V arg2 v100 v114 v115 Q

set_option maxHeartbeats 1600000 in
/-- From the query block at `x`, the key and value arrays at `K` and `V` and everything else at anything, the kernel
    runs to the output block at `outBlk`. -/
theorem sound_kernel (x : Vec F S256x128 .f32) (K V : Vec F S4096x128 .bf16) (Q : PUnit → sProp 𝕄) :
    iprop(owns (c : Thread nD τ) arg3 fullShare x ∗ owns (c : Thread nD τ) arg4 fullShare K ∗ owns (c : Thread nD τ) arg5 fullShare V ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg3 fullShare x ∗ owns (c : Thread nD τ) arg4 fullShare K ∗ owns (c : Thread nD τ) arg5 fullShare V ∗ owns (c : Thread nD τ) arg6 fullShare (outBlk (i 2).val x K V)
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ Q ⟨⟩))
      ⊢ wp frame (wpE (defs₀ (F := F)) Variants.none c none) Set.univ (cc0_stick_breaking i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) Q := by
  simp only [cc0_stick_breaking_eq_skeleton]
  unfold cc0_stick_breaking_skel
  simp only [k0_part18_eq_skeleton, k0_part19_eq_skeleton, k0_part20_eq_skeleton]
  unfold k0_part18_skel k0_part19_skel k0_part20_skel owns
  iintro ⟨⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst h3 h4 h5
  set_option sl_exec.stopBefore "k0_part21" in sl_exec
  rw [pure_bind, wp_bind]
  iapply (rest c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (View.readAt (Elt F) arg3.view (Rect.unit (s := S256x128) ![0, 0] S256x128.size inb_S256x128_S256x128_0_0).toLoadRect f3)
    (arg4.view.read (Elt F) f4) (arg5.view.read (Elt F) f5) _ _ _ _ _)
  isplitl [H4 H5 H7 H8 H9 H10 H11 H12 H13 H14 H15 H16 H17 H18 H19 H20 H21 H22]
  · sl_unfold_words
    unfold inv State owns
    rw [View.readAt_eq_ld, ld_rows]
    isplitl [H4]
    · iexists f4; isplitr; · ipureintro; rfl
      iexact H4
    isplitl [H5]
    · iexists f5; isplitr; · ipureintro; rfl
      iexact H5
    isplitl [H7]
    · iexists _; isplitr
      swap; · iexact H7
      ipureintro
      simp only [read_scores, read_rows, readCov_scores, readCov_rows, View.readAt_eq_ld, ld_scores, ld_rows]
      try rw [Nat.mul_zero, staged_zero, ← ld_blk (arg4.view.read (Elt F) f4) (i 2).val (off1_eq i) (k0_off1_inb i)]
      rfl
    isplitl [H8]
    · iexists _; isplitr
      swap; · iexact H8
      ipureintro
      simp only [read_scores, read_rows, readCov_scores, readCov_rows, View.readAt_eq_ld, ld_scores, ld_rows]
      try rw [Nat.mul_zero, staged_zero, ← ld_blk (arg4.view.read (Elt F) f4) (i 2).val (off1_eq i) (k0_off1_inb i)]
      rfl
    isplitl [H9]
    · iexists _; isplitr
      swap; · iexact H9
      ipureintro
      simp only [read_scores, read_rows, readCov_scores, readCov_rows, View.readAt_eq_ld, ld_scores, ld_rows]
      try rw [Nat.mul_zero, staged_zero, ← ld_blk (arg4.view.read (Elt F) f4) (i 2).val (off1_eq i) (k0_off1_inb i)]
      rfl
    isplitl [H10]
    · iexists _; isplitr
      swap; · iexact H10
      ipureintro
      simp only [read_scores, read_rows, readCov_scores, readCov_rows, View.readAt_eq_ld, ld_scores, ld_rows]
      try rw [Nat.mul_zero, staged_zero, ← ld_blk (arg4.view.read (Elt F) f4) (i 2).val (off1_eq i) (k0_off1_inb i)]
      rfl
    isplitl [H11]
    · iexists _; isplitr
      swap; · iexact H11
      ipureintro
      simp only [read_scores, read_rows, readCov_scores, readCov_rows, View.readAt_eq_ld, ld_scores, ld_rows]
      try rw [Nat.mul_zero, staged_zero, ← ld_blk (arg4.view.read (Elt F) f4) (i 2).val (off1_eq i) (k0_off1_inb i)]
      rfl
    isplitl [H12]
    · iexists _; isplitr
      swap; · iexact H12
      ipureintro
      simp only [read_scores, read_rows, readCov_scores, readCov_rows, View.readAt_eq_ld, ld_scores, ld_rows]
      try rw [Nat.mul_zero, staged_zero, ← ld_blk (arg4.view.read (Elt F) f4) (i 2).val (off1_eq i) (k0_off1_inb i)]
      rfl
    isplitl [H13]
    · iexists _; isplitr
      swap; · iexact H13
      ipureintro
      simp only [read_scores, read_rows, readCov_scores, readCov_rows, View.readAt_eq_ld, ld_scores, ld_rows]
      try rw [Nat.mul_zero, staged_zero, ← ld_blk (arg4.view.read (Elt F) f4) (i 2).val (off1_eq i) (k0_off1_inb i)]
      rfl
    isplitl [H14]
    · iexists _; isplitr
      swap; · iexact H14
      ipureintro
      simp only [read_scores, read_rows, readCov_scores, readCov_rows, View.readAt_eq_ld, ld_scores, ld_rows]
      try rw [Nat.mul_zero, staged_zero, ← ld_blk (arg4.view.read (Elt F) f4) (i 2).val (off1_eq i) (k0_off1_inb i)]
      rfl
    isplitl [H15]
    · iexists _; isplitr
      swap; · iexact H15
      ipureintro
      simp only [read_scores, read_rows, readCov_scores, readCov_rows, View.readAt_eq_ld, ld_scores, ld_rows]
      try rw [Nat.mul_zero, staged_zero, ← ld_blk (arg4.view.read (Elt F) f4) (i 2).val (off1_eq i) (k0_off1_inb i)]
      rfl
    isplitl [H16]
    · iexists _; isplitr
      swap; · iexact H16
      ipureintro
      simp only [read_scores, read_rows, readCov_scores, readCov_rows, View.readAt_eq_ld, ld_scores, ld_rows]
      try rw [Nat.mul_zero, staged_zero, ← ld_blk (arg4.view.read (Elt F) f4) (i 2).val (off1_eq i) (k0_off1_inb i)]
      rfl
    isplitl [H17]
    · iexists _, _; isplitr
      swap; · iexact H17
      ipureintro; rfl
    isplitl [H18]
    · iexists _, _; isplitr
      swap; · iexact H18
      ipureintro; rfl
    isplitl [H19]
    · iexists _, _; isplitr
      swap; · iexact H19
      ipureintro; rfl
    isplitl [H20]
    · iexists _, _; isplitr
      swap; · iexact H20
      ipureintro; rfl
    isplitl [H21]
    · iexists _, _; isplitr
      swap; · iexact H21
      ipureintro; rfl
    iexists _, _; isplitr
    swap; · iexact H22
    ipureintro; rfl
  rw [View.readAt_eq_ld, ld_rows]
  unfold Done owns
  iintro %v ⟨%hv, ⟨%g4, %h4, H4⟩, ⟨%g5, %h5, H5⟩, ⟨%g8, %h8, H8⟩, ⟨%d7, %g7, -, H7⟩, ⟨%d9, %g9, -, H9⟩, ⟨%d10, %g10, -, H10⟩, ⟨%d11, %g11, -, H11⟩, ⟨%d12, %g12, -, H12⟩, ⟨%d13, %g13, -, H13⟩, ⟨%d14, %g14, -, H14⟩, ⟨%d15, %g15, -, H15⟩, ⟨%d16, %g16, -, H16⟩, ⟨%d17, %g17, -, H17⟩, ⟨%d18, %g18, -, H18⟩, ⟨%d19, %g19, -, H19⟩, ⟨%d20, %g20, -, H20⟩, ⟨%d21, %g21, -, H21⟩, ⟨%d22, %g22, -, H22⟩⟩
  subst hv
  sl_exec
  sl_step
  sl_unfold_words
  iapply Hk
  isplitl [H3]
  · iexists f3; isplitr; · ipureintro; rfl
    iexact H3
  isplitl [H4]
  · iexists g4; isplitr; · ipureintro; exact h4
    iexact H4
  isplitl [H5]
  · iexists g5; isplitr; · ipureintro; exact h5
    iexact H5
  isplitl [H6]
  · iexists _; isplitr
    swap; · iexact H6
    ipureintro
    simp only [read_scores, read_rows, readCov_scores, readCov_rows, View.readAt_eq_ld, ld_scores, ld_rows, h8]
    rfl
  isplitl [H7]
  · iexists _, _; isplitr
    swap; · iexact H7
    ipureintro; rfl
  isplitl [H8]
  · iexists _, _; isplitr
    swap; · iexact H8
    ipureintro; rfl
  isplitl [H9]
  · iexists _, _; isplitr
    swap; · iexact H9
    ipureintro; rfl
  isplitl [H10]
  · iexists _, _; isplitr
    swap; · iexact H10
    ipureintro; rfl
  isplitl [H11]
  · iexists _, _; isplitr
    swap; · iexact H11
    ipureintro; rfl
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [H16]
  · iexists _, _; isplitr
    swap; · iexact H16
    ipureintro; rfl
  isplitl [H17]
  · iexists _, _; isplitr
    swap; · iexact H17
    ipureintro; rfl
  isplitl [H18]
  · iexists _, _; isplitr
    swap; · iexact H18
    ipureintro; rfl
  isplitl [H19]
  · iexists _, _; isplitr
    swap; · iexact H19
    ipureintro; rfl
  isplitl [H20]
  · iexists _, _; isplitr
    swap; · iexact H20
    ipureintro; rfl
  isplitl [H21]
  · iexists _, _; isplitr
    swap; · iexact H21
    ipureintro; rfl
  iexists _, _; isplitr
  swap; · iexact H22
  ipureintro; rfl

end Cert.KernelIdeal.Stick
-- ==== Proof.Run.lean ====
module

public import proofs.«01_k».proof.Proof.Gen.KernelIdeal.Frame
public import proofs.«01_k».proof.Proof.Body
public import Idealize.ShloMosaic.Lib.Claim

@[expose] public section

set_option maxRecDepth 16384

noncomputable section

namespace Cert.KernelIdeal.Stick

open Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! # The run: every grid point in order, and the arguments left alone -/

variable (m : (ℓ : Loc nD τ sig) → Buf (Elt F) ℓ) (ρ : Dev nD → PrngReg)

/-- A buffer held whole at some contents is its memref held at some contents, -/
theorem owns_whole_in (c : Dev nD) (b : Ref sig .tc) :
    iprop(∃ f : Buf (Elt F) ((c : Thread nD τ).loc b), ((c : Thread nD τ).loc b) ↦{fullShare} f)
      ⊢ (iprop(∃ d, owns (c : Thread nD τ) (Memref.whole b) fullShare d) : sProp 𝕄) := by
  iintro ⟨%f, H⟩
  unfold owns
  iexists _, f
  isplitr
  · ipureintro; rfl
  rw [show (Memref.whole (sig := sig) b).view.set = Finset.univ from View.set_whole b]
  iexact H

/-- and back. -/
theorem owns_whole_out (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  unfold owns
  iintro ⟨%d, %f, -, H⟩
  iexists f
  rw [show (Memref.whole (sig := sig) b).view.set = Finset.univ from View.set_whole b]
  iexact H

/-- The arrays as the region finds them; after the body at point `t` each input's buffer at its block and the output's
    at `outBlk` of the input blocks; the scratch buffers at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (grid0.coords t 2).val (iblk m c 0 t) (iblk m c 1 t) (iblk m c 2 t)
  Φ _ := Pipeline.ΦA spec0 c
  q w := Pipeline.shareOf spec0 w
  owed _ := 0

/-- The arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
/-- The output's block after a point. -/
theorem after0_3 (c : Dev nD) (t : Fin cfg0.N) : (dats m 0 c).after 3 t
    = outBlk (grid0.coords t 2).val (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, after0_0, after0_1, after0_2, after0_3]
  unfold Pipeline.ΦA
  rw [scopedRest0_eq]
  iintro ⟨⟨⟨S0, S1, S2, S3, S4, S5, S6, S7, S8, S9, S10, S11, S12, S13, S14, S15⟩, Hr⟩, Ho, ⟨%d0, H0⟩, ⟨%d1, H1⟩, ⟨%d2, H2⟩, ⟨%d3, H3⟩⟩
  iapply (sound_kernel c (grid0.coords t) _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (iblk m c 0 t) (iblk m c 1 t) (iblk m c 2 t) _)
  isplitl [H0]; · iexact H0
  isplitl [H1]; · iexact H1
  isplitl [H2]; · iexact H2
  isplitl [H3]; · iexists _; iexact H3
  isplitl [S0]; · iapply (owns_whole_in c cc0_scratch0) $$ S0
  isplitl [S1]; · iapply (owns_whole_in c cc0_scratch1) $$ S1
  isplitl [S2]; · iapply (owns_whole_in c cc0_scratch2) $$ S2
  isplitl [S3]; · iapply (owns_whole_in c cc0_scratch3) $$ S3
  isplitl [S4]; · iapply (owns_whole_in c cc0_scratch4) $$ S4
  isplitl [S5]; · iapply (owns_whole_in c cc0_scratch5) $$ S5
  isplitl [S6]; · iapply (owns_whole_in c cc0_scratch6) $$ S6
  isplitl [S7]; · iapply (owns_whole_in c cc0_scratch7) $$ S7
  isplitl [S8]; · iapply (owns_whole_in c cc0_scratch8) $$ S8
  isplitl [S9]; · iapply (owns_whole_in c cc0_scratch9) $$ S9
  isplitl [S10]; · iapply (owns_whole_in c cc0_scratch10) $$ S10
  isplitl [S11]; · iapply (owns_whole_in c cc0_scratch11) $$ S11
  isplitl [S12]; · iapply (owns_whole_in c cc0_scratch12) $$ S12
  isplitl [S13]; · iapply (owns_whole_in c cc0_scratch13) $$ S13
  isplitl [S14]; · iapply (owns_whole_in c cc0_scratch14) $$ S14
  isplitl [S15]; · iapply (owns_whole_in c cc0_scratch15) $$ S15
  iintro ⟨H0, H1, H2, H3, S0, S1, S2, S3, S4, S5, S6, S7, S8, S9, S10, S11, S12, S13, S14, S15⟩
  isplitl [Hr S0 S1 S2 S3 S4 S5 S6 S7 S8 S9 S10 S11 S12 S13 S14 S15]
  · isplitr [Hr]
    swap; · iexact Hr
    isplitl [S0]; · iapply (owns_whole_out c cc0_scratch0) $$ S0
    isplitl [S1]; · iapply (owns_whole_out c cc0_scratch1) $$ S1
    isplitl [S2]; · iapply (owns_whole_out c cc0_scratch2) $$ S2
    isplitl [S3]; · iapply (owns_whole_out c cc0_scratch3) $$ S3
    isplitl [S4]; · iapply (owns_whole_out c cc0_scratch4) $$ S4
    isplitl [S5]; · iapply (owns_whole_out c cc0_scratch5) $$ S5
    isplitl [S6]; · iapply (owns_whole_out c cc0_scratch6) $$ S6
    isplitl [S7]; · iapply (owns_whole_out c cc0_scratch7) $$ S7
    isplitl [S8]; · iapply (owns_whole_out c cc0_scratch8) $$ S8
    isplitl [S9]; · iapply (owns_whole_out c cc0_scratch9) $$ S9
    isplitl [S10]; · iapply (owns_whole_out c cc0_scratch10) $$ S10
    isplitl [S11]; · iapply (owns_whole_out c cc0_scratch11) $$ S11
    isplitl [S12]; · iapply (owns_whole_out c cc0_scratch12) $$ S12
    isplitl [S13]; · iapply (owns_whole_out c cc0_scratch13) $$ S13
    isplitl [S14]; · iapply (owns_whole_out c cc0_scratch14) $$ S14
    iapply (owns_whole_out c cc0_scratch15) $$ S15
  isplitl [Ho]; · iexact Ho
  isplitl [H0]; · iexact H0
  isplitl [H1]; · iexact H1
  isplitl [H2]; · iexact H2
  iexact H3

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every fair execution ends, each window's array at what the blocks add up to, the rest as found, and every
    counter at zero. The keys and the values are two windows on one array. -/
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Stick
-- ==== Proof.Logs.lean ====
module

public import Idealize.ShloMosaic.Lib.ValueIdx
public import Idealize.ShloMosaic.Lib.IdealHost
public import Idealize.ShloMosaic.PureOps.Ideal.Laws

@[expose] public section

noncomputable section

namespace Cert.StickMath

open Idealize.ShloMosaic

/-! # Stick-breaking weights over the reals

A query at position `t` has a score `z s` with every key `s`. The stick is broken at the keys before `t`, latest first:
key `s` takes the sigmoid of its score out of what the later keys have left. -/

/-- The log-sigmoid, in the form that does not overflow. -/
def ls (z : ℝ) : ℝ := min z 0 - Real.log (1 + Real.exp (-|z|))

/-- The log of one minus the sigmoid. -/
def ln (z : ℝ) : ℝ := ls z - z

/-- One minus the sigmoid is the sigmoid of the negated score. -/
theorem ls_neg (z : ℝ) : ls (-z) = ln z := by
  unfold ln ls
  rw [abs_neg]
  have : min (-z) 0 = min z 0 - z := by
    rcases le_total z 0 with h | h
    · rw [min_eq_left h, min_eq_right (by linarith)]; ring
    · rw [min_eq_right h, min_eq_left (by linarith)]; ring
  rw [this]; ring

theorem coe_min (x y : ℝ) : min (x : EReal) y = ((min x y : ℝ) : EReal) := (EReal.coe_strictMono.monotone.map_min).symm
theorem coe_max (x y : ℝ) : max (x : EReal) y = ((max x y : ℝ) : EReal) := (EReal.coe_strictMono.monotone.map_max).symm

/-- The logarithm both programs take, at a finite argument. -/
theorem log_one_add_exp (a : ℝ) : Ideal.log (1 + Ideal.exp (a : EReal)) = ((Real.log (1 + Real.exp a) : ℝ) : EReal) := by
  rw [Ideal.exp_coe, ← EReal.coe_one, ← EReal.coe_add, Ideal.log_coe, if_neg (by have := Real.exp_pos a; linarith)]

/-- The kernel's log-sigmoid at a finite score. -/
theorem kernel_ls (z : ℝ) :
    min (z : EReal) 0 - Ideal.log (1 + Ideal.exp (0 - max (z : EReal) (-(z : EReal)))) = ((ls z : ℝ) : EReal) := by
  rw [← EReal.coe_neg, coe_max, ← EReal.coe_zero, ← EReal.coe_sub, log_one_add_exp, coe_min, ← EReal.coe_sub, ls,
    show max z (-z) = |z| from rfl, zero_sub]

/-- The reference's log-sigmoid at a finite score. -/
theorem host_ls (z : ℝ) :
    -(max (-(z : EReal)) 0 + Ideal.log1p (Ideal.exp (-(max (-(z : EReal) - 0) (-(-(z : EReal) - 0)))))) = ((ls z : ℝ) : EReal) := by
  unfold Ideal.log1p
  rw [← EReal.coe_neg, ← EReal.coe_zero, ← EReal.coe_sub, ← EReal.coe_neg, coe_max, coe_max, ← EReal.coe_neg, log_one_add_exp,
    ← EReal.coe_add, ← EReal.coe_neg, EReal.coe_eq_coe_iff, ls, sub_zero, neg_neg, show max (-z) z = |z| from by rw [max_comm]; rfl]
  have : min z 0 = -max (-z) 0 := by
    rcases le_total z 0 with h | h
    · rw [min_eq_left h, max_eq_left (by linarith)]; ring
    · rw [min_eq_right h, max_eq_right (by linarith)]; ring
  rw [this]; ring

/-- The log of what key `s` leaves of the stick: nothing is taken at or after the query. -/
def leaves (z : ℕ → ℝ) (t s : ℕ) : ℝ := if s < t then ln (z s) else 0

/-- The weight of key `s`, the sum of the logs running up to any bound `E`. -/
def weight (z : ℕ → ℝ) (t E s : ℕ) : EReal :=
  if s < t then ((Real.exp (ls (z s) + ∑ s' ∈ Finset.Ico (s + 1) E, leaves z t s') : ℝ) : EReal) else 0

/-- A bound past the query changes nothing. -/
theorem sum_leaves (z : ℕ → ℝ) {t s E : ℕ} (hs : s < t) (hE : t ≤ E) :
    ∑ s' ∈ Finset.Ico (s + 1) E, leaves z t s' = ∑ s' ∈ Finset.Ico (s + 1) t, leaves z t s' := by
  rw [← Finset.sum_Ico_consecutive _ (show s + 1 ≤ t from hs) hE]
  rw [Finset.sum_eq_zero (s := Finset.Ico t E) (f := leaves z t) fun x hx => if_neg (by rw [Finset.mem_Ico] at hx; omega), add_zero]

theorem weight_bound (z : ℕ → ℝ) {t E E' : ℕ} (s : ℕ) (hE : t ≤ E) (hE' : t ≤ E') : weight z t E s = weight z t E' s := by
  unfold weight
  by_cases h : s < t
  · rw [if_pos h, if_pos h, sum_leaves z h hE, sum_leaves z h hE']
  · rw [if_neg h, if_neg h]

/-- The output: the weighted sum of the values of the first `n` keys. -/
def out (z : ℕ → ℝ) (v : ℕ → EReal) (t E n : ℕ) : EReal := ∑ s ∈ Finset.range n, weight z t E s * v s

/-- Neither bound matters once it is past the query. -/
theorem out_bound (z : ℕ → ℝ) (v : ℕ → EReal) {t E E' n n' : ℕ} (hE : t ≤ E) (hE' : t ≤ E') (hn : t ≤ n) (hn' : t ≤ n') :
    out z v t E n = out z v t E' n' := by
  have key : ∀ (n : ℕ), t ≤ n → out z v t E n = out z v t E t := fun n hn => by
    unfold out
    refine (Finset.sum_subset (Finset.range_mono hn) fun s _ hs => ?_).symm
    rw [Finset.mem_range] at hs
    rw [weight, if_neg hs, zero_mul]
  have : ∀ n, out z v t E n = out z v t E' n := fun n => by
    unfold out
    exact Finset.sum_congr rfl fun s _ => by rw [weight_bound z s hE hE']
  rw [key n hn, ← key n' hn', this]

/-- The exponential that gives the weight, the log of the sigmoid already masked to minus infinity. -/
theorem exp_masked (z : ℕ → ℝ) (t E s : ℕ) (a b : ℝ) (h : a + b = ∑ s' ∈ Finset.Ico (s + 1) E, leaves z t s') :
    Ideal.exp ((if s < t then ((ls (z s) : ℝ) : EReal) else ⊥) + (a : EReal) + (b : EReal)) = weight z t E s := by
  unfold weight
  by_cases hs : s < t
  · rw [if_pos hs, if_pos hs, ← EReal.coe_add, ← EReal.coe_add, Ideal.exp_coe, add_assoc, h]
  · rw [if_neg hs, if_neg hs, EReal.bot_add, EReal.bot_add, Ideal.exp_bot]

/-- The coercion of a finite sum of reals. -/
theorem coe_sum {ι : Type*} (S : Finset ι) (f : ι → ℝ) : ((∑ i ∈ S, f i : ℝ) : EReal) = ∑ i ∈ S, (f i : EReal) := by
  induction S using Finset.cons_induction with
  | empty => simp
  | cons a S h ih => rw [Finset.sum_cons, Finset.sum_cons, EReal.coe_add, ih]

/-- The sums over the 256 keys of a block, by key position. -/
theorem sum_block {M : Type*} [AddCommMonoid M] (f : ℕ → M) (a : ℕ) :
    ∑ c : Fin 256, f (a + c.val) = ∑ s ∈ Finset.Ico a (a + 256), f s := by
  rw [Finset.sum_Ico_eq_sum_range, Nat.add_sub_cancel_left, ← Fin.sum_univ_eq_sum_range (fun i => f (a + i))]

/-- The sum over the keys of a block after place `c`. -/
theorem sum_block_after (f : ℕ → ℝ) (a : ℕ) (c : Fin 256) :
    ∑ c' : Fin 256, (if c.val < c'.val then f (a + c'.val) else 0) = ∑ s ∈ Finset.Ico (a + c.val + 1) (a + 256), f s := by
  have := sum_block (fun s => if a + c.val < s then f s else 0) a
  simp only [Nat.add_lt_add_iff_left] at this
  rw [this, ← Finset.sum_filter]
  exact Finset.sum_congr (by ext x; simp only [Finset.mem_filter, Finset.mem_Ico]; have := c.isLt; omega) fun _ _ => rfl

end Cert.StickMath
-- ==== Proof.Reads.lean ====
module

public import proofs.«01_k».proof.Proof.Blocks
public import proofs.«01_k».proof.Proof.Logs
public import Idealize.ShloMosaic.Lib.Pipeline.Value

@[expose] public section

set_option maxRecDepth 16384

noncomputable section

namespace Cert.KernelIdeal.Stick

open Cert.KernelIdeal.Gen Cert.StickMath
open Idealize.ShloMosaic Idealize.ShloMosaic.ValueIdx

/-! # The pieces of one block's computation, read at an entry over the extended reals -/

/-- The contracted index of a product over 128 lanes. -/
theorem dot_scores (q k : FVec Ideal S256x128 .bf16) (r c : Fin 256) :
    matmul dot_S256x128_S256x128_S256x256_1_1_0_0_n_n none q k (constant S256x256 .f32 0x00000000#32) (ix2 r c)
      = ∑ l : Fin 128, q (ix2 r l) * k (ix2 c l) := by
  simp only [matmul]
  rw [Ideal.matmul_constant_zero_apply,
    ← Equiv.sum_comp (contrEquiv1 dot_S256x128_S256x128_S256x256_1_1_0_0_n_n 128 rfl rfl).symm]
  refine Finset.sum_congr rfl fun l _ => ?_
  congr 2
  · exact Shape.idx_ext₂ rfl rfl
  · exact Shape.idx_ext₂ rfl rfl

/-- A product of two score arrays. -/
theorem dot_later (a u : FVec Ideal S256x256 .bf16) (r c : Fin 256) :
    matmul dot_S256x256_S256x256_S256x256_1_0_0_1_n_n none a u (constant S256x256 .f32 0x00000000#32) (ix2 r c)
      = ∑ s : Fin 256, a (ix2 r s) * u (ix2 s c) := by
  simp only [matmul]
  rw [Ideal.matmul_constant_zero_apply,
    ← Equiv.sum_comp (contrEquiv1 dot_S256x256_S256x256_S256x256_1_0_0_1_n_n 256 rfl rfl).symm]
  refine Finset.sum_congr rfl fun l _ => ?_
  congr 2
  · exact Shape.idx_ext₂ rfl rfl
  · exact Shape.idx_ext₂ rfl rfl

/-- The weights' product with the block's values. -/
theorem dot_values (a : FVec Ideal S256x256 .bf16) (v : FVec Ideal S256x128 .bf16) (r : Fin 256) (l : Fin 128) :
    matmul dot_S256x256_S256x128_S256x128_1_0_0_1_n_n none a v (constant S256x128 .f32 0x00000000#32) (ix2 r l)
      = ∑ s : Fin 256, a (ix2 r s) * v (ix2 s l) := by
  simp only [matmul]
  rw [Ideal.matmul_constant_zero_apply,
    ← Equiv.sum_comp (contrEquiv1 dot_S256x256_S256x128_S256x128_1_0_0_1_n_n 256 rfl rfl).symm]
  refine Finset.sum_congr rfl fun l _ => ?_
  congr 2
  · exact Shape.idx_ext₂ rfl rfl
  · exact Shape.idx_ext₂ rfl rfl

/-- Key block `j` at row `c` is row `256 j + c` of the array. -/
theorem blk_apply (X : Vec Ideal S4096x128 .bf16) {j : ℕ} (hj : j ≤ 15) (c : Fin 256) (l : Fin 128) :
    blk X j (ix2 c l) = X (ix2 ⟨256 * j + c.val, by have := c.isLt; omega⟩ l) := by
  unfold blk
  rw [View.ld_unit]
  refine congrArg X (Shape.idx_ext₂ ?_ ?_)
  · show 256 * min j 15 + c.val = _
    rw [min_eq_left hj]
  · show 0 + l.val = _
    rw [Nat.zero_add]

/-- The comparison of two small numbers as signed words. -/
theorem slt_ofNat {a b : ℕ} (ha : a < 4096) (hb : b < 4096) :
    IntOp.cmpi .slt (BitVec.ofNat 32 a) (BitVec.ofNat 32 b) = if a < b then 1#1 else 0#1 := by
  have e : ∀ n < 4096, (BitVec.ofNat 32 n).toInt = n := fun n hn => by
    rw [BitVec.toInt_eq_toNat_of_lt (by rw [BitVec.toNat_ofNat, Nat.mod_eq_of_lt (by omega)]; omega), BitVec.toNat_ofNat,
      Nat.mod_eq_of_lt (by omega)]
  simp only [IntOp.cmpi, BitVec.slt, e a ha, e b hb]
  by_cases h : a < b <;> simp [h]

theorem sgt_ofNat {a b : ℕ} (ha : a < 4096) (hb : b < 4096) :
    IntOp.cmpi .sgt (BitVec.ofNat 32 a) (BitVec.ofNat 32 b) = if b < a then 1#1 else 0#1 := by
  rw [← slt_ofNat hb ha]; rfl

/-- The strictly-later indicator: one where the row is past the column. -/
theorem after_apply (s c : Fin 256) : (k0_pay132 (F := Ideal)) (ix2 s c) = if c.val < s.val then (1 : EReal) else 0 := by
  unfold k0_pay132
  show FloatOps.sitofp (F := Ideal) .f32 ((IntOp.cmpi .sgt (iota .tc S256x256 32 [0] iota_S256x256_d0_w32 (ix2 s c)) (iota .tc S256x256 32 [1] iota_S256x256_d1_w32 (ix2 s c))).setWidth 32) = _
  rw [iota_single_apply, iota_single_apply]
  show FloatOps.sitofp (F := Ideal) .f32 ((IntOp.cmpi .sgt (BitVec.ofNat 32 s.val) (BitVec.ofNat 32 c.val)).setWidth 32) = _
  rw [sgt_ofNat (by have := s.isLt; omega) (by have := c.isLt; omega)]
  by_cases h : c.val < s.val
  · rw [if_pos h, if_pos h]
    show (((BitVec.setWidth 32 1#1).toInt : ℝ) : EReal) = 1
    norm_num
  · rw [if_neg h, if_neg h]
    show (((BitVec.setWidth 32 0#1).toInt : ℝ) : EReal) = 0
    norm_num

/-- The diagonal block's mask: the key's place before the query's. -/
theorem visible_apply (r c : Fin 256) : k0_pay145 rows cols (ix2 r c) = if c.val < r.val then 1#1 else 0#1 := by
  unfold k0_pay145 rows cols
  show IntOp.cmpi .slt (iota .tc S256x256 32 [1] iota_S256x256_d1_w32 (ix2 r c)) (iota .tc S256x256 32 [0] iota_S256x256_d0_w32 (ix2 r c)) = _
  rw [iota_single_apply, iota_single_apply]
  exact slt_ofNat (by have := c.isLt; show c.val < 4096; omega) (by have := r.isLt; show r.val < 4096; omega)

/-- The first head's lanes. -/
theorem lanes_apply (r : Fin 256) (l : Fin 128) : k0_pay133 (ix2 r l) = if l.val < 64 then 1#1 else 0#1 := by
  unfold k0_pay133
  show IntOp.cmpi .slt (iota .tc S256x128 32 [1] iota_S256x128_d1_w32 (ix2 r l)) (BitVec.ofNat 32 64) = _
  rw [iota_single_apply]
  exact slt_ofNat (by have := l.isLt; show l.val < 4096; omega) (by omega)

/-- The kernel's log-sigmoid of a block's scores. -/
theorem kernel_ls_apply (z : FVec Ideal S256x256 .f32) (j : S256x256.Idx) (x : ℝ) (h : z j = (x : EReal)) :
    subf (minimumf z (broadcast S256x256 (Scalar.ofBits .f32 0x00000000#32)))
      (log (addf (broadcast S256x256 (Scalar.ofBits .f32 0x3F800000#32))
        (exp (subf (broadcast S256x256 (Scalar.ofBits .f32 0x00000000#32)) (absf z))))) j = ((ls x : ℝ) : EReal) := by
  rw [← kernel_ls x, ← h]
  show min (z j) (Ideal.ofBits .f32 0x00000000#32) - Ideal.log (Ideal.ofBits .f32 0x3F800000#32 + Ideal.exp (Ideal.ofBits .f32 0x00000000#32 - max (z j) (-(z j)))) = _
  rw [Ideal.ofBits_zero_f32, Ideal.ofBits_one_f32]

end Cert.KernelIdeal.Stick
-- ==== Proof.Steps.lean ====
module

public import proofs.«01_k».proof.Proof.Reads

@[expose] public section

set_option maxRecDepth 16384

noncomputable section

namespace Cert.KernelIdeal.Stick

open Cert.KernelIdeal.Gen Cert.StickMath
open Idealize.ShloMosaic Idealize.ShloMosaic.ValueIdx

/-! # One key block's scores and their use, over the extended reals

`z r s` is the score of the query at row `r` of block `i` with key `s`, finite by hypothesis. -/

/-- What the scores of key block `j` are, kept for query block `i`: the log-sigmoid, minus infinity at the keys not
    before the query; the log left, all in the coarse half. -/
structure IsStaged (z : Fin 256 → ℕ → ℝ) (i j : ℕ) (t : Staged Ideal) : Prop where
  ls : ∀ r c : Fin 256, t.ls (ix2 r c)
    = if 256 * j + c.val < 256 * i + r.val then ((ls (z r (256 * j + c.val)) : ℝ) : EReal) else ⊥
  hi : ∀ r c : Fin 256, t.hi (ix2 r c) = ((leaves (z r) (256 * i + r.val) (256 * j + c.val) : ℝ) : EReal)
  lo : ∀ r c : Fin 256, t.lo (ix2 r c) = 0

/-- The scores of the queries with the keys are the finite numbers `z`. -/
def Scores (q : FVec Ideal S256x128 .bf16) (K : Vec Ideal S4096x128 .bf16) (z : Fin 256 → ℕ → ℝ) : Prop :=
  ∀ (r : Fin 256) (s : ℕ) (hs : s < 4096), ∑ l : Fin 128, q (ix2 r l) * K (ix2 ⟨s, hs⟩ l) = ((z r s : ℝ) : EReal)

variable {q : FVec Ideal S256x128 .bf16} {K V : Vec Ideal S4096x128 .bf16} {z : Fin 256 → ℕ → ℝ}

/-- The scores of a block below the diagonal. -/
theorem score_plain (hz : Scores q K z) {j : ℕ} (hj : j ≤ 15) (r c : Fin 256) :
    k0_pay3 q (blk K j) (ix2 r c) = ((z r (256 * j + c.val) : ℝ) : EReal) := by
  unfold k0_pay3 k0_pay2
  dsimp only
  rw [shapeCast_self, dot_scores, ← hz r (256 * j + c.val) (by have := c.isLt; omega)]
  exact Finset.sum_congr rfl fun l _ => by rw [blk_apply K hj]

/-- The scores of the diagonal block. -/
theorem score_diag (hz : Scores q K z) {j : ℕ} (hj : j ≤ 15) (r c : Fin 256) :
    k0_pay142 q (blk K j) (ix2 r c) = ((z r (256 * j + c.val) : ℝ) : EReal) := by
  unfold k0_pay142 k0_pay141
  dsimp only
  rw [shapeCast_self, dot_scores, ← hz r (256 * j + c.val) (by have := c.isLt; omega)]
  exact Finset.sum_congr rfl fun l _ => by rw [blk_apply K hj]

/-- A finite number's difference with itself. -/
theorem coe_sub_self (x : ℝ) : (x : EReal) - (x : EReal) = 0 := by
  rw [← EReal.coe_sub, sub_self, EReal.coe_zero]

/-- A block before the queries' own. -/
theorem plain_staged (hz : Scores q K z) {i j : ℕ} (hi : i ≤ 15) (hj : j < i) : IsStaged z i j (plain q (blk K j)) := by
  have hls : ∀ r c : Fin 256, k0_pay5 q (blk K j) (ix2 r c) = ((ls (z r (256 * j + c.val)) : ℝ) : EReal) := fun r c =>
    kernel_ls_apply _ _ _ (score_plain hz (by omega) r c)
  have hln : ∀ r c : Fin 256, k0_pay6 q (blk K j) (ix2 r c) = ((ln (z r (256 * j + c.val)) : ℝ) : EReal) := fun r c => by
    unfold k0_pay6
    rw [subf_apply, hls, score_plain hz (by omega), ← EReal.coe_sub]; rfl
  have lt : ∀ r c : Fin 256, 256 * j + c.val < 256 * i + r.val := fun r c => by have := c.isLt; omega
  refine ⟨fun r c => ?_, fun r c => ?_, fun r c => ?_⟩
  · rw [if_pos (lt r c), ← hls]
    show k0_pay8 q (blk K j) (ix2 r c) = _
    unfold k0_pay8; rw [shapeCast_self]
  · rw [leaves, if_pos (lt r c), ← hln]
    show k0_pay9 q (blk K j) (ix2 r c) = _
    unfold k0_pay9 k0_pay7; dsimp only; rw [shapeCast_self, truncf_apply]
  · show k0_pay10 q (blk K j) (ix2 r c) = _
    unfold k0_pay10 k0_pay7
    dsimp only
    rw [shapeCast_self, truncf_apply, subf_apply, extf_apply, truncf_apply, hln, coe_sub_self]

/-- The queries' own block. -/
theorem diag_staged (hz : Scores q K z) {i : ℕ} (hi : i ≤ 15) : IsStaged z i i (diag q (blk K i)) := by
  have hls : ∀ r c : Fin 256, k0_pay144 q (blk K i) (ix2 r c) = ((ls (z r (256 * i + c.val)) : ℝ) : EReal) := fun r c =>
    kernel_ls_apply _ _ _ (score_diag hz hi r c)
  have hln : ∀ r c : Fin 256, k0_pay146 rows cols q (blk K i) (ix2 r c)
      = ((leaves (z r) (256 * i + r.val) (256 * i + c.val) : ℝ) : EReal) := fun r c => by
    unfold k0_pay146
    rw [select_apply, visible_apply, subf_apply, hls, score_diag hz hi, ← EReal.coe_sub, leaves]
    by_cases h : c.val < r.val
    · rw [if_pos h, if_pos (by omega), select_one]; rfl
    · rw [if_neg h, if_neg (by omega), select_zero]
      exact Ideal.ofBits_zero_f32
  refine ⟨fun r c => ?_, fun r c => ?_, fun r c => ?_⟩
  · show k0_pay148 rows cols q (blk K i) (ix2 r c) = _
    unfold k0_pay148
    rw [shapeCast_self, select_apply, visible_apply, hls]
    by_cases h : c.val < r.val
    · rw [if_pos h, if_pos (by omega), select_one]
    · rw [if_neg h, if_neg (by omega), select_zero]; rfl
  · rw [← hln]
    show k0_pay149 rows cols q (blk K i) (ix2 r c) = _
    unfold k0_pay149 k0_pay147; dsimp only; rw [shapeCast_self, truncf_apply]
  · show k0_pay150 rows cols q (blk K i) (ix2 r c) = _
    unfold k0_pay150 k0_pay147
    dsimp only
    rw [shapeCast_self, truncf_apply, subf_apply, extf_apply, truncf_apply, hln, coe_sub_self]

/-- Every block the walk meets. -/
theorem staged_is (hz : Scores q K z) {i s : ℕ} (hi : i ≤ 15) (hs : s ≤ i) : IsStaged z i (i - s) (staged i q K s) := by
  unfold staged
  by_cases h : s = 0
  · rw [if_pos h, h, Nat.sub_zero]; exact diag_staged hz hi
  · rw [if_neg h]; exact plain_staged hz hi (by omega)

variable {i j : ℕ} {t : Staged Ideal}

/-- The log mass of the block's keys after each key. -/
theorem exc_apply (ht : IsStaged z i j t) (r c : Fin 256) : k0_pay20 (k0_pay132 (F := Ideal)) t.hi t.lo (ix2 r c)
    = ((∑ s ∈ Finset.Ico (256 * j + c.val + 1) (256 * j + 256), leaves (z r) (256 * i + r.val) s : ℝ) : EReal) := by
  unfold k0_pay20
  rw [addf_apply, dot_later, dot_later, ← sum_block_after (leaves (z r) (256 * i + r.val)) (256 * j) c, coe_sum]
  have hl : ∑ s : Fin 256, t.lo (ix2 r s) * (k0_pay132 (F := Ideal)) (ix2 s c) = 0 :=
    Finset.sum_eq_zero fun s _ => by rw [ht.lo, zero_mul]
  rw [hl, add_zero]
  refine Finset.sum_congr rfl fun s _ => ?_
  rw [ht.hi, after_apply]
  by_cases h : c.val < s.val
  · rw [if_pos h, if_pos h, mul_one]
  · rw [if_neg h, if_neg h, mul_zero, EReal.coe_zero]

/-- The running sum after the block: the block's whole log mass more. -/
theorem stepRun_apply (ht : IsStaged z i j t) (run : FVec Ideal S256x128 .f32) (r : Fin 256) (l : Fin 128) (a : ℝ)
    (hr : run (ix2 r l) = (a : EReal)) : stepRun (k0_pay132 (F := Ideal)) t run (ix2 r l)
    = ((a + ∑ s ∈ Finset.Ico (256 * j) (256 * j + 256), leaves (z r) (256 * i + r.val) s : ℝ) : EReal) := by
  have key : k0_pay24 t.hi t.lo (k0_pay20 (k0_pay132 (F := Ideal)) t.hi t.lo) run (ix2 r l)
      = run (ix2 r l) + ((k0_pay20 (k0_pay132 (F := Ideal)) t.hi t.lo) (ix2 r 0) + t.hi (ix2 r 0) + t.lo (ix2 r 0)) := by
    unfold k0_pay24
    rw [shapeCast_self, addf_apply,
      broadcastTo_apply _ _ (ix2 r l) (ix2 r (0 : Fin 1)) (by intro a; fin_cases a <;> rfl),
      shapeCast_self, addf_apply, addf_apply, extf_apply, extf_apply]
    rw [extractStridedSlice_apply _ _ _ (ix2 r (0 : Fin 1)) (ix2 r (0 : Fin 256)) (by intro a; fin_cases a <;> simp),
      extractStridedSlice_apply _ _ _ (ix2 r (0 : Fin 1)) (ix2 r (0 : Fin 256)) (by intro a; fin_cases a <;> simp),
      extractStridedSlice_apply _ _ _ (ix2 r (0 : Fin 1)) (ix2 r (0 : Fin 256)) (by intro a; fin_cases a <;> simp)]
  unfold stepRun
  rw [key, hr, exc_apply ht, ht.hi, ht.lo, add_zero, ← EReal.coe_add, ← EReal.coe_add, EReal.coe_eq_coe_iff,
    Finset.sum_eq_sum_Ico_succ_bot (show 256 * j < 256 * j + 256 by omega)]
  simp only [Fin.val_zero, add_zero]
  ring

/-- The output after the block: the block's weighted values more. -/
theorem stepAcc_apply (ht : IsStaged z i j t) (v : Vec Ideal S256x128 .bf16) (run acc : FVec Ideal S256x128 .f32) (r : Fin 256)
    (l : Fin 128) (E : ℕ) (hE : 256 * j + 256 ≤ E)
    (hr : ∀ l : Fin 128, run (ix2 r l) = ((∑ s ∈ Finset.Ico (256 * j + 256) E, leaves (z r) (256 * i + r.val) s : ℝ) : EReal)) :
    stepAcc (k0_pay132 (F := Ideal)) v t run acc (ix2 r l)
      = acc (ix2 r l) + ∑ c : Fin 256, weight (z r) (256 * i + r.val) E (256 * j + c.val) * v (ix2 c l) := by
  unfold stepAcc k0_pay23 k0_pay19
  dsimp only
  rw [shapeCast_self, addf_apply, dot_values]
  congr 1
  refine Finset.sum_congr rfl fun c _ => ?_
  rw [shapeCast_self, truncf_apply]
  congr 1
  have hcat : concatenate S256x256 1 [⟨S256x128, run⟩, ⟨S256x128, run⟩] concatenates_S256x128_S256x128_S256x256_d1 (ix2 r c)
      = ((∑ s ∈ Finset.Ico (256 * j + 256) E, leaves (z r) (256 * i + r.val) s : ℝ) : EReal) := by
    by_cases h : c.val < 128
    · rw [concatenate_pair_apply_left (t := S256x256) (s₁ := S256x128) (s₂ := S256x128) 1 run run _ (ix2 r c) rfl (ix2 r (⟨c.val, h⟩ : Fin 128))
        (by intro b; fin_cases b <;> rfl), hr]
    · rw [concatenate_pair_apply_right (t := S256x256) (s₁ := S256x128) (s₂ := S256x128) 1 run run _ (ix2 r c) rfl rfl
        (ix2 r (⟨c.val - 128, by have := c.isLt; omega⟩ : Fin 128))
        (by intro b hb; fin_cases b <;> first | rfl | exact absurd rfl hb) (by show c.val - 128 + 128 = c.val; omega), hr]
  show Ideal.exp (t.ls (ix2 r c) + k0_pay20 (k0_pay132 (F := Ideal)) t.hi t.lo (ix2 r c) + _) = _
  rw [hcat, ht.ls, exc_apply ht, exp_masked]
  exact Finset.sum_Ico_consecutive _ (by have := c.isLt; omega) hE

end Cert.KernelIdeal.Stick
-- ==== Proof.WalkValue.lean ====
module

public import proofs.«01_k».proof.Proof.Rest
public import proofs.«01_k».proof.Proof.Steps

@[expose] public section

set_option maxRecDepth 16384

noncomputable section

namespace Cert.KernelIdeal.Stick

open Cert.KernelIdeal.Gen Cert.StickMath
open Idealize.ShloMosaic Idealize.ShloMosaic.ValueIdx

/-! # What the walk over the key blocks gives, over the extended reals -/

/-- A value array's lane `l`, by key. -/
def lane (V : Vec Ideal S4096x128 .bf16) (l : Fin 128) (s : ℕ) : EReal :=
  if h : s < 4096 then V (ix2 ⟨s, h⟩ l) else 0

variable {q : FVec Ideal S256x128 .bf16} {K V : Vec Ideal S4096x128 .bf16} {z : Fin 256 → ℕ → ℝ}

/-- After `s` steps the last `s` blocks up to the queries' own are used. -/
theorem walk_apply (hz : Scores q K z) {i : ℕ} (hi : i ≤ 15) : ∀ {s : ℕ}, s ≤ i + 1 → ∀ (r : Fin 256) (l : Fin 128),
    (walk after i q K V s).1 (ix2 r l) = ((∑ k ∈ Finset.Ico (256 * (i + 1 - s)) (256 * (i + 1)),
        leaves (z r) (256 * i + r.val) k : ℝ) : EReal)
      ∧ (walk after i q K V s).2 (ix2 r l) = ∑ k ∈ Finset.Ico (256 * (i + 1 - s)) (256 * (i + 1)),
        weight (z r) (256 * i + r.val) (256 * (i + 1)) k * lane V l k
  | 0, _, r, l => by
    have h0 : k0_pay137 (F := Ideal) (ix2 r l) = 0 := by
      unfold k0_pay137
      rw [shapeCast_self]
      exact Ideal.ofBits_zero_f32
    rw [Nat.sub_zero, Finset.Ico_self, Finset.sum_empty, Finset.sum_empty, EReal.coe_zero]
    exact ⟨h0, h0⟩
  | s + 1, hs, r, l => by
    have ht := staged_is hz hi (show s ≤ i by omega)
    have e1 : 256 * (i + 1 - (s + 1)) = 256 * (i - s) := by omega
    have e2 : 256 * (i + 1 - s) = 256 * (i - s) + 256 := by omega
    have le : 256 * (i - s) + 256 ≤ 256 * (i + 1) := by omega
    have ih := fun l => walk_apply hz hi (show s ≤ i + 1 by omega) r l
    constructor
    · show stepRun (k0_pay132 (F := Ideal)) (staged i q K s) (walk after i q K V s).1 (ix2 r l) = _
      rw [stepRun_apply ht _ r l _ (ih l).1, EReal.coe_eq_coe_iff, e1, e2, add_comm,
        Finset.sum_Ico_consecutive _ (by omega) le]
    · show stepAcc (k0_pay132 (F := Ideal)) (blk V (i - s)) (staged i q K s) (walk after i q K V s).1
        (walk after i q K V s).2 (ix2 r l) = _
      rw [stepAcc_apply ht _ _ _ r l (256 * (i + 1)) le (fun l => by rw [(ih l).1, e2]), (ih l).2, e1, e2, add_comm]
      rw [Finset.sum_congr rfl fun c _ => by
        rw [blk_apply V (show i - s ≤ 15 by omega) c l, ← show lane V l (256 * (i - s) + c.val) = _ from
          dif_pos (by have := c.isLt; omega)]]
      rw [sum_block (fun k => weight (z r) (256 * i + r.val) (256 * (i + 1)) k * lane V l k),
        Finset.sum_Ico_consecutive _ (by omega) le]

/-- The whole walk: the query's output. -/
theorem walk_out (hz : Scores q K z) {i : ℕ} (hi : i ≤ 15) (r : Fin 256) (l : Fin 128) :
    (walk after i q K V (i + 1)).2 (ix2 r l) = out (z r) (lane V l) (256 * i + r.val) 4096 4096 := by
  rw [(walk_apply hz hi le_rfl r l).2, Nat.sub_self, Nat.mul_zero, ← Finset.range_eq_Ico]
  exact out_bound (z r) (lane V l) (by have := r.isLt; omega) (by have := r.isLt; omega) (by have := r.isLt; omega)
    (by have := r.isLt; omega)

end Cert.KernelIdeal.Stick
-- ==== Proof.Heads.lean ====
module

public import proofs.«01_k».proof.Proof.WalkValue

@[expose] public section

set_option maxRecDepth 16384

noncomputable section

namespace Cert.StickMath

/-- The score of query `x` with key `y`: their product over the head's 64 lanes, over eight. -/
def score (x y : Fin 64 → ℝ) : ℝ := (∑ d, x d * y d) * (1 / 8)

end Cert.StickMath

namespace Cert.KernelIdeal.Stick

open Cert.KernelIdeal.Gen Cert.StickMath
open Idealize.ShloMosaic Idealize.ShloMosaic.ValueIdx

/-! # The two heads of a block of 128 lanes -/

/-- Lane `d` of the first head, -/
def laneA (d : Fin 64) : Fin 128 := ⟨d.val, by omega⟩

/-- and of the second. -/
def laneB (d : Fin 64) : Fin 128 := ⟨64 + d.val, by omega⟩

/-- The kernel's scale is one eighth. -/
theorem ofBits_eighth : Ideal.ofBits .f32 0x3E000000#32 = ((1 / 8 : ℝ) : EReal) := by
  simp [Ideal.ofBits, Ideal.ieee, -EReal.coe_mul]; norm_num

/-- The scaled queries. -/
theorem scaled_apply (x : Vec Ideal S256x128 .f32) (r : Fin 256) (l : Fin 128) :
    k0_pay134 x (ix2 r l) = x (ix2 r l) * ((1 / 8 : ℝ) : EReal) := by
  unfold k0_pay134
  rw [mulf_apply, shapeCast_self, ← ofBits_eighth]
  rfl

/-- The first head's queries: the second's lanes at zero. -/
theorem headA_apply (x : Vec Ideal S256x128 .f32) (r : Fin 256) (l : Fin 128) :
    headA x (ix2 r l) = if l.val < 64 then x (ix2 r l) * ((1 / 8 : ℝ) : EReal) else 0 := by
  unfold headA k0_pay135
  rw [truncf_apply, select_apply, lanes_apply, scaled_apply]
  by_cases h : l.val < 64
  · rw [if_pos h, if_pos h, select_one]
  · rw [if_neg h, if_neg h, select_zero]; exact Ideal.ofBits_zero_f32

/-- The second head's queries: the first's lanes at zero. -/
theorem headB_apply (x : Vec Ideal S256x128 .f32) (r : Fin 256) (l : Fin 128) :
    headB x (ix2 r l) = if l.val < 64 then 0 else x (ix2 r l) * ((1 / 8 : ℝ) : EReal) := by
  unfold headB k0_pay136
  rw [truncf_apply, select_apply, lanes_apply, scaled_apply]
  by_cases h : l.val < 64
  · rw [if_pos h, if_pos h, select_one]; exact Ideal.ofBits_zero_f32
  · rw [if_neg h, if_neg h, select_zero]

/-- A sum over the 128 lanes, head by head. -/
theorem sum_lanes (f : Fin 128 → EReal) : ∑ l, f l = ∑ d, f (laneA d) + ∑ d, f (laneB d) :=
  Fin.sum_univ_add (a := 64) (b := 64) f

variable {x : Vec Ideal S256x128 .f32} {K V : Vec Ideal S4096x128 .bf16}
  {xr : Fin 256 → Fin 128 → ℝ} {Kr : ℕ → Fin 128 → ℝ}

/-- One product of a score. -/
theorem coe_term (a b : ℝ) : (a : EReal) * ((1 / 8 : ℝ) : EReal) * (b : EReal) = ((a * b * (1 / 8) : ℝ) : EReal) := by
  rw [← EReal.coe_mul, ← EReal.coe_mul, EReal.coe_eq_coe_iff]; ring

/-- The first head's scores. -/
theorem scoresA (hx : ∀ r l, x (ix2 r l) = ((xr r l : ℝ) : EReal))
    (hK : ∀ s (hs : s < 4096) l, K (ix2 ⟨s, hs⟩ l) = ((Kr s l : ℝ) : EReal)) :
    Scores (headA x) K fun r s => score (fun d => xr r (laneA d)) (fun d => Kr s (laneA d)) := fun r s hs => by
  show _ = ((score _ _ : ℝ) : EReal)
  rw [sum_lanes, Finset.sum_eq_zero (s := Finset.univ) (f := fun d => headA x (ix2 r (laneB d)) * K (ix2 ⟨s, hs⟩ (laneB d)))
    fun d _ => by rw [headA_apply, if_neg (by show ¬(64 + d.val < 64); omega), zero_mul], add_zero, score, Finset.sum_mul, coe_sum]
  refine Finset.sum_congr rfl fun d _ => ?_
  rw [headA_apply, if_pos (show (laneA d).val < 64 from d.isLt), hx, hK, coe_term]

/-- The second head's scores. -/
theorem scoresB (hx : ∀ r l, x (ix2 r l) = ((xr r l : ℝ) : EReal))
    (hK : ∀ s (hs : s < 4096) l, K (ix2 ⟨s, hs⟩ l) = ((Kr s l : ℝ) : EReal)) :
    Scores (headB x) K fun r s => score (fun d => xr r (laneB d)) (fun d => Kr s (laneB d)) := fun r s hs => by
  show _ = ((score _ _ : ℝ) : EReal)
  rw [sum_lanes, Finset.sum_eq_zero (s := Finset.univ) (f := fun d => headB x (ix2 r (laneA d)) * K (ix2 ⟨s, hs⟩ (laneA d)))
    fun d _ => by rw [headB_apply, if_pos (show (laneA d).val < 64 from d.isLt), zero_mul], zero_add, score, Finset.sum_mul, coe_sum]
  refine Finset.sum_congr rfl fun d _ => ?_
  rw [headB_apply, if_neg (show ¬(laneB d).val < 64 by show ¬(64 + d.val < 64); omega), hx, hK, coe_term]

/-- What the kernel leaves on the first head's lanes of a query block, -/
theorem outBlk_A (hx : ∀ r l, x (ix2 r l) = ((xr r l : ℝ) : EReal))
    (hK : ∀ s (hs : s < 4096) l, K (ix2 ⟨s, hs⟩ l) = ((Kr s l : ℝ) : EReal)) {i : ℕ} (hi : i ≤ 15) (r : Fin 256) (d : Fin 64) :
    outBlk i x K V (ix2 r (laneA d)) = out (fun s => score (fun d => xr r (laneA d)) (fun d => Kr s (laneA d)))
      (lane V (laneA d)) (256 * i + r.val) 4096 4096 := by
  unfold outBlk k0_pay1
  rw [select_apply, lanes_apply, if_pos (show (laneA d).val < 64 from d.isLt), select_one, walk_out (scoresA hx hK) hi]

/-- and on the second's. -/
theorem outBlk_B (hx : ∀ r l, x (ix2 r l) = ((xr r l : ℝ) : EReal))
    (hK : ∀ s (hs : s < 4096) l, K (ix2 ⟨s, hs⟩ l) = ((Kr s l : ℝ) : EReal)) {i : ℕ} (hi : i ≤ 15) (r : Fin 256) (d : Fin 64) :
    outBlk i x K V (ix2 r (laneB d)) = out (fun s => score (fun d => xr r (laneB d)) (fun d => Kr s (laneB d)))
      (lane V (laneB d)) (256 * i + r.val) 4096 4096 := by
  unfold outBlk k0_pay1
  rw [select_apply, lanes_apply, if_neg (show ¬(laneB d).val < 64 by show ¬(64 + d.val < 64); omega), select_zero,
    walk_out (scoresB hx hK) hi]

end Cert.KernelIdeal.Stick
-- ==== Proof.Scan.lean ====
module

public import proofs.«01_k».proof.Proof.Logs
public import Idealize.ShloMosaic.Lib.ValueIdx

@[expose] public section

set_option maxRecDepth 16384

noncomputable section

namespace Cert.StickMath

open Idealize.ShloMosaic Idealize.ShloMosaic.ValueIdx

/-! # The reference's running sum from the right -/

/-- A left fold of additions is the sum. -/
theorem foldl_add {n : ℕ} (g : Fin n → EReal) (z : EReal) : (List.finRange n).foldl (fun r k => r + g k) z = z + ∑ k, g k := by
  rw [← List.foldl_map (f := g) (g := fun r y => r + y), ← List.sum_ofFn, List.ofFn_eq_map]
  generalize (List.finRange n).map g = L
  induction L generalizing z with
  | nil => simp
  | cons a L ih => rw [List.foldl_cons, ih, List.sum_cons, add_assoc]

/-- A window along the last axis is one position per place on that axis. -/
def lastAxis (n : ℕ) : Fin n ≃ (⟨4, ![1, 1, 1, n]⟩ : Shape).Idx where
  toFun k := ix4 (0 : Fin 1) (0 : Fin 1) (0 : Fin 1) k
  invFun w := w 3
  left_inv k := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A sum of shifted terms, those past the end at zero. -/
theorem sum_shift (f : ℕ → EReal) (s n : ℕ) (hs : s < n) (h0 : ∀ k, n ≤ k → f k = 0) :
    ∑ k : Fin n, f (s + k.val) = ∑ k : Fin n, if s ≤ k.val then f k.val else 0 := by
  rw [Fin.sum_univ_eq_sum_range (fun k => f (s + k)), Fin.sum_univ_eq_sum_range (fun k => if s ≤ k then f k else 0),
    ← Finset.sum_filter, show (Finset.range n).filter (fun k => s ≤ k) = Finset.Ico s n by
      ext k; rw [Finset.mem_filter, Finset.mem_range, Finset.mem_Ico]; omega,
    show ∑ k ∈ Finset.range n, f (s + k) = ∑ k ∈ Finset.Ico s (s + n), f k by
      rw [Finset.sum_Ico_eq_sum_range, Nat.add_sub_cancel_left],
    ← Finset.sum_Ico_consecutive f hs.le (show n ≤ s + n by omega),
    Finset.sum_eq_zero (s := Finset.Ico n (s + n)) fun k hk => h0 k (Finset.mem_Ico.mp hk).1, add_zero]

/-- One term of the window sum: the place that far on, or zero past the end. -/
theorem in_window {B H T n : ℕ} (x : (⟨4, ![B, H, T, n]⟩ : Shape).Idx → EReal) (b : Fin B) (k : Fin H) (t : Fin T) (s j : Fin n)
    (w : (⟨4, ![1, 1, 1, n]⟩ : Shape).Idx) (hw : w = lastAxis n j) :
    (if hin : ∀ a : Fin 4, (![0, 0, 0, 0] : Fin 4 → ℕ) a ≤ (ix4 b k t s a).val * (![1, 1, 1, 1] : Fin 4 → ℕ) a + (w a).val
        ∧ (ix4 b k t s a).val * (![1, 1, 1, 1] : Fin 4 → ℕ) a + (w a).val - (![0, 0, 0, 0] : Fin 4 → ℕ) a
          < (⟨4, ![B, H, T, n]⟩ : Shape).size a
      then x (fun a => ⟨(ix4 b k t s a).val * (![1, 1, 1, 1] : Fin 4 → ℕ) a + (w a).val - (![0, 0, 0, 0] : Fin 4 → ℕ) a, (hin a).2⟩)
      else 0)
      = if hj : s.val + j.val < n then x (ix4 b k t ⟨s.val + j.val, hj⟩) else 0 := by
  subst hw
  have hs := s.isLt
  by_cases hj : s.val + j.val < n
  · have hb := b.isLt
    have hk := k.isLt
    have ht := t.isLt
    rw [dif_pos hj, dif_pos (fun a => by
      match a with
      | ⟨0, _⟩ => exact ⟨Nat.zero_le _, show b.val * 1 + 0 - 0 < B by omega⟩
      | ⟨1, _⟩ => exact ⟨Nat.zero_le _, show k.val * 1 + 0 - 0 < H by omega⟩
      | ⟨2, _⟩ => exact ⟨Nat.zero_le _, show t.val * 1 + 0 - 0 < T by omega⟩
      | ⟨3, _⟩ => exact ⟨Nat.zero_le _, show s.val * 1 + j.val - 0 < n by omega⟩)]
    refine congrArg x (funext fun a => Fin.ext ?_)
    match a with
    | ⟨0, _⟩ => show b.val * 1 + 0 - 0 = b.val; omega
    | ⟨1, _⟩ => show k.val * 1 + 0 - 0 = k.val; omega
    | ⟨2, _⟩ => show t.val * 1 + 0 - 0 = t.val; omega
    | ⟨3, _⟩ => show s.val * 1 + j.val - 0 = s.val + j.val; omega
  · rw [dif_neg hj, dif_neg fun hin => hj ?_]
    have h3 : s.val * 1 + j.val - 0 < n := (hin 3).2
    omega

/-- The window sum that reaches to the end of the last axis: the sum of the places from one's own on. -/
theorem window_suffix {B H T n m : ℕ} (x : (⟨4, ![B, H, T, n]⟩ : Shape).Idx → EReal) (init : EReal) (hi : init = 0)
    (h : (⟨4, ![B, H, T, n]⟩ : Shape).ReduceWindows ![1, 1, 1, n] ![1, 1, 1, 1] ![0, 0, 0, 0] ![0, 0, 0, m] ⟨4, ![B, H, T, n]⟩)
    (b : Fin B) (k : Fin H) (t : Fin T) (s : Fin n) :
    Ideal.hostReduceWindowAdd ![1, 1, 1, n] ![1, 1, 1, 1] ![0, 0, 0, 0] ![0, 0, 0, m] h x init (ix4 b k t s)
      = ∑ s' : Fin n, if s.val ≤ s'.val then x (ix4 b k t s') else 0 := by
  subst hi
  have hs := s.isLt
  let f : ℕ → EReal := fun j => if hj : j < n then x (ix4 b k t ⟨j, hj⟩) else 0
  unfold Ideal.hostReduceWindowAdd Host.reduceWindow
  dsimp only
  refine (foldl_add (n := (⟨4, ![1, 1, 1, n]⟩ : Shape).numel) _ _).trans ?_
  rw [zero_add, ← Equiv.sum_comp (⟨4, ![1, 1, 1, n]⟩ : Shape).rowMajor, ← Equiv.sum_comp (lastAxis n)]
  rw [Finset.sum_congr rfl (g := fun j : Fin n => f (s.val + j.val)) fun j _ => ?_,
    sum_shift f s.val n hs fun j hj => dif_neg (by omega)]
  · exact Finset.sum_congr rfl fun j _ => by
      show (if s.val ≤ j.val then (if hj : j.val < n then x (ix4 b k t ⟨j.val, hj⟩) else 0) else 0) = _
      rw [dif_pos j.isLt]
  · exact in_window x b k t s j _ (Equiv.symm_apply_apply _ _)

end Cert.StickMath
-- ==== Proof.Reference.lean ====
module

public import proofs.«01_k».proof.Proof.Gen.ReferenceIdeal.Run
public import proofs.«01_k».proof.Proof.Heads
public import proofs.«01_k».proof.Proof.Scan

@[expose] public section

set_option maxRecDepth 16384

noncomputable section

namespace Cert.ReferenceIdeal.Stick

open Cert.ReferenceIdeal Cert.ReferenceIdeal.Gen Cert.StickMath
open Idealize.ShloMosaic Idealize.ShloMosaic.TcCoe Idealize.ShloMosaic.ValueIdx

/-! # What the reference computes, over the extended reals -/

/-- The scores, one per head, query and key. -/
abbrev Pairs := FVec Ideal S8x12x4096x4096 .f32

/-- An array of zeros over the pairs. -/
def zeros : Pairs := broadcastInDim S8x12x4096x4096 ![] bcast_S_S8x12x4096x4096 (constant S_ .f32 0x00000000#32)

/-- The 768 lanes as 12 heads of 64. -/
def heads (x : FVec Ideal S8x4096x768 .f32) : FVec Ideal S8x12x4096x64 .f32 :=
  transpose S8x12x4096x64 [0, 2, 1, 3] (shapeCast S8x4096x12x64 x shapeCasts_S8x4096x768_S8x4096x12x64)
    transposes_S8x4096x12x64_S8x12x4096x64_0_2_1_3

/-- The scores. -/
def scores (q k : FVec Ideal S8x12x4096x64 .f32) : Pairs :=
  mulf (Host.dotGeneral dot_S8x12x4096x64_S8x12x4096x64_S8x12x4096x4096_3_3_2_2_01_01 none q k)
    (broadcastInDim S8x12x4096x4096 ![] bcast_S_S8x12x4096x4096 (constant S_ .f32 0x3E000000#32))

/-- The logarithm of one plus the exponential. -/
def softplus (y : Pairs) : Pairs :=
  select (cmpf .une (subf y zeros) (subf y zeros)) (addf y zeros)
    (addf (maximumf y zeros) (Host.log1p (Host.exp (Host.negf (Host.absf (subf y zeros))))))

/-- The logarithm of the sigmoid. -/
def logSigmoid (z : Pairs) : Pairs := Host.negf (softplus (Host.negf z))

/-- The keys before the query. -/
def mask : IVec S8x12x4096x4096 1 :=
  broadcastInDim S8x12x4096x4096 ![2, 3] bcast_S4096x4096_S8x12x4096x4096_2_3
    (cmpi .slt (broadcastInDim S4096x4096 ![0, 1] bcast_S1x4096_S4096x4096_0_1
        (broadcastInDim S1x4096 ![1] bcast_S4096_S1x4096_1 (iotaInDim S4096 32 0)))
      (broadcastInDim S4096x4096 ![0, 1] bcast_S4096x1_S4096x4096_0_1
        (broadcastInDim S4096x1 ![0] bcast_S4096_S4096x1_0 (iotaInDim S4096 32 0))))

/-- The log of what each key leaves of the stick. -/
def logNot (z : Pairs) : Pairs := select mask (logSigmoid (Host.negf z)) zeros

/-- Its sum from each key to the last. -/
def suffix (x : Pairs) : Pairs :=
  Host.reduceWindowAdd ![1, 1, 1, 4096] ![1, 1, 1, 1] ![0, 0, 0, 0] ![0, 0, 0, 4095] x
    (broadcastInDim S_ ![] bcast_S_S_ (constant S_ .f32 0x00000000#32))
    reduceWindows_S8x12x4096x4096_S8x12x4096x4096_w1s1p0_0_w1s1p0_0_w1s1p0_0_w4096s1p0_4095 h_S_

/-- The attention weights. -/
def weights (z : Pairs) : Pairs :=
  select mask (Host.exp (subf (addf (logSigmoid z) (suffix (logNot z))) (logNot z))) zeros

/-- The output, the heads side by side again. -/
def result (q k v : FVec Ideal S8x4096x768 .f32) : FVec Ideal S32768x768 .f32 :=
  shapeCast S32768x768 (shapeCast S8x4096x768 (transpose S8x4096x12x64 [0, 2, 1, 3]
    (Host.dotGeneral dot_S8x12x4096x4096_S8x12x4096x64_S8x12x4096x64_3_2_2_3_01_01 none (weights (scores (heads q) (heads k))) (heads v))
    transposes_S8x12x4096x64_S8x4096x12x64_0_2_1_3) shapeCasts_S8x4096x12x64_S8x4096x768) shapeCasts_S8x4096x768_S32768x768

/-- The queries, -/
def queries (x : FVec Ideal S8x4096x1024 .f32) : FVec Ideal S8x4096x768 .f32 :=
  extractStridedSlice S8x4096x768 ![0, 0, 0] x slices_S8x4096x1024_S8x4096x768_0_0_0

/-- the keys -/
def keys (x : FVec Ideal S8x4096x1536 .f32) : FVec Ideal S8x4096x768 .f32 :=
  extractStridedSlice S8x4096x768 ![0, 0, 0] x slices_S8x4096x1536_S8x4096x768_0_0_0

/-- and the values. -/
def vals (x : FVec Ideal S8x4096x1536 .f32) : FVec Ideal S8x4096x768 .f32 :=
  extractStridedSlice S8x4096x768 ![0, 0, 768] x slices_S8x4096x1536_S8x4096x768_0_0_768

/-- The reference's output is those pieces put together. -/
theorem res_eq (m : (ℓ : Loc nD τ sig) → Buf (Elt Ideal) ℓ) (c : Dev nD) :
    Value.res_main_v32 m c = result (queries (m ((c.tc : Thread nD τ).loc main_arg0)))
      (keys (m ((c.tc : Thread nD τ).loc main_arg1))) (vals (m ((c.tc : Thread nD τ).loc main_arg1))) := rfl

/-! ## Each piece at an entry -/

theorem zeros_apply (i : S8x12x4096x4096.Idx) : zeros i = 0 := Ideal.ofBits_zero_f32

/-- Two indices of four axes agree where their coordinates do. -/
theorem idx_ext4 {d : Fin 4 → ℕ} {i j : (⟨4, d⟩ : Shape).Idx} (h0 : i 0 = j 0) (h1 : i 1 = j 1) (h2 : i 2 = j 2) (h3 : i 3 = j 3) :
    i = j := by
  funext a
  match a with
  | ⟨0, _⟩ => exact h0
  | ⟨1, _⟩ => exact h1
  | ⟨2, _⟩ => exact h2
  | ⟨3, _⟩ => exact h3

theorem dot_qk (q k : FVec Ideal S8x12x4096x64 .f32) (b : Fin 8) (h : Fin 12) (t s : Fin 4096) :
    Host.dotGeneral dot_S8x12x4096x64_S8x12x4096x64_S8x12x4096x4096_3_3_2_2_01_01 none q k (ix4 b h t s)
      = ∑ d : Fin 64, q (ix4 b h t d) * k (ix4 b h s d) := by
  simp only [Host.dotGeneral]
  rw [Ideal.dotGeneral_apply,
    ← Equiv.sum_comp (contrEquiv1 dot_S8x12x4096x64_S8x12x4096x64_S8x12x4096x4096_3_3_2_2_01_01 64 rfl rfl).symm]
  refine Finset.sum_congr rfl fun l _ => ?_
  congr 2
  · exact idx_ext4 rfl rfl rfl rfl
  · exact idx_ext4 rfl rfl rfl rfl

theorem dot_av (a : Pairs) (v : FVec Ideal S8x12x4096x64 .f32) (b : Fin 8) (h : Fin 12) (t : Fin 4096) (d : Fin 64) :
    Host.dotGeneral dot_S8x12x4096x4096_S8x12x4096x64_S8x12x4096x64_3_2_2_3_01_01 none a v (ix4 b h t d)
      = ∑ s : Fin 4096, a (ix4 b h t s) * v (ix4 b h s d) := by
  simp only [Host.dotGeneral]
  rw [Ideal.dotGeneral_apply,
    ← Equiv.sum_comp (contrEquiv1 dot_S8x12x4096x4096_S8x12x4096x64_S8x12x4096x64_3_2_2_3_01_01 4096 rfl rfl).symm]
  refine Finset.sum_congr rfl fun l _ => ?_
  congr 2
  · exact idx_ext4 rfl rfl rfl rfl
  · exact idx_ext4 rfl rfl rfl rfl

/-- Lane `d` of head `h`. -/
def lane768 (h : Fin 12) (d : Fin 64) : Fin 768 := ⟨64 * h.val + d.val, by omega⟩

theorem heads_apply (x : FVec Ideal S8x4096x768 .f32) (b : Fin 8) (h : Fin 12) (t : Fin 4096) (d : Fin 64) :
    heads x (ix4 b h t d) = x (ix3 b t (lane768 h d)) := by
  unfold heads
  rw [transpose_apply _ _ _ (ix4 b h t d) (ix4 b t h d) (by intro a; fin_cases a <;> rfl)]
  exact shapeCast_apply _ _ _ (ix3 b t (lane768 h d)) (by
    simp only [Shape.rowMajor_val_four, Shape.rowMajor_val_three]
    show (b.val * 4096 + t.val) * 768 + (64 * h.val + d.val) = ((b.val * 4096 + t.val) * 12 + h.val) * 64 + d.val
    omega)

theorem mask_apply (b : Fin 8) (h : Fin 12) (t s : Fin 4096) : mask (ix4 b h t s) = if s.val < t.val then 1#1 else 0#1 := by
  unfold mask
  rw [broadcastInDim_apply _ _ _ (ix4 b h t s) (ix2 t s) (by intro a; fin_cases a <;> rfl)]
  show IntOp.cmpi .slt _ _ = _
  rw [broadcastInDim_apply _ _ _ (ix2 t s) (ix2 (0 : Fin 1) s) (by intro a; fin_cases a <;> rfl),
    broadcastInDim_apply _ _ _ (ix2 (0 : Fin 1) s) (ix1 s) (by intro a; fin_cases a; rfl),
    broadcastInDim_apply _ _ _ (ix2 t s) (ix2 t (0 : Fin 1)) (by intro a; fin_cases a <;> rfl),
    broadcastInDim_apply _ _ _ (ix2 t (0 : Fin 1)) (ix1 t) (by intro a; fin_cases a; rfl),
    iotaInDim_apply, iotaInDim_apply]
  exact Cert.KernelIdeal.Stick.slt_ofNat s.isLt t.isLt

theorem logSigmoid_apply (z : Pairs) (i : S8x12x4096x4096.Idx) (x : ℝ) (hz : z i = (x : EReal)) :
    logSigmoid z i = ((ls x : ℝ) : EReal) := by
  have e : logSigmoid z i = -(if Ideal.cmp .une (-(z i) - zeros i) (-(z i) - zeros i) = 1#1 then -(z i) + zeros i
      else max (-(z i)) (zeros i) + Ideal.log1p (Ideal.exp (-(max (-(z i) - zeros i) (-(-(z i) - zeros i)))))) := rfl
  rw [e, zeros_apply, hz, if_neg (by simp [Ideal.cmp]), host_ls]

section
variable {q k v : FVec Ideal S8x12x4096x64 .f32} {qr kr : Fin 64 → ℝ}

theorem scores_apply (b : Fin 8) (h : Fin 12) (t s : Fin 4096)
    (hq : ∀ d, q (ix4 b h t d) = ((qr d : ℝ) : EReal)) (hk : ∀ d, k (ix4 b h s d) = ((kr d : ℝ) : EReal)) :
    scores q k (ix4 b h t s) = ((score qr kr : ℝ) : EReal) := by
  show Host.dotGeneral _ none q k (ix4 b h t s) * Ideal.ofBits .f32 0x3E000000#32 = _
  rw [dot_qk, Cert.KernelIdeal.Stick.ofBits_eighth, score, EReal.coe_mul, coe_sum]
  congr 1
  exact Finset.sum_congr rfl fun d _ => by rw [hq, hk, EReal.coe_mul]

end

variable {Z : Pairs} {z : ℕ → ℝ} {b : Fin 8} {h : Fin 12} {t : Fin 4096}

theorem logNot_apply (hZ : ∀ s : Fin 4096, Z (ix4 b h t s) = ((z s.val : ℝ) : EReal)) (s : Fin 4096) :
    logNot Z (ix4 b h t s) = ((leaves z t.val s.val : ℝ) : EReal) := by
  unfold logNot
  rw [select_apply, mask_apply, logSigmoid_apply (Host.negf Z) _ (-(z s.val)) (by
    show -(Z (ix4 b h t s)) = _
    rw [hZ, EReal.coe_neg]), ls_neg, leaves, zeros_apply]
  by_cases hs : s.val < t.val
  · rw [if_pos hs, if_pos hs, select_one]
  · rw [if_neg hs, if_neg hs, select_zero, EReal.coe_zero]

theorem suffix_apply (x : Pairs) (s : Fin 4096) :
    suffix x (ix4 b h t s) = ∑ s' : Fin 4096, if s.val ≤ s'.val then x (ix4 b h t s') else 0 := by
  unfold suffix Host.reduceWindowAdd
  exact window_suffix x _ Ideal.ofBits_zero_f32 _ b h t s

/-- A term that is added and taken away again. -/
theorem reorder (x y s : ℝ) : x + (y + s) - y = x + s := by ring

theorem weights_apply (hZ : ∀ s : Fin 4096, Z (ix4 b h t s) = ((z s.val : ℝ) : EReal)) (s : Fin 4096) :
    weights Z (ix4 b h t s) = weight z t.val 4096 s.val := by
  have hsum : suffix (logNot Z) (ix4 b h t s)
      = ((∑ s' ∈ Finset.Ico s.val 4096, leaves z t.val s' : ℝ) : EReal) := by
    rw [suffix_apply, coe_sum, Finset.sum_congr rfl (g := fun s' : Fin 4096 =>
      (fun n : ℕ => if s.val ≤ n then ((leaves z t.val n : ℝ) : EReal) else 0) s'.val) fun s' _ => by rw [logNot_apply hZ],
      Fin.sum_univ_eq_sum_range (fun n : ℕ => if s.val ≤ n then ((leaves z t.val n : ℝ) : EReal) else 0) 4096,
      ← Finset.sum_filter]
    refine Finset.sum_congr ?_ fun _ _ => rfl
    ext n; rw [Finset.mem_filter, Finset.mem_range, Finset.mem_Ico]; omega
  unfold weights weight
  rw [select_apply, mask_apply, zeros_apply]
  by_cases hs : s.val < t.val
  · rw [if_pos hs, if_pos hs, select_one]
    show Ideal.exp (logSigmoid Z (ix4 b h t s) + suffix (logNot Z) (ix4 b h t s) - logNot Z (ix4 b h t s)) = _
    rw [logSigmoid_apply Z _ _ (hZ s), hsum, logNot_apply hZ, ← EReal.coe_add, ← EReal.coe_sub, Ideal.exp_coe,
      EReal.coe_eq_coe_iff, Finset.sum_eq_sum_Ico_succ_bot s.isLt]
    exact congrArg Real.exp (reorder _ _ _)
  · rw [if_neg hs, if_neg hs, select_zero]

/-- The reference's output at a query and a lane of a head: the queries and keys finite. -/
theorem result_apply (q k v : FVec Ideal S8x4096x768 .f32) (b : Fin 8) (h : Fin 12) (t : Fin 4096) (d : Fin 64)
    (qr : Fin 64 → ℝ) (kr : ℕ → Fin 64 → ℝ) (w : ℕ → EReal)
    (hq : ∀ d, q (ix3 b t (lane768 h d)) = ((qr d : ℝ) : EReal))
    (hk : ∀ (s : Fin 4096) d, k (ix3 b s (lane768 h d)) = ((kr s.val d : ℝ) : EReal))
    (hw : ∀ s : Fin 4096, v (ix3 b s (lane768 h d)) = w s.val) :
    result q k v (ix2 (⟨4096 * b.val + t.val, by omega⟩ : Fin 32768) (lane768 h d))
      = out (fun s => score qr (kr s)) w t.val 4096 4096 := by
  unfold result
  rw [shapeCast_apply _ _ _ (ix3 b t (lane768 h d)) (by
      simp only [Shape.rowMajor_val_three, Shape.rowMajor_val_two]
      show (b.val * 4096 + t.val) * 768 + (64 * h.val + d.val) = (4096 * b.val + t.val) * 768 + (64 * h.val + d.val)
      omega),
    shapeCast_apply _ _ _ (ix4 b t h d) (by
      simp only [Shape.rowMajor_val_four, Shape.rowMajor_val_three]
      show ((b.val * 4096 + t.val) * 12 + h.val) * 64 + d.val = (b.val * 4096 + t.val) * 768 + (64 * h.val + d.val)
      omega),
    transpose_apply _ _ _ (ix4 b t h d) (ix4 b h t d) (by intro a; fin_cases a <;> rfl), dot_av, out,
    ← Fin.sum_univ_eq_sum_range (fun s => weight (fun s => score qr (kr s)) t.val 4096 s * w s)]
  refine Finset.sum_congr rfl fun s _ => ?_
  rw [weights_apply (z := fun s => score qr (kr s)) fun s => scores_apply b h t s (fun d => by rw [heads_apply, hq])
    (fun d => by rw [heads_apply, hk]), heads_apply, hw]

end Cert.ReferenceIdeal.Stick
-- ==== Proof.Inputs.lean ====
module

public import proofs.«01_k».proof.Proof.Run
public import proofs.«01_k».proof.Proof.Reference

@[expose] public section

set_option maxRecDepth 16384

noncomputable section

namespace Cert.KernelIdeal.Stick

open Cert.KernelIdeal.Gen
open Cert.ReferenceIdeal.Stick (queries keys vals lane768)
open Idealize.ShloMosaic Idealize.ShloMosaic.TcCoe Idealize.ShloMosaic.ValueIdx
open Idealize.ShloMosaic.Pipeline (Window)

/-! # The blocks of the arguments the kernel reads at a grid point -/

variable (m : (ℓ : Loc nD τ sig) → Buf (Elt Ideal) ℓ) (c : Dev nD)

/-- The array of the first window: the first argument, its batch and position axes as one. -/
theorem V_v0 : V m c main_v0 = shapeCast S32768x1024 (m ((c : Thread nD τ).loc main_arg0)) shapeCasts_S8x4096x1024_S32768x1024 := by
  show StableHlo.after hostOps0 (fun b => m (c, b)) (Proc.devRef .tc main_v0) = _
  simp only [hostOps0]
  after_results_simp <;> rfl

/-- The array of the second and third: the second argument likewise. -/
theorem V_v2 : V m c main_v2 = truncf (F := Ideal) (φ := .f32) .bf16 (shapeCast S32768x1536 (m ((c : Thread nD τ).loc main_arg1))
    shapeCasts_S8x4096x1536_S32768x1536) bitsLt_bf16_f32 := by
  show StableHlo.after hostOps0 (fun b => m (c, b)) (Proc.devRef .tc main_v2) = _
  simp only [hostOps0]
  after_results_simp <;> rfl

/-- The block each window is at. -/
theorem index_0 : ∀ t : Fin cfg0.N, (cfg0.win 0).index t 0 = 16 * (grid0.coords t 0).val + (grid0.coords t 2).val
    ∧ (cfg0.win 0).index t 1 = (grid0.coords t 1).val :=
  (by decide +kernel : ∀ t : Fin grid0.N, win0_0.index t 0 = 16 * (grid0.coords t 0).val + (grid0.coords t 2).val
    ∧ win0_0.index t 1 = (grid0.coords t 1).val)
theorem index_1 : ∀ t : Fin cfg0.N, (cfg0.win 1).index t 0 = (grid0.coords t 0).val
    ∧ (cfg0.win 1).index t 1 = (grid0.coords t 1).val :=
  (by decide +kernel : ∀ t : Fin grid0.N, win0_1.index t 0 = (grid0.coords t 0).val
    ∧ win0_1.index t 1 = (grid0.coords t 1).val)
theorem index_2 : ∀ t : Fin cfg0.N, (cfg0.win 2).index t 0 = (grid0.coords t 0).val
    ∧ (cfg0.win 2).index t 1 = 6 + (grid0.coords t 1).val :=
  (by decide +kernel : ∀ t : Fin grid0.N, win0_2.index t 0 = (grid0.coords t 0).val
    ∧ win0_2.index t 1 = 6 + (grid0.coords t 1).val)
theorem index_3 : ∀ t : Fin cfg0.N, (cfg0.win 3).index t 0 = 16 * (grid0.coords t 0).val + (grid0.coords t 2).val
    ∧ (cfg0.win 3).index t 1 = (grid0.coords t 1).val :=
  (by decide +kernel : ∀ t : Fin grid0.N, win0_3.index t 0 = 16 * (grid0.coords t 0).val + (grid0.coords t 2).val
    ∧ win0_3.index t 1 = (grid0.coords t 1).val)

/-- A grid point's coordinates: the batch, the pair of heads, the query block. -/
theorem coords_lt (t : Fin cfg0.N) : (grid0.coords t 0).val < 8 ∧ (grid0.coords t 1).val < 6 ∧ (grid0.coords t 2).val < 16 :=
  ⟨(grid0.coords t 0).isLt, (grid0.coords t 1).isLt, (grid0.coords t 2).isLt⟩

/-- The batch of a grid point, -/
def batch (t : Fin cfg0.N) : Fin 8 := ⟨(grid0.coords t 0).val, (coords_lt t).1⟩
/-- the position of a row of its query block, -/
def posn (t : Fin cfg0.N) (r : Fin 256) : Fin 4096 := ⟨256 * (grid0.coords t 2).val + r.val, by have := (coords_lt t).2.2; omega⟩
/-- and the lane of a lane of its pair of heads. -/
def lanes (t : Fin cfg0.N) (l : Fin 128) : Fin 768 := ⟨128 * (grid0.coords t 1).val + l.val, by have := (coords_lt t).2.1; omega⟩

/-- The query block. -/
theorem iblk_q (t : Fin cfg0.N) (r : Fin 256) (l : Fin 128) :
    iblk m c 0 t (ix2 r l) = queries (m ((c : Thread nD τ).loc main_arg0)) (ix3 (batch t) (posn t r) (lanes t l)) := by
  obtain ⟨h0, h1, h2⟩ := coords_lt t
  have e : iblk m c 0 t (ix2 r l) = V m c main_v0 (((cfg0.win 0).rect t).emb (ix2 r l)) := rfl
  have i0 : ((((cfg0.win 0).rect t).emb (ix2 r l)) 0).val = (16 * (grid0.coords t 0).val + (grid0.coords t 2).val) * 256 + r.val := by
    rw [Window.rect_emb_val (cfg0.win 0) t _ _ rfl, (index_0 t).1]; rfl
  have i1 : ((((cfg0.win 0).rect t).emb (ix2 r l)) 1).val = (grid0.coords t 1).val * 128 + l.val := by
    rw [Window.rect_emb_val (cfg0.win 0) t _ _ rfl, (index_0 t).2]; rfl
  rw [e, V_v0, shapeCast_apply _ _ _ (ix3 (batch t) (posn t r) (⟨128 * (grid0.coords t 1).val + l.val, by omega⟩ : Fin 1024)) (by
    simp only [Shape.rowMajor_val_three, Shape.rowMajor_val_two]
    rw [i0, i1]
    show ((grid0.coords t 0).val * 4096 + (256 * (grid0.coords t 2).val + r.val)) * 1024 + (128 * (grid0.coords t 1).val + l.val)
      = ((16 * (grid0.coords t 0).val + (grid0.coords t 2).val) * 256 + r.val) * 1024 + ((grid0.coords t 1).val * 128 + l.val)
    omega)]
  unfold queries
  exact (extractStridedSlice_apply _ _ _ _ _ (by
    intro a
    match a with
    | ⟨0, _⟩ => exact (Nat.zero_add _).symm
    | ⟨1, _⟩ => exact (Nat.zero_add _).symm
    | ⟨2, _⟩ => exact (Nat.zero_add _).symm)).symm

/-- The keys. -/
theorem iblk_k (t : Fin cfg0.N) (s : Fin 4096) (l : Fin 128) :
    iblk m c 1 t (ix2 s l) = keys (m ((c : Thread nD τ).loc main_arg1)) (ix3 (batch t) s (lanes t l)) := by
  obtain ⟨h0, h1, h2⟩ := coords_lt t
  have e : iblk m c 1 t (ix2 s l) = V m c main_v2 (((cfg0.win 1).rect t).emb (ix2 s l)) := rfl
  have i0 : ((((cfg0.win 1).rect t).emb (ix2 s l)) 0).val = (grid0.coords t 0).val * 4096 + s.val := by
    rw [Window.rect_emb_val (cfg0.win 1) t _ _ rfl, (index_1 t).1]; rfl
  have i1 : ((((cfg0.win 1).rect t).emb (ix2 s l)) 1).val = (grid0.coords t 1).val * 128 + l.val := by
    rw [Window.rect_emb_val (cfg0.win 1) t _ _ rfl, (index_1 t).2]; rfl
  rw [e, V_v2, truncf_apply, shapeCast_apply _ _ _ (ix3 (batch t) s (⟨128 * (grid0.coords t 1).val + l.val, by omega⟩ : Fin 1536)) (by
    simp only [Shape.rowMajor_val_three, Shape.rowMajor_val_two]
    rw [i0, i1]
    show ((grid0.coords t 0).val * 4096 + s.val) * 1536 + (128 * (grid0.coords t 1).val + l.val)
      = ((grid0.coords t 0).val * 4096 + s.val) * 1536 + ((grid0.coords t 1).val * 128 + l.val)
    omega)]
  unfold keys
  exact (extractStridedSlice_apply _ _ _ _ _ (by
    intro a
    match a with
    | ⟨0, _⟩ => exact (Nat.zero_add _).symm
    | ⟨1, _⟩ => exact (Nat.zero_add _).symm
    | ⟨2, _⟩ => exact (Nat.zero_add _).symm)).symm

/-- The values. -/
theorem iblk_v (t : Fin cfg0.N) (s : Fin 4096) (l : Fin 128) :
    iblk m c 2 t (ix2 s l) = vals (m ((c : Thread nD τ).loc main_arg1)) (ix3 (batch t) s (lanes t l)) := by
  obtain ⟨h0, h1, h2⟩ := coords_lt t
  have e : iblk m c 2 t (ix2 s l) = V m c main_v2 (((cfg0.win 2).rect t).emb (ix2 s l)) := rfl
  have i0 : ((((cfg0.win 2).rect t).emb (ix2 s l)) 0).val = (grid0.coords t 0).val * 4096 + s.val := by
    rw [Window.rect_emb_val (cfg0.win 2) t _ _ rfl, (index_2 t).1]; rfl
  have i1 : ((((cfg0.win 2).rect t).emb (ix2 s l)) 1).val = (6 + (grid0.coords t 1).val) * 128 + l.val := by
    rw [Window.rect_emb_val (cfg0.win 2) t _ _ rfl, (index_2 t).2]; rfl
  rw [e, V_v2, truncf_apply, shapeCast_apply _ _ _ (ix3 (batch t) s (⟨768 + (128 * (grid0.coords t 1).val + l.val), by omega⟩ : Fin 1536)) (by
    simp only [Shape.rowMajor_val_three, Shape.rowMajor_val_two]
    rw [i0, i1]
    show ((grid0.coords t 0).val * 4096 + s.val) * 1536 + (768 + (128 * (grid0.coords t 1).val + l.val))
      = ((grid0.coords t 0).val * 4096 + s.val) * 1536 + ((6 + (grid0.coords t 1).val) * 128 + l.val)
    omega)]
  unfold vals
  exact (extractStridedSlice_apply _ _ _ _ _ (by
    intro a
    match a with
    | ⟨0, _⟩ => exact (Nat.zero_add _).symm
    | ⟨1, _⟩ => exact (Nat.zero_add _).symm
    | ⟨2, _⟩ => rfl)).symm

end Cert.KernelIdeal.Stick
-- ==== Proof.Finite.lean ====
module

public import proofs.«01_k».proof.Proof.Reference
public import proofs.«01_k».proof.Proof.Gen.Pre_finite_scores
public import Idealize.ShloMosaic.Lib.ReduceAll

@[expose] public section

set_option maxRecDepth 16384

noncomputable section

namespace Cert.Pre_finite_scores.Stick

open Cert.Pre_finite_scores Cert.Pre_finite_scores.Gen Cert.ReferenceIdeal.Stick
open Idealize.ShloMosaic

/-! # The precondition: the queries and the keys are finite -/

/-- The pattern compared with is plus infinity. -/
theorem ofBits_inf : Ideal.ofBits .f32 0x7F800000#32 = ⊤ := by
  simp [Ideal.ofBits, Ideal.ieee]

/-- An extended real whose absolute value is less than plus infinity is a real. -/
theorem real_of_abs_lt (x : EReal) (h : Ideal.cmp .olt (max x (-x)) ⊤ = 1#1) : x = ((x.toReal : ℝ) : EReal) := by
  induction x with
  | bot => simp [Ideal.cmp] at h
  | coe r => rw [EReal.toReal_coe]
  | top => simp [Ideal.cmp] at h

instance : Subsingleton S_.Idx := ⟨fun a b => funext fun x => x.elim0⟩

variable {x : FVec Ideal S8x4096x1024 .f32} {y : FVec Ideal S8x4096x1536 .f32}

/-- Both halves of the precondition. -/
theorem both (h : fn x y = fun _ => 1#1) : (∀ i, cmpf .olt (Host.absf (queries x)) (broadcastInDim S8x4096x768 ![] bcast_S_S8x4096x768
      (constant S_ .f32 0x7F800000#32)) i = 1#1)
    ∧ ∀ i, cmpf .olt (Host.absf (keys y)) (broadcastInDim S8x4096x768 ![] bcast_S_S8x4096x768
      (constant S_ .f32 0x7F800000#32)) i = 1#1 := by
  have h0 := congrFun h (Shape.Idx.first h_S_)
  unfold fn at h0
  obtain ⟨hq, hk⟩ := IntOp.andi_eq_one.1 h0
  exact ⟨fun i => Host.reduce_andi_all _ _ _ _ _ hq i, fun i => Host.reduce_andi_all _ _ _ _ _ hk i⟩

/-- The queries are reals, -/
theorem queries_real (h : fn x y = fun _ => 1#1) (i : S8x4096x768.Idx) : queries x i = (((queries x i).toReal : ℝ) : EReal) :=
  real_of_abs_lt _ (by
    have e : Ideal.cmp .olt (max (queries x i) (-(queries x i))) (Ideal.ofBits .f32 0x7F800000#32) = 1#1 := (both h).1 i
    rwa [ofBits_inf] at e)

/-- and the keys. -/
theorem keys_real (h : fn x y = fun _ => 1#1) (i : S8x4096x768.Idx) : keys y i = (((keys y i).toReal : ℝ) : EReal) :=
  real_of_abs_lt _ (by
    have e : Ideal.cmp .olt (max (keys y i) (-(keys y i))) (Ideal.ofBits .f32 0x7F800000#32) = 1#1 := (both h).2 i
    rwa [ofBits_inf] at e)

end Cert.Pre_finite_scores.Stick
-- ==== Proof.Equation.lean ====
module

public import proofs.«01_k».proof.Proof.Inputs
public import proofs.«01_k».proof.Proof.Finite

@[expose] public section

set_option maxRecDepth 16384

noncomputable section

namespace Cert.KernelIdeal.Stick

open Cert.KernelIdeal.Gen Cert.StickMath
open Cert.ReferenceIdeal.Stick (queries keys vals lane768 result result_apply)
open Cert.Pre_finite_scores.Stick (queries_real keys_real)
open Idealize.ShloMosaic Idealize.ShloMosaic.TcCoe Idealize.ShloMosaic.ValueIdx Idealize.SL.Sem
open Idealize.ShloMosaic.Pipeline (Window)

/-! # The kernel's result array is the reference's, where the queries and the keys are finite -/

variable (m : (ℓ : Loc nD τ sig) → Buf (Elt Ideal) ℓ) (ρ : Dev nD → PrngReg) (c : Dev nD)

/-- What the reference computes of the two arguments. -/
def goal : FVec Ideal S32768x768 .f32 := result (queries (m ((c : Thread nD τ).loc main_arg0)))
  (keys (m ((c : Thread nD τ).loc main_arg1))) (vals (m ((c : Thread nD τ).loc main_arg1)))

/-- The precondition on one device. -/
abbrev Fin_ : Prop := Cert.Pre_finite_scores.fn (F := Ideal) (m ((c : Thread nD τ).loc main_arg0))
  (m ((c : Thread nD τ).loc main_arg1)) = fun _ => 1#1

/-- The query block's entries as reals, -/
def qReal (t : Fin cfg0.N) (r : Fin 256) (l : Fin 128) : ℝ :=
  (queries (m ((c : Thread nD τ).loc main_arg0)) (ix3 (batch t) (posn t r) (lanes t l))).toReal
/-- and the keys'. -/
def kReal (t : Fin cfg0.N) (s : ℕ) (l : Fin 128) : ℝ :=
  if h : s < 4096 then (keys (m ((c : Thread nD τ).loc main_arg1)) (ix3 (batch t) ⟨s, h⟩ (lanes t l))).toReal else 0

theorem queries_at (h : Fin_ m c) (t : Fin cfg0.N) (r : Fin 256) (l : Fin 128) :
    queries (m ((c : Thread nD τ).loc main_arg0)) (ix3 (batch t) (posn t r) (lanes t l)) = ((qReal m c t r l : ℝ) : EReal) :=
  queries_real h _

theorem keys_at (h : Fin_ m c) (t : Fin cfg0.N) (s : ℕ) (hs : s < 4096) (l : Fin 128) :
    keys (m ((c : Thread nD τ).loc main_arg1)) (ix3 (batch t) ⟨s, hs⟩ (lanes t l)) = ((kReal m c t s l : ℝ) : EReal) := by
  unfold kReal
  rw [dif_pos hs]
  exact keys_real h _

theorem vals_at (t : Fin cfg0.N) (l : Fin 128) (s : Fin 4096) :
    vals (m ((c : Thread nD τ).loc main_arg1)) (ix3 (batch t) s (lanes t l)) = lane (iblk m c 2 t) l s.val := by
  unfold lane
  rw [dif_pos s.isLt]
  exact (iblk_v m c t s l).symm

/-- The first head of a grid point's pair, -/
def firstHead (t : Fin cfg0.N) : Fin 12 := ⟨2 * (grid0.coords t 1).val, by have := (coords_lt t).2.1; omega⟩
/-- and the second. -/
def secondHead (t : Fin cfg0.N) : Fin 12 := ⟨2 * (grid0.coords t 1).val + 1, by have := (coords_lt t).2.1; omega⟩

theorem lane_firstHead (t : Fin cfg0.N) (d : Fin 64) : lane768 (firstHead t) d = lanes t (laneA d) :=
  Fin.ext (by show 64 * (2 * (grid0.coords t 1).val) + d.val = 128 * (grid0.coords t 1).val + d.val; omega)
theorem lane_secondHead (t : Fin cfg0.N) (d : Fin 64) : lane768 (secondHead t) d = lanes t (laneB d) :=
  Fin.ext (by show 64 * (2 * (grid0.coords t 1).val + 1) + d.val = 128 * (grid0.coords t 1).val + (64 + d.val); omega)

/-- The row of the result a row of a grid point's block is. -/
def row (t : Fin cfg0.N) (r : Fin 256) : Fin 32768 :=
  ⟨4096 * (batch t).val + (posn t r).val, by have := (batch t).isLt; have := (posn t r).isLt; omega⟩

/-- What a point leaves of its block is what the reference has there: the first head's lanes, -/
theorem outA (h : Fin_ m c) (t : Fin cfg0.N) (r : Fin 256) (d : Fin 64) :
    outBlk (grid0.coords t 2).val (iblk m c 0 t) (iblk m c 1 t) (iblk m c 2 t) (ix2 r (laneA d))
      = goal m c (ix2 (row t r) (lanes t (laneA d))) := by
  rw [outBlk_A (xr := qReal m c t) (Kr := kReal m c t) (fun r l => (iblk_q m c t r l).trans (queries_at m c h t r l))
    (fun s hs l => (iblk_k m c t ⟨s, hs⟩ l).trans (keys_at m c h t s hs l)) (by have := (coords_lt t).2.2; omega), ← lane_firstHead]
  exact (result_apply _ _ _ (batch t) (firstHead t) (posn t r) d (fun d => qReal m c t r (laneA d)) (fun s d => kReal m c t s (laneA d))
    (lane (iblk m c 2 t) (laneA d)) (fun d => by rw [lane_firstHead]; exact queries_at m c h t r _)
    (fun s d => by rw [lane_firstHead]; exact keys_at m c h t s.val s.isLt _)
    (fun s => by rw [lane_firstHead]; exact vals_at m c t _ s)).symm

/-- and the second's. -/
theorem outB (h : Fin_ m c) (t : Fin cfg0.N) (r : Fin 256) (d : Fin 64) :
    outBlk (grid0.coords t 2).val (iblk m c 0 t) (iblk m c 1 t) (iblk m c 2 t) (ix2 r (laneB d))
      = goal m c (ix2 (row t r) (lanes t (laneB d))) := by
  rw [outBlk_B (xr := qReal m c t) (Kr := kReal m c t) (fun r l => (iblk_q m c t r l).trans (queries_at m c h t r l))
    (fun s hs l => (iblk_k m c t ⟨s, hs⟩ l).trans (keys_at m c h t s hs l)) (by have := (coords_lt t).2.2; omega), ← lane_secondHead]
  exact (result_apply _ _ _ (batch t) (secondHead t) (posn t r) d (fun d => qReal m c t r (laneB d)) (fun s d => kReal m c t s (laneB d))
    (lane (iblk m c 2 t) (laneB d)) (fun d => by rw [lane_secondHead]; exact queries_at m c h t r _)
    (fun s d => by rw [lane_secondHead]; exact keys_at m c h t s.val s.isLt _)
    (fun s => by rw [lane_secondHead]; exact vals_at m c t _ s)).symm

/-- Every lane is one of the two heads'. -/
theorem out_eq (h : Fin_ m c) (t : Fin cfg0.N) (r : Fin 256) (l : Fin 128) :
    outBlk (grid0.coords t 2).val (iblk m c 0 t) (iblk m c 1 t) (iblk m c 2 t) (ix2 r l) = goal m c (ix2 (row t r) (lanes t l)) := by
  by_cases hl : l.val < 64
  · exact outA m c h t r ⟨l.val, hl⟩
  · have e : l = laneB ⟨l.val - 64, by omega⟩ := Fin.ext (by show l.val = 64 + (l.val - 64); omega)
    rw [e]
    exact outB m c h t r _

/-- The index of the result an index of a point's block is. -/
theorem emb_out (t : Fin cfg0.N) (r : Fin 256) (l : Fin 128) :
    ((cfg0.win 3).rect t).emb (ix2 r l) = ix2 (row t r) (lanes t l) := by
  funext a
  match a with
  | ⟨0, _⟩ =>
    refine Fin.ext ?_
    show ((((cfg0.win 3).rect t).emb (ix2 r l)) 0).val = 4096 * (grid0.coords t 0).val + (256 * (grid0.coords t 2).val + r.val)
    rw [Window.rect_emb_val (cfg0.win 3) t _ _ rfl, (index_3 t).1]
    show (16 * (grid0.coords t 0).val + (grid0.coords t 2).val) * 256 + r.val = _
    omega
  | ⟨1, _⟩ =>
    refine Fin.ext ?_
    show ((((cfg0.win 3).rect t).emb (ix2 r l)) 1).val = 128 * (grid0.coords t 1).val + l.val
    rw [Window.rect_emb_val (cfg0.win 3) t _ _ rfl, (index_3 t).2]
    show (grid0.coords t 1).val * 128 + l.val = _
    omega

/-- A block agreeing with an array at the indices it is of is, cut as it is written back, the array's part there. -/
theorem cut_eq (t : Fin cfg0.N) (X : S256x128.Idx → EReal) (G : S32768x768.Idx → EReal)
    (h : ∀ r l, X (ix2 r l) = G (ix2 (row t r) (lanes t l))) (x : S256x128.Idx) :
    X x = G (((cfg0.win 3).rect t).emb x) := by
  obtain ⟨r, l, rfl⟩ : ∃ (r : Fin 256) (l : Fin 128), x = ix2 r l := ⟨x 0, x 1, eq_ix2 x⟩
  rw [emb_out]
  exact h r l

/-- What a point writes back of a block is the array's part there. -/
theorem cut_read (t : Fin cfg0.N) (X : Vec Ideal S256x128 .f32) (G : FVec Ideal S32768x768 .f32)
    (h : ∀ r l, X (ix2 r l) = G (ix2 (row t r) (lanes t l))) :
    (cfg0.win 3).cut (grid0.coords t) X = ((cfg0.win 3).blk t).view.read (Elt Ideal) G :=
  funext (cut_eq t X G h)

/-- What a point writes back is its block of the reference's result. -/
theorem flushed_eq (h : Fin_ m c) (t : Fin cfg0.N) :
    (dats m 0 c).flushed 3 t = ((cfg0.win 3).blk t).view.read (Elt Ideal) (goal m c) := by
  show (cfg0.win 3).cut (grid0.coords t) ((dats m 0 c).after 3 t) = _
  rw [after0_3]
  exact cut_read t _ _ (out_eq m c h t)

/-- A grid point's coordinates from its number. -/
theorem coords_eq : ∀ t : Fin cfg0.N, (grid0.coords t 0).val = t.val / 96 ∧ (grid0.coords t 1).val = t.val / 16 % 6
    ∧ (grid0.coords t 2).val = t.val % 16 :=
  (by decide +kernel : ∀ t : Fin grid0.N, (grid0.coords t 0).val = t.val / 96 ∧ (grid0.coords t 1).val = t.val / 16 % 6
    ∧ (grid0.coords t 2).val = t.val % 16)

/-- Every index of the result is in some point's block. -/
theorem cover (i : S32768x768.Idx) : ∃ t : Fin cfg0.N, (cfg0.win 3).flush t = true ∧ i ∈ ((cfg0.win 3).blk t).view.set := by
  have h0 : (i 0 : ℕ) < 32768 := (i 0).isLt
  have h1 : (i 1 : ℕ) < 768 := (i 1).isLt
  have hN : cfg0.N = 768 := N_0
  obtain ⟨t, ht⟩ : ∃ t : Fin cfg0.N, t.val = (i 0 : ℕ) / 4096 * 96 + (i 1 : ℕ) / 128 * 16 + (i 0 : ℕ) % 4096 / 256 :=
    ⟨⟨_, by omega⟩, rfl⟩
  obtain ⟨c0, c1, c2⟩ := coords_eq t
  refine ⟨t, flush0_3 t, ?_⟩
  have e : i = ((cfg0.win 3).rect t).emb (ix2 (⟨(i 0 : ℕ) % 256, by omega⟩ : Fin 256) (⟨(i 1 : ℕ) % 128, by omega⟩ : Fin 128)) := by
    rw [emb_out]
    refine (eq_ix2 i).trans (congrArg₂ ix2 (Fin.ext ?_) (Fin.ext ?_))
    · show (i 0 : ℕ) = 4096 * (grid0.coords t 0).val + (256 * (grid0.coords t 2).val + (i 0 : ℕ) % 256)
      omega
    · show (i 1 : ℕ) = 128 * (grid0.coords t 1).val + (i 1 : ℕ) % 128
      omega
  have hm := ((cfg0.win 3).blk t).view.emb_mem_set (ix2 (⟨(i 0 : ℕ) % 256, by omega⟩ : Fin 256) (⟨(i 1 : ℕ) % 128, by omega⟩ : Fin 128))
  exact e ▸ hm

/-- So the result array ends at the reference's result, -/
theorem final (h : Fin_ m c) : (dats m 0 c).arrAt 3 cfg0.N = goal m c :=
  (dats m 0 c).arrAt_eq_of_cover 3 (goal m c) (fun t _ => flushed_eq m c h t) cover

/-- and the run, read: the result there, the arguments unchanged. -/
theorem run (h : ∀ c, Fin_ m c) : θ_run defs (onTc (τ := τ) (main (F := Ideal))) ⟨m, fun _ => 0, ρ⟩ (fun r => ∀ c : Dev nD,
      r.2.mem ((c.tc : Thread nD τ).loc main_v3) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c => ⟨((hr.2 c).1 3).trans (final m c (h c)), hr.1 c⟩)
    (θ_run_and (unchanged m ρ) (run_main m ρ))

end Cert.KernelIdeal.Stick
-- ==== Proof.Product.lean ====
module

public import Idealize.ShloMosaic.Lib.MatmulPlain
public import Idealize.ShloMosaic.Lib.StackMember
public import Idealize.ShloMosaic.Lib.ValueIdx
public import Idealize.ShloMosaic.PureOps.Ideal.Laws

@[expose] public section

noncomputable section

namespace Cert.Product

open Idealize.ShloMosaic Idealize.ShloMosaic.ValueIdx

/-! # A product computed a block of rows at a time -/

/-- An array of two axes, of extended reals. -/
abbrev Mat (M N : ℕ) := (⟨2, ![M, N]⟩ : Shape).Idx → EReal

/-- The product of two arrays. -/
def prod {M K N : ℕ} (X : Mat M K) (W : Mat K N) : Mat M N := fun i => ∑ k : Fin K, X (ix2 (i 0) k) * W (ix2 k (i 1))

theorem prod_apply {M K N : ℕ} (X : Mat M K) (W : Mat K N) (r : Fin M) (l : Fin N) :
    prod X W (ix2 r l) = ∑ k : Fin K, X (ix2 r k) * W (ix2 k l) := rfl

/-- The row of the whole array, of `B` blocks of `K` rows, that a row of block `t` is. -/
def rowOf {K B R : ℕ} (hR : K * B = R) (t : Fin B) (r : Fin K) : Fin R :=
  ⟨K * t.val + r.val, hR ▸ (Nat.add_lt_add_left r.isLt _).trans_le (Nat.mul_le_mul_left K t.isLt)⟩

/-- The same for 64 blocks of 512 rows. -/
abbrev row (t : Fin 64) (r : Fin 512) : Fin 32768 := rowOf (K := 512) (B := 64) rfl t r

/-- The host's product of two arrays is `prod`. -/
theorem dot_eq {M K N : ℕ} {φ : FTy} (D : DotDims ⟨2, ![M, K]⟩ ⟨2, ![K, N]⟩ ⟨2, ![M, N]⟩) (hD : D = DotDims.plain M K N)
    (X : FVec Ideal ⟨2, ![M, K]⟩ φ) (W : FVec Ideal ⟨2, ![K, N]⟩ φ) : Host.dotGeneral D none X W = prod X W := by
  subst hD
  funext i
  obtain ⟨r, l, rfl⟩ : ∃ (r : Fin M) (l : Fin N), i = ix2 r l := ⟨i 0, i 1, eq_ix2 i⟩
  simp only [Host.dotGeneral]
  rw [Ideal.dotGeneral_apply, ← Equiv.sum_comp (DotDims.plainContr M K N).symm, prod_apply]
  refine Finset.sum_congr rfl fun k _ => ?_
  congr 2
  · exact Shape.idx_ext₂ rfl rfl
  · exact Shape.idx_ext₂ rfl rfl

/-- So is the kernel's, added to zero. -/
theorem matmul_apply {M K N : ℕ} {φ₁ φ₂ : FTy} (D : DotDims ⟨2, ![M, K]⟩ ⟨2, ![K, N]⟩ ⟨2, ![M, N]⟩) (hD : D = DotDims.plain M K N)
    (x : FVec Ideal ⟨2, ![M, K]⟩ φ₁) (w : FVec Ideal ⟨2, ![K, N]⟩ φ₂) (r : Fin M) (l : Fin N) :
    matmul D none x w (constant ⟨2, ![M, N]⟩ .f32 0x00000000#32) (ix2 r l) = prod (M := M) (K := K) x w (ix2 r l) := by
  subst hD
  simp only [matmul]
  rw [Ideal.matmul_constant_zero_apply, ← Equiv.sum_comp (DotDims.plainContr M K N).symm, prod_apply]
  refine Finset.sum_congr rfl fun k _ => ?_
  congr 2
  · exact Shape.idx_ext₂ rfl rfl
  · exact Shape.idx_ext₂ rfl rfl

/-- A block's product, of 512 rows, is the whole product's rows. -/
theorem block_eq {B R N : ℕ} (hR : 512 * B = R) {φ₁ φ₂ : FTy} (D : DotDims ⟨2, ![512, 1024]⟩ ⟨2, ![1024, N]⟩ ⟨2, ![512, N]⟩)
    (hD : D = DotDims.plain 512 1024 N) (X : Mat R 1024) (W : Mat 1024 N)
    (x : FVec Ideal ⟨2, ![512, 1024]⟩ φ₁) (w : FVec Ideal ⟨2, ![1024, N]⟩ φ₂) (t : Fin B)
    (hx : ∀ r k, x (ix2 r k) = X (ix2 (rowOf hR t r) k)) (hw : ∀ k l, w (ix2 k l) = W (ix2 k l)) (r : Fin 512) (l : Fin N) :
    matmul D none x w (constant ⟨2, ![512, N]⟩ .f32 0x00000000#32) (ix2 r l) = prod X W (ix2 (rowOf hR t r) l) :=
  (matmul_apply D hD x w r l).trans (Finset.sum_congr rfl fun k _ => congrArg₂ (· * ·) (hx r k) (hw k l))

/-! ## Where a block lies -/

/-- Block `t` of `K` rows: the map of its indices into the array, from what it is on each axis. -/
theorem emb_row {K B R N : ℕ} (hR : K * B = R) (e : (⟨2, ![K, N]⟩ : Shape).Idx → (⟨2, ![R, N]⟩ : Shape).Idx) (t : Fin B) {p q : ℕ}
    (hp : p = t.val) (hq : q = 0) (h0 : ∀ x, (e x 0 : ℕ) = p * K + (x 0 : ℕ)) (h1 : ∀ x, (e x 1 : ℕ) = q * N + (x 1 : ℕ))
    (r : Fin K) (l : Fin N) : e (ix2 r l) = ix2 (rowOf hR t r) l := by
  subst hp hq
  refine Shape.idx_ext₂ ((h0 _).trans ?_) ((h1 _).trans ?_)
  · show t.val * K + r.val = K * t.val + r.val
    rw [Nat.mul_comm]
  · show 0 * N + l.val = l.val
    omega

/-- The block that is all of the array. -/
theorem emb_whole {K N : ℕ} (e : (⟨2, ![K, N]⟩ : Shape).Idx → (⟨2, ![K, N]⟩ : Shape).Idx) {p q : ℕ} (hp : p = 0) (hq : q = 0)
    (h0 : ∀ x, (e x 0 : ℕ) = p * K + (x 0 : ℕ)) (h1 : ∀ x, (e x 1 : ℕ) = q * N + (x 1 : ℕ)) (k : Fin K) (l : Fin N) :
    e (ix2 k l) = ix2 k l := by
  subst hp hq
  refine Shape.idx_ext₂ ((h0 _).trans ?_) ((h1 _).trans ?_)
  · show 0 * K + k.val = k.val
    omega
  · show 0 * N + l.val = l.val
    omega

/-- A block that agrees with an array on each row and column is the array's part there. -/
theorem rows_eq {K B R N : ℕ} (hR : K * B = R) (e : (⟨2, ![K, N]⟩ : Shape).Idx → (⟨2, ![R, N]⟩ : Shape).Idx) (t : Fin B)
    (he : ∀ r l, e (ix2 r l) = ix2 (rowOf hR t r) l) (X : Mat K N) (G : Mat R N)
    (h : ∀ r l, X (ix2 r l) = G (ix2 (rowOf hR t r) l)) (x : (⟨2, ![K, N]⟩ : Shape).Idx) : X x = G (e x) := by
  obtain ⟨r, l, rfl⟩ : ∃ (r : Fin K) (l : Fin N), x = ix2 r l := ⟨x 0, x 1, eq_ix2 x⟩
  rw [he]
  exact h r l

/-- Every index is in some block. -/
theorem exists_row {K B R N : ℕ} (hR : K * B = R) (i : (⟨2, ![R, N]⟩ : Shape).Idx) :
    ∃ (t : Fin B) (r : Fin K) (l : Fin N), i = ix2 (rowOf hR t r) l := by
  have h0 : (i 0 : ℕ) < K * B := hR ▸ (i 0).isLt
  have hK : 0 < K := Nat.pos_of_ne_zero fun h => by simp [h] at h0
  exact ⟨⟨(i 0 : ℕ) / K, Nat.div_lt_of_lt_mul h0⟩, ⟨(i 0 : ℕ) % K, Nat.mod_lt _ hK⟩, i 1,
    (eq_ix2 i).trans (congrArg₂ ix2 (Fin.ext (Nat.div_add_mod (i 0 : ℕ) K).symm) rfl)⟩

end Cert.Product
-- ==== Proof.Columns.lean ====
module

public import proofs.«01_k».proof.Proof.Product
public import Idealize.ShloMosaic.Lib.Pipeline.Value
public import Idealize.ShloMosaic.Lib.IdealHost

@[expose] public section

noncomputable section

namespace Cert.Product

open Idealize.ShloMosaic Idealize.ShloMosaic.ValueIdx

/-! # Columns in another order

The first layer's projection has 2576 columns. The call takes them with the last 256 before the 16 that stand before them, and
with zero columns after, 2816 in all. -/

/-- The columns of an array in the order the call takes them. -/
def lay {R : ℕ} (Y : Mat R 2576) : Mat R 2816 := fun i =>
  if h₁ : (i 1 : ℕ) < 2304 then Y (ix2 (i 0) ⟨(i 1 : ℕ), by omega⟩)
  else if h₂ : (i 1 : ℕ) < 2560 then Y (ix2 (i 0) ⟨(i 1 : ℕ) + 16, by omega⟩)
  else if h₃ : (i 1 : ℕ) < 2576 then Y (ix2 (i 0) ⟨(i 1 : ℕ) - 256, by omega⟩)
  else 0

section
variable {R : ℕ} (Y : Mat R 2576) (r : Fin R) (l : Fin 2816)

theorem lay_fst (j : Fin 2576) (h : l.val < 2304) (hj : j.val = l.val) : lay Y (ix2 r l) = Y (ix2 r j) :=
  (dif_pos (show l.val < 2304 from h)).trans (congrArg (fun j => Y (ix2 r j)) (Fin.ext hj.symm))

theorem lay_snd (j : Fin 2576) (h : ¬l.val < 2304) (h' : l.val < 2560) (hj : j.val = l.val + 16) :
    lay Y (ix2 r l) = Y (ix2 r j) :=
  (dif_neg (show ¬l.val < 2304 from h)).trans ((dif_pos (show l.val < 2560 from h')).trans
    (congrArg (fun j => Y (ix2 r j)) (Fin.ext hj.symm)))

theorem lay_thd (j : Fin 2576) (h : ¬l.val < 2560) (h' : l.val < 2576) (hj : j.val = l.val - 256) :
    lay Y (ix2 r l) = Y (ix2 r j) :=
  (dif_neg (show ¬l.val < 2304 by omega)).trans ((dif_neg (show ¬l.val < 2560 from h)).trans
    ((dif_pos (show l.val < 2576 from h')).trans (congrArg (fun j => Y (ix2 r j)) (Fin.ext hj.symm))))

theorem lay_rest (h : ¬l.val < 2576) : lay Y (ix2 r l) = 0 :=
  (dif_neg (show ¬l.val < 2304 by omega)).trans ((dif_neg (show ¬l.val < 2560 by omega)).trans (dif_neg h))

end

/-- The product with the columns in the other order is the product, its columns in that order. -/
theorem prod_lay {M K : ℕ} (X : Mat M K) (W : Mat K 2576) : prod X (lay W) = lay (prod X W) := by
  funext i
  obtain ⟨r, l, rfl⟩ : ∃ (r : Fin M) (l : Fin 2816), i = ix2 r l := ⟨i 0, i 1, eq_ix2 i⟩
  rw [prod_apply]
  by_cases h₁ : l.val < 2304
  · rw [lay_fst _ r l ⟨l.val, by omega⟩ h₁ rfl, prod_apply]
    exact Finset.sum_congr rfl fun k _ => by rw [lay_fst W k l ⟨l.val, by omega⟩ h₁ rfl]
  by_cases h₂ : l.val < 2560
  · rw [lay_snd _ r l ⟨l.val + 16, by omega⟩ h₁ h₂ rfl, prod_apply]
    exact Finset.sum_congr rfl fun k _ => by rw [lay_snd W k l ⟨l.val + 16, by omega⟩ h₁ h₂ rfl]
  by_cases h₃ : l.val < 2576
  · rw [lay_thd _ r l ⟨l.val - 256, by omega⟩ h₂ h₃ rfl, prod_apply]
    exact Finset.sum_congr rfl fun k _ => by rw [lay_thd W k l ⟨l.val - 256, by omega⟩ h₂ h₃ rfl]
  · rw [lay_rest _ r l h₃]
    exact Finset.sum_eq_zero fun k _ => by rw [lay_rest W k l h₃, mul_zero]

/-- An array put together of pieces side by side, read at a column of one of them. -/
theorem piece {R n pre : ℕ} (xs : List ((s : Shape) × (s.Idx → EReal)))
    (h : Shape.Concatenates (xs.map (·.1)) ⟨2, ![R, 2816]⟩ 1) (k : ℕ) (hk : k < xs.length) (x : Mat R n)
    (hx : xs[k] = ⟨⟨2, ![R, n]⟩, x⟩)
    (hpre : (((xs.take k).map (·.1)).map fun s => if h : s.rank = 2 then s.size ((1 : Fin 2).cast h.symm) else 0).sum = pre)
    (r : Fin R) (l : Fin 2816) (i : Fin n) (hi : pre + i.val = l.val) :
    concatenate ⟨2, ![R, 2816]⟩ 1 xs h (ix2 r l) = x (ix2 r i) :=
  concatenate_apply_piece (t := ⟨2, ![R, 2816]⟩) 1 xs h (ix2 r l) k hk ⟨2, ![R, n]⟩ x hx rfl pre hpre (ix2 r i)
    (fun b hb => match b with
      | ⟨0, _⟩ => rfl
      | ⟨1, _⟩ => absurd (Fin.ext rfl) hb) hi

/-- Consecutive columns of an array, read at an index. -/
theorem slice {R n o : ℕ} (Y : Mat R 2576) (h : Shape.Slices ⟨2, ![R, 2576]⟩ ![0, o] ⟨2, ![R, n]⟩) (r : Fin R) (i : Fin n)
    (j : Fin 2576) (hj : j.val = o + i.val) : extractStridedSlice ⟨2, ![R, n]⟩ ![0, o] Y h (ix2 r i) = Y (ix2 r j) :=
  extractStridedSlice_apply ![0, o] Y h (ix2 r i) (ix2 r j) fun a => match a with
    | ⟨0, _⟩ => (Nat.zero_add _).symm
    | ⟨1, _⟩ => hj

/-- Zeros. -/
theorem zeros {T : Shape} (h : (⟨0, ![]⟩ : Shape).BroadcastsInDim T ![]) (j : T.Idx) :
    broadcastInDim T ![] h (constant (F := Ideal) ⟨0, ![]⟩ .f32 0x00000000#32) j = 0 := by
  rw [broadcastInDim_scalar_apply]
  exact Ideal.ofBits_zero_f32

/-- A column of a piece that is consecutive columns of an array. -/
theorem piece_slice {R n pre o : ℕ} (xs : List ((s : Shape) × (s.Idx → EReal)))
    (h : Shape.Concatenates (xs.map (·.1)) ⟨2, ![R, 2816]⟩ 1) (k : ℕ) (hk : k < xs.length) (Y : Mat R 2576)
    (hs : Shape.Slices ⟨2, ![R, 2576]⟩ ![0, o] ⟨2, ![R, n]⟩)
    (hx : xs[k] = ⟨⟨2, ![R, n]⟩, extractStridedSlice ⟨2, ![R, n]⟩ ![0, o] Y hs⟩)
    (hpre : (((xs.take k).map (·.1)).map fun s => if h : s.rank = 2 then s.size ((1 : Fin 2).cast h.symm) else 0).sum = pre)
    (r : Fin R) (l : Fin 2816) (hlo : pre ≤ l.val) (hhi : l.val < pre + n) (j : Fin 2576) (hj : j.val = o + (l.val - pre)) :
    concatenate ⟨2, ![R, 2816]⟩ 1 xs h (ix2 r l) = Y (ix2 r j) :=
  (piece xs h k hk _ hx hpre r l ⟨l.val - pre, by omega⟩ (by show pre + (l.val - pre) = _; omega)).trans
    (slice Y hs r _ j hj)

/-- The call's weights: four pieces side by side. -/
def four {R : ℕ} (Y : Mat R 2576)
    (h₀ : Shape.Slices ⟨2, ![R, 2576]⟩ ![0, 0] ⟨2, ![R, 2304]⟩) (h₁ : Shape.Slices ⟨2, ![R, 2576]⟩ ![0, 2320] ⟨2, ![R, 256]⟩)
    (h₂ : Shape.Slices ⟨2, ![R, 2576]⟩ ![0, 2304] ⟨2, ![R, 16]⟩) (z : Mat R 240) : List ((s : Shape) × (s.Idx → EReal)) :=
  [⟨⟨2, ![R, 2304]⟩, extractStridedSlice _ ![0, 0] Y h₀⟩, ⟨⟨2, ![R, 256]⟩, extractStridedSlice _ ![0, 2320] Y h₁⟩,
    ⟨⟨2, ![R, 16]⟩, extractStridedSlice _ ![0, 2304] Y h₂⟩, ⟨⟨2, ![R, 240]⟩, z⟩]

theorem lay_four {R : ℕ} (Y : Mat R 2576) (h₀) (h₁) (h₂) (z : Mat R 240) (hz : ∀ j, z j = 0)
    (h : Shape.Concatenates ((four Y h₀ h₁ h₂ z).map (·.1)) ⟨2, ![R, 2816]⟩ 1) :
    concatenate (⟨2, ![R, 2816]⟩ : Shape) 1 (four Y h₀ h₁ h₂ z) h = lay Y := by
  funext i
  obtain ⟨r, l, rfl⟩ : ∃ (r : Fin R) (l : Fin 2816), i = ix2 r l := ⟨i 0, i 1, eq_ix2 i⟩
  have hl := l.isLt
  by_cases c₁ : l.val < 2304
  · rw [lay_fst Y r l ⟨l.val, by omega⟩ c₁ rfl]
    exact piece_slice (pre := 0) _ h 0 (by show 0 < 4; omega) Y h₀ rfl rfl r l (by omega) (by omega) _ (by show l.val = _; omega)
  by_cases c₂ : l.val < 2560
  · rw [lay_snd Y r l ⟨l.val + 16, by omega⟩ c₁ c₂ rfl]
    exact piece_slice (pre := 2304) _ h 1 (by show 1 < 4; omega) Y h₁ rfl rfl r l (by omega) (by omega) _
      (by show l.val + 16 = _; omega)
  by_cases c₃ : l.val < 2576
  · rw [lay_thd Y r l ⟨l.val - 256, by omega⟩ c₂ c₃ rfl]
    exact piece_slice (pre := 2560) _ h 2 (by show 2 < 4; omega) Y h₂ rfl rfl r l (by omega) (by omega) _
      (by show l.val - 256 = _; omega)
  · rw [lay_rest Y r l c₃]
    exact (piece (pre := 2576) _ h 3 (by show 3 < 4; omega) z rfl rfl r l ⟨l.val - 2576, by omega⟩
      (by show 2576 + (l.val - 2576) = _; omega)).trans (hz _)

/-- The reference's result: seven pieces side by side. -/
def seven {R : ℕ} (Y : Mat R 2576)
    (h₀ : Shape.Slices ⟨2, ![R, 2576]⟩ ![0, 0] ⟨2, ![R, 384]⟩) (h₁ : Shape.Slices ⟨2, ![R, 2576]⟩ ![0, 384] ⟨2, ![R, 384]⟩)
    (h₂ : Shape.Slices ⟨2, ![R, 2576]⟩ ![0, 768] ⟨2, ![R, 768]⟩) (h₃ : Shape.Slices ⟨2, ![R, 2576]⟩ ![0, 1536] ⟨2, ![R, 768]⟩)
    (h₄ : Shape.Slices ⟨2, ![R, 2576]⟩ ![0, 2320] ⟨2, ![R, 256]⟩) (h₅ : Shape.Slices ⟨2, ![R, 2576]⟩ ![0, 2304] ⟨2, ![R, 16]⟩)
    (z : Mat R 240) : List ((s : Shape) × (s.Idx → EReal)) :=
  [⟨⟨2, ![R, 384]⟩, extractStridedSlice _ ![0, 0] Y h₀⟩, ⟨⟨2, ![R, 384]⟩, extractStridedSlice _ ![0, 384] Y h₁⟩,
    ⟨⟨2, ![R, 768]⟩, extractStridedSlice _ ![0, 768] Y h₂⟩, ⟨⟨2, ![R, 768]⟩, extractStridedSlice _ ![0, 1536] Y h₃⟩,
    ⟨⟨2, ![R, 256]⟩, extractStridedSlice _ ![0, 2320] Y h₄⟩, ⟨⟨2, ![R, 16]⟩, extractStridedSlice _ ![0, 2304] Y h₅⟩,
    ⟨⟨2, ![R, 240]⟩, z⟩]

theorem lay_seven {R : ℕ} (Y : Mat R 2576) (h₀) (h₁) (h₂) (h₃) (h₄) (h₅) (z : Mat R 240) (hz : ∀ j, z j = 0)
    (h : Shape.Concatenates ((seven Y h₀ h₁ h₂ h₃ h₄ h₅ z).map (·.1)) ⟨2, ![R, 2816]⟩ 1) :
    concatenate (⟨2, ![R, 2816]⟩ : Shape) 1 (seven Y h₀ h₁ h₂ h₃ h₄ h₅ z) h = lay Y := by
  funext i
  obtain ⟨r, l, rfl⟩ : ∃ (r : Fin R) (l : Fin 2816), i = ix2 r l := ⟨i 0, i 1, eq_ix2 i⟩
  have hl := l.isLt
  by_cases c₃ : l.val < 2304
  · rw [lay_fst Y r l ⟨l.val, by omega⟩ c₃ rfl]
    by_cases c₀ : l.val < 384
    · exact piece_slice (pre := 0) _ h 0 (by show 0 < 7; omega) Y h₀ rfl rfl r l (by omega) (by omega) _ (by show l.val = _; omega)
    by_cases c₁ : l.val < 768
    · exact piece_slice (pre := 384) _ h 1 (by show 1 < 7; omega) Y h₁ rfl rfl r l (by omega) (by omega) _ (by show l.val = _; omega)
    by_cases c₂ : l.val < 1536
    · exact piece_slice (pre := 768) _ h 2 (by show 2 < 7; omega) Y h₂ rfl rfl r l (by omega) (by omega) _ (by show l.val = _; omega)
    · exact piece_slice (pre := 1536) _ h 3 (by show 3 < 7; omega) Y h₃ rfl rfl r l (by omega) (by omega) _ (by show l.val = _; omega)
  by_cases c₄ : l.val < 2560
  · rw [lay_snd Y r l ⟨l.val + 16, by omega⟩ c₃ c₄ rfl]
    exact piece_slice (pre := 2304) _ h 4 (by show 4 < 7; omega) Y h₄ rfl rfl r l (by omega) (by omega) _
      (by show l.val + 16 = _; omega)
  by_cases c₅ : l.val < 2576
  · rw [lay_thd Y r l ⟨l.val - 256, by omega⟩ c₄ c₅ rfl]
    exact piece_slice (pre := 2560) _ h 5 (by show 5 < 7; omega) Y h₅ rfl rfl r l (by omega) (by omega) _
      (by show l.val - 256 = _; omega)
  · rw [lay_rest Y r l c₅]
    exact (piece (pre := 2576) _ h 6 (by show 6 < 7; omega) z rfl rfl r l ⟨l.val - 2576, by omega⟩
      (by show 2576 + (l.val - 2576) = _; omega)).trans (hz _)

end Cert.Product
-- ==== Proof.Project.In.lean ====
module

public import proofs.«01_k».proof.Defs
public import proofs.«01_k».proof.Proof.Gen.ProjectIn.Frame
public import proofs.«01_k».proof.Proof.Gen.ProjectInIdeal.Value
public import proofs.«01_k».proof.Proof.Gen.ReferenceInIdeal.Run
public import proofs.«01_k».proof.Proof.Columns
public import Idealize.ShloMosaic.Lib.Quiescent

@[expose] public section

set_option maxRecDepth 16384

noncomputable section

namespace Cert.ProjectInIdeal.Value

open Cert.ProjectInIdeal.Gen Cert.Product
open Idealize.ShloMosaic Idealize.ShloMosaic.TcCoe Idealize.ShloMosaic.ValueIdx Idealize.SL.Sem
open Idealize.ShloMosaic.Pipeline (Window)

/-! # The first layer's projection: the call's result is the product, its columns in another order -/

variable (m : (ℓ : Loc nD τ sig) → Buf (Elt Ideal) ℓ) (ρ : Dev nD → PrngReg) (c : Dev nD)

/-- The left array, as the call finds it: the first argument, flattened. -/
theorem V_x : V m c main_v0 = shapeCast S32768x1024 (m ((c : Thread nD τ).loc main_arg0))
    shapeCasts_S8x4096x1024_S32768x1024 := by
  show StableHlo.after hostOps0 (fun b => m (c, b)) (Proc.devRef .tc main_v0) = _
  simp only [hostOps0]
  after_results_simp <;> rfl

/-- The weights, without their first axis. -/
def weights : Mat 1024 2576 := shapeCast S1024x2576 (m ((c : Thread nD τ).loc main_arg1)) shapeCasts_S1x1024x2576_S1024x2576

/-- The right array: the weights, in pieces. -/
theorem V_w : V m c main_v7 = truncf (F := Ideal) (φ := .f32) .bf16 (concatenate S1024x2816 1
    [⟨S1024x2304, extractStridedSlice S1024x2304 ![0, 0] (weights m c) slices_S1024x2576_S1024x2304_0_0⟩,
      ⟨S1024x256, extractStridedSlice S1024x256 ![0, 2320] (weights m c) slices_S1024x2576_S1024x256_0_2320⟩,
      ⟨S1024x16, extractStridedSlice S1024x16 ![0, 2304] (weights m c) slices_S1024x2576_S1024x16_0_2304⟩,
      ⟨S1024x240, broadcastInDim S1024x240 ![] bcast_S_S1024x240 (constant S_ .f32 0x00000000#32)⟩]
    concatenates_S1024x2304_S1024x256_S1024x16_S1024x240_S1024x2816_d1) bitsLt_bf16_f32 := by
  show StableHlo.after hostOps0 (fun b => m (c, b)) (Proc.devRef .tc main_v7) = _
  simp only [hostOps0]
  after_results_simp <;> rfl

/-- They are its columns in the other order. -/
theorem V_w' : V m c main_v7 = lay (weights m c) :=
  (V_w m c).trans (lay_four (weights m c) slices_S1024x2576_S1024x2304_0_0 slices_S1024x2576_S1024x256_0_2320
    slices_S1024x2576_S1024x16_0_2304 _ (fun j => zeros _ j) concatenates_S1024x2304_S1024x256_S1024x16_S1024x240_S1024x2816_d1)

/-- Where each window is at a point. -/
theorem index_x : ∀ t : Fin cfg0.N, (cfg0.win 0).index t 0 = t.val ∧ (cfg0.win 0).index t 1 = 0 :=
  (by decide +kernel : ∀ t : Fin grid0.N, win0_0.index t 0 = t.val ∧ win0_0.index t 1 = 0)
theorem index_w : ∀ t : Fin cfg0.N, (cfg0.win 1).index t 0 = 0 ∧ (cfg0.win 1).index t 1 = 0 :=
  (by decide +kernel : ∀ t : Fin grid0.N, win0_1.index t 0 = 0 ∧ win0_1.index t 1 = 0)
theorem index_o : ∀ t : Fin cfg0.N, (cfg0.win 2).index t 0 = t.val ∧ (cfg0.win 2).index t 1 = 0 :=
  (by decide +kernel : ∀ t : Fin grid0.N, win0_2.index t 0 = t.val ∧ win0_2.index t 1 = 0)

/-- The index of each array that an index of its block is. -/
theorem emb_x (t : Fin cfg0.N) (r : Fin 512) (k : Fin 1024) : ((cfg0.win 0).rect t).emb (ix2 r k) = ix2 (row t r) k :=
  emb_row (K := 512) (B := 64) rfl ((cfg0.win 0).rect t).emb t (index_x t).1 (index_x t).2 (fun x => Window.rect_emb_val (cfg0.win 0) t x 0 rfl)
    (fun x => Window.rect_emb_val (cfg0.win 0) t x 1 rfl) r k
theorem emb_w (t : Fin cfg0.N) (k : Fin 1024) (l : Fin 2816) : ((cfg0.win 1).rect t).emb (ix2 k l) = ix2 k l :=
  emb_whole ((cfg0.win 1).rect t).emb (index_w t).1 (index_w t).2 (fun x => Window.rect_emb_val (cfg0.win 1) t x 0 rfl)
    (fun x => Window.rect_emb_val (cfg0.win 1) t x 1 rfl) k l
theorem emb_o (t : Fin cfg0.N) (r : Fin 512) (l : Fin 2816) : ((cfg0.win 2).rect t).emb (ix2 r l) = ix2 (row t r) l :=
  emb_row (K := 512) (B := 64) rfl ((cfg0.win 2).rect t).emb t (index_o t).1 (index_o t).2 (fun x => Window.rect_emb_val (cfg0.win 2) t x 0 rfl)
    (fun x => Window.rect_emb_val (cfg0.win 2) t x 1 rfl) r l

/-- What the call computes. -/
def goal : Mat 32768 2816 := prod (V m c main_v0) (V m c main_v7)

theorem zero_off : (![0, 0] : Fin 2 → ℕ) = fun _ => 0 := by decide

/-- What a point reads of each array. -/
theorem read_x (t : Fin cfg0.N) (r : Fin 512) (k : Fin 1024) : iblk m c 0 t (ix2 r k) = V m c main_v0 (ix2 (row t r) k) :=
  congrArg (V m c main_v0) (emb_x t r k)
theorem read_w (t : Fin cfg0.N) (k : Fin 1024) (l : Fin 2816) : iblk m c 1 t (ix2 k l) = V m c main_v7 (ix2 k l) :=
  congrArg (V m c main_v7) (emb_w t k l)

/-- What a point leaves of its block. -/
theorem out_eq (t : Fin cfg0.N) (r : Fin 512) (l : Fin 2816) :
    out0_2 (iblk m c 0 t) (iblk m c 1 t) (ix2 r l) = goal m c (ix2 (row t r) l) := by
  unfold out0_2 k0_pay1
  rw [View.canon_unit_zero zero_off, View.ld_unit_zero zero_off, View.ld_unit_zero zero_off, shapeCast_self, shapeCast_self]
  exact block_eq (B := 64) rfl dot_S512x1024_S1024x2816_S512x2816_1_0_0_1_n_n rfl (V m c main_v0) (V m c main_v7) (truncf .bf16 (iblk m c 0 t) bitsLt_bf16_f32) (iblk m c 1 t) t
    (read_x m c t) (read_w m c t) r l

/-- What a point writes back of a block is the array's part there. -/
theorem cut_read (t : Fin cfg0.N) (X : Vec Ideal S512x2816 .f32) (G : FVec Ideal S32768x2816 .f32)
    (h : ∀ r l, X (ix2 r l) = G (ix2 (row t r) l)) :
    (cfg0.win 2).cut (grid0.coords t) X = ((cfg0.win 2).blk t).view.read (Elt Ideal) G :=
  funext (rows_eq (K := 512) (B := 64) rfl ((cfg0.win 2).rect t).emb t (emb_o t) X G h)

/-- Every index is in some point's block. -/
theorem cover (i : S32768x2816.Idx) : ∃ t : Fin cfg0.N, (cfg0.win 2).flush t = true ∧ i ∈ ((cfg0.win 2).blk t).view.set := by
  obtain ⟨t, r, l, e⟩ := exists_row (K := 512) (B := 64) rfl i
  exact ⟨t, flush0_2 t, (e.trans (emb_o t r l).symm) ▸ ((cfg0.win 2).blk t).view.emb_mem_set (ix2 r l)⟩

/-- So the result array ends at the product. -/
theorem final : (dats m 0 c).arrAt 2 cfg0.N = goal m c :=
  (dats m 0 c).arrAt_eq_of_cover 2 (goal m c) (fun t _ => (flushed2 m c t).trans (cut_read t _ _ (out_eq m c t))) cover

end Cert.ProjectInIdeal.Value

/-! ## The claims -/

namespace Cert.Proof.ProjectIn

open Idealize.ShloMosaic Idealize.ShloMosaic.TcCoe Idealize.SL.Sem

theorem frame_p : Cert.quiescent_ProjectIn := fun m ρ _ => Cert.ProjectIn.Gen.frame m ρ
theorem frame_pi : Cert.quiescent_ProjectInIdeal := fun m ρ _ => Cert.ProjectInIdeal.Gen.frame m ρ
theorem frame_ri : Cert.quiescent_ReferenceInIdeal := fun m ρ _ =>
  (θ_run Cert.ReferenceInIdeal.defs _ _).mono (fun r h => ⟨fun c => (h c).2, sem_eq_zero_of_no_sems (by decide) r.2⟩)
    (Cert.ReferenceInIdeal.Value.run (F := Ideal) m ρ)

/-- The call and its reference end with the same array. -/
theorem algebraic : Cert.algebraic_ProjectInIdeal_ReferenceInIdeal := by
  intro m ρ m' ρ' _ hagree
  refine ⟨_, (θ_run Cert.ProjectInIdeal.defs _ _).mono
    (fun _ h c => ⟨(h c).1.trans (Cert.ProjectInIdeal.Value.final m c), (h c).2⟩)
    (Cert.ProjectInIdeal.Value.run_blocks (F := Ideal) m ρ), ?_⟩
  refine (θ_run Cert.ReferenceInIdeal.defs _ _).mono (fun _ h c => ⟨(h c).1.trans ?_, (h c).2⟩)
    (Cert.ReferenceInIdeal.Value.run (F := Ideal) m' ρ')
  rw [(hagree c).1, (hagree c).2, Cert.Product.dot_eq Cert.ReferenceInIdeal.dot_S32768x1024_S1024x2576_S32768x2576_1_0_0_1_n_n rfl]
  refine (Cert.Product.lay_seven _ _ _ _ _ _ _ _ (fun j => Cert.Product.zeros _ j) _).trans ?_
  unfold Cert.ProjectInIdeal.Value.goal
  rw [Cert.ProjectInIdeal.Value.V_x, Cert.ProjectInIdeal.Value.V_w', Cert.Product.prod_lay]
  rfl

end Cert.Proof.ProjectIn
-- ==== Proof.Project.Kv.lean ====
module

public import proofs.«01_k».proof.Defs
public import proofs.«01_k».proof.Proof.Gen.ProjectKv.Frame
public import proofs.«01_k».proof.Proof.Gen.ProjectKvIdeal.Value
public import proofs.«01_k».proof.Proof.Gen.ReferenceKvIdeal.Run
public import proofs.«01_k».proof.Proof.Product
public import Idealize.ShloMosaic.Lib.Quiescent

@[expose] public section

set_option maxRecDepth 16384

noncomputable section

namespace Cert.ProjectKvIdeal.Value

open Cert.ProjectKvIdeal.Gen Cert.Product
open Idealize.ShloMosaic Idealize.ShloMosaic.TcCoe Idealize.ShloMosaic.ValueIdx Idealize.SL.Sem
open Idealize.ShloMosaic.Pipeline (Window)

/-! # The stick-breaking keys and values: the call's result is the product -/

variable (m : (ℓ : Loc nD τ sig) → Buf (Elt Ideal) ℓ) (ρ : Dev nD → PrngReg) (c : Dev nD)

/-- The left array, as the call finds it: the first argument, flattened. -/
theorem V_x : V m c main_v1 = truncf (F := Ideal) (φ := .f32) .bf16 (shapeCast S32768x1024 (m ((c : Thread nD τ).loc main_arg0))
    shapeCasts_S8x4096x1024_S32768x1024) bitsLt_bf16_f32 := by
  show StableHlo.after hostOps0 (fun b => m (c, b)) (Proc.devRef .tc main_v1) = _
  simp only [hostOps0]
  after_results_simp <;> rfl

/-- The right array: the weights. -/
theorem V_w : V m c main_v2 = truncf (F := Ideal) (φ := .f32) .bf16 (m ((c : Thread nD τ).loc main_arg1)) bitsLt_bf16_f32 := by
  show StableHlo.after hostOps0 (fun b => m (c, b)) (Proc.devRef .tc main_v2) = _
  simp only [hostOps0]
  after_results_simp <;> rfl

/-- Where each window is at a point. -/
theorem index_x : ∀ t : Fin cfg0.N, (cfg0.win 0).index t 0 = t.val ∧ (cfg0.win 0).index t 1 = 0 :=
  (by decide +kernel : ∀ t : Fin grid0.N, win0_0.index t 0 = t.val ∧ win0_0.index t 1 = 0)
theorem index_w : ∀ t : Fin cfg0.N, (cfg0.win 1).index t 0 = 0 ∧ (cfg0.win 1).index t 1 = 0 :=
  (by decide +kernel : ∀ t : Fin grid0.N, win0_1.index t 0 = 0 ∧ win0_1.index t 1 = 0)
theorem index_o : ∀ t : Fin cfg0.N, (cfg0.win 2).index t 0 = t.val ∧ (cfg0.win 2).index t 1 = 0 :=
  (by decide +kernel : ∀ t : Fin grid0.N, win0_2.index t 0 = t.val ∧ win0_2.index t 1 = 0)

/-- The index of each array that an index of its block is. -/
theorem emb_x (t : Fin cfg0.N) (r : Fin 512) (k : Fin 1024) : ((cfg0.win 0).rect t).emb (ix2 r k) = ix2 (row t r) k :=
  emb_row (K := 512) (B := 64) rfl ((cfg0.win 0).rect t).emb t (index_x t).1 (index_x t).2 (fun x => Window.rect_emb_val (cfg0.win 0) t x 0 rfl)
    (fun x => Window.rect_emb_val (cfg0.win 0) t x 1 rfl) r k
theorem emb_w (t : Fin cfg0.N) (k : Fin 1024) (l : Fin 1536) : ((cfg0.win 1).rect t).emb (ix2 k l) = ix2 k l :=
  emb_whole ((cfg0.win 1).rect t).emb (index_w t).1 (index_w t).2 (fun x => Window.rect_emb_val (cfg0.win 1) t x 0 rfl)
    (fun x => Window.rect_emb_val (cfg0.win 1) t x 1 rfl) k l
theorem emb_o (t : Fin cfg0.N) (r : Fin 512) (l : Fin 1536) : ((cfg0.win 2).rect t).emb (ix2 r l) = ix2 (row t r) l :=
  emb_row (K := 512) (B := 64) rfl ((cfg0.win 2).rect t).emb t (index_o t).1 (index_o t).2 (fun x => Window.rect_emb_val (cfg0.win 2) t x 0 rfl)
    (fun x => Window.rect_emb_val (cfg0.win 2) t x 1 rfl) r l

/-- What the call computes. -/
def goal : Mat 32768 1536 := prod (V m c main_v1) (V m c main_v2)

theorem zero_off : (![0, 0] : Fin 2 → ℕ) = fun _ => 0 := by decide

/-- What a point reads of each array. -/
theorem read_x (t : Fin cfg0.N) (r : Fin 512) (k : Fin 1024) : iblk m c 0 t (ix2 r k) = V m c main_v1 (ix2 (row t r) k) :=
  congrArg (V m c main_v1) (emb_x t r k)
theorem read_w (t : Fin cfg0.N) (k : Fin 1024) (l : Fin 1536) : iblk m c 1 t (ix2 k l) = V m c main_v2 (ix2 k l) :=
  congrArg (V m c main_v2) (emb_w t k l)

/-- What a point leaves of its block. -/
theorem out_eq (t : Fin cfg0.N) (r : Fin 512) (l : Fin 1536) :
    out0_2 (iblk m c 0 t) (iblk m c 1 t) (ix2 r l) = goal m c (ix2 (row t r) l) := by
  unfold out0_2 k0_pay1
  dsimp only
  rw [View.canon_unit_zero zero_off, View.ld_unit_zero zero_off, View.ld_unit_zero zero_off, shapeCast_self, shapeCast_self, truncf_apply]
  exact block_eq (B := 64) rfl dot_S512x1024_S1024x1536_S512x1536_1_0_0_1_n_n rfl (V m c main_v1) (V m c main_v2) (iblk m c 0 t) (iblk m c 1 t) t
    (read_x m c t) (read_w m c t) r l

/-- What a point writes back of a block is the array's part there. -/
theorem cut_read (t : Fin cfg0.N) (X : Vec Ideal S512x1536 .bf16) (G : FVec Ideal S32768x1536 .bf16)
    (h : ∀ r l, X (ix2 r l) = G (ix2 (row t r) l)) :
    (cfg0.win 2).cut (grid0.coords t) X = ((cfg0.win 2).blk t).view.read (Elt Ideal) G :=
  funext (rows_eq (K := 512) (B := 64) rfl ((cfg0.win 2).rect t).emb t (emb_o t) X G h)

/-- Every index is in some point's block. -/
theorem cover (i : S32768x1536.Idx) : ∃ t : Fin cfg0.N, (cfg0.win 2).flush t = true ∧ i ∈ ((cfg0.win 2).blk t).view.set := by
  obtain ⟨t, r, l, e⟩ := exists_row (K := 512) (B := 64) rfl i
  exact ⟨t, flush0_2 t, (e.trans (emb_o t r l).symm) ▸ ((cfg0.win 2).blk t).view.emb_mem_set (ix2 r l)⟩

/-- So the result array ends at the product. -/
theorem final : (dats m 0 c).arrAt 2 cfg0.N = goal m c :=
  (dats m 0 c).arrAt_eq_of_cover 2 (goal m c) (fun t _ => (flushed2 m c t).trans (cut_read t _ _ (out_eq m c t))) cover

end Cert.ProjectKvIdeal.Value

/-! ## The claims -/

namespace Cert.Proof.ProjectKv

open Idealize.ShloMosaic Idealize.ShloMosaic.TcCoe Idealize.SL.Sem

theorem frame_p : Cert.quiescent_ProjectKv := fun m ρ _ => Cert.ProjectKv.Gen.frame m ρ
theorem frame_pi : Cert.quiescent_ProjectKvIdeal := fun m ρ _ => Cert.ProjectKvIdeal.Gen.frame m ρ
theorem frame_ri : Cert.quiescent_ReferenceKvIdeal := fun m ρ _ =>
  (θ_run Cert.ReferenceKvIdeal.defs _ _).mono (fun r h => ⟨fun c => (h c).2, sem_eq_zero_of_no_sems (by decide) r.2⟩)
    (Cert.ReferenceKvIdeal.Value.run (F := Ideal) m ρ)

/-- The call and its reference end with the same array. -/
theorem algebraic : Cert.algebraic_ProjectKvIdeal_ReferenceKvIdeal := by
  intro m ρ m' ρ' _ hagree
  refine ⟨_, (θ_run Cert.ProjectKvIdeal.defs _ _).mono
    (fun _ h c => ⟨(h c).1.trans (Cert.ProjectKvIdeal.Value.final m c), (h c).2⟩)
    (Cert.ProjectKvIdeal.Value.run_blocks (F := Ideal) m ρ), ?_⟩
  refine (θ_run Cert.ReferenceKvIdeal.defs _ _).mono (fun _ h c => ⟨(h c).1.trans ?_, (h c).2⟩)
    (Cert.ReferenceKvIdeal.Value.run (F := Ideal) m' ρ')
  rw [(hagree c).1, (hagree c).2]
  refine (Cert.Product.dot_eq Cert.ReferenceKvIdeal.dot_S32768x1024_S1024x1536_S32768x1536_1_0_0_1_n_n rfl _ _).trans ?_
  unfold Cert.ProjectKvIdeal.Value.goal
  rw [Cert.ProjectKvIdeal.Value.V_x, Cert.ProjectKvIdeal.Value.V_w]
  rfl

end Cert.Proof.ProjectKv
-- ==== Proof.Project.B.lean ====
module

public import proofs.«01_k».proof.Defs
public import proofs.«01_k».proof.Proof.Gen.ProjectB.Frame
public import proofs.«01_k».proof.Proof.Gen.ProjectBIdeal.Value
public import proofs.«01_k».proof.Proof.Gen.ReferenceBIdeal.Run
public import proofs.«01_k».proof.Proof.Product
public import Idealize.ShloMosaic.Lib.Quiescent

@[expose] public section

set_option maxRecDepth 16384

noncomputable section

namespace Cert.ProjectBIdeal.Value

open Cert.ProjectBIdeal.Gen Cert.Product
open Idealize.ShloMosaic Idealize.ShloMosaic.TcCoe Idealize.ShloMosaic.ValueIdx Idealize.SL.Sem
open Idealize.ShloMosaic.Pipeline (Window)

/-! # The gated layer: the call's result is the product -/

variable (m : (ℓ : Loc nD τ sig) → Buf (Elt Ideal) ℓ) (ρ : Dev nD → PrngReg) (c : Dev nD)

/-- The left array, as the call finds it: the first argument, flattened. -/
theorem V_x : V m c main_v1 = truncf (F := Ideal) (φ := .f32) .bf16 (shapeCast S32768x1024 (m ((c : Thread nD τ).loc main_arg0))
    shapeCasts_S8x4096x1024_S32768x1024) bitsLt_bf16_f32 := by
  show StableHlo.after hostOps0 (fun b => m (c, b)) (Proc.devRef .tc main_v1) = _
  simp only [hostOps0]
  after_results_simp <;> rfl

/-- The right array: the weights, without their first axis. -/
theorem V_w : V m c main_v3 = truncf (F := Ideal) (φ := .f32) .bf16 (shapeCast S1024x1024 (m ((c : Thread nD τ).loc main_arg1))
    shapeCasts_S1x1024x1024_S1024x1024) bitsLt_bf16_f32 := by
  show StableHlo.after hostOps0 (fun b => m (c, b)) (Proc.devRef .tc main_v3) = _
  simp only [hostOps0]
  after_results_simp <;> rfl

/-- Where each window is at a point. -/
theorem index_x : ∀ t : Fin cfg0.N, (cfg0.win 0).index t 0 = t.val ∧ (cfg0.win 0).index t 1 = 0 :=
  (by decide +kernel : ∀ t : Fin grid0.N, win0_0.index t 0 = t.val ∧ win0_0.index t 1 = 0)
theorem index_w : ∀ t : Fin cfg0.N, (cfg0.win 1).index t 0 = 0 ∧ (cfg0.win 1).index t 1 = 0 :=
  (by decide +kernel : ∀ t : Fin grid0.N, win0_1.index t 0 = 0 ∧ win0_1.index t 1 = 0)
theorem index_o : ∀ t : Fin cfg0.N, (cfg0.win 2).index t 0 = t.val ∧ (cfg0.win 2).index t 1 = 0 :=
  (by decide +kernel : ∀ t : Fin grid0.N, win0_2.index t 0 = t.val ∧ win0_2.index t 1 = 0)

/-- The index of each array that an index of its block is. -/
theorem emb_x (t : Fin cfg0.N) (r : Fin 512) (k : Fin 1024) : ((cfg0.win 0).rect t).emb (ix2 r k) = ix2 (row t r) k :=
  emb_row (K := 512) (B := 64) rfl ((cfg0.win 0).rect t).emb t (index_x t).1 (index_x t).2 (fun x => Window.rect_emb_val (cfg0.win 0) t x 0 rfl)
    (fun x => Window.rect_emb_val (cfg0.win 0) t x 1 rfl) r k
theorem emb_w (t : Fin cfg0.N) (k : Fin 1024) (l : Fin 1024) : ((cfg0.win 1).rect t).emb (ix2 k l) = ix2 k l :=
  emb_whole ((cfg0.win 1).rect t).emb (index_w t).1 (index_w t).2 (fun x => Window.rect_emb_val (cfg0.win 1) t x 0 rfl)
    (fun x => Window.rect_emb_val (cfg0.win 1) t x 1 rfl) k l
theorem emb_o (t : Fin cfg0.N) (r : Fin 512) (l : Fin 1024) : ((cfg0.win 2).rect t).emb (ix2 r l) = ix2 (row t r) l :=
  emb_row (K := 512) (B := 64) rfl ((cfg0.win 2).rect t).emb t (index_o t).1 (index_o t).2 (fun x => Window.rect_emb_val (cfg0.win 2) t x 0 rfl)
    (fun x => Window.rect_emb_val (cfg0.win 2) t x 1 rfl) r l

/-- What the call computes. -/
def goal : Mat 32768 1024 := prod (V m c main_v1) (V m c main_v3)

theorem zero_off : (![0, 0] : Fin 2 → ℕ) = fun _ => 0 := by decide

/-- What a point reads of each array. -/
theorem read_x (t : Fin cfg0.N) (r : Fin 512) (k : Fin 1024) : iblk m c 0 t (ix2 r k) = V m c main_v1 (ix2 (row t r) k) :=
  congrArg (V m c main_v1) (emb_x t r k)
theorem read_w (t : Fin cfg0.N) (k : Fin 1024) (l : Fin 1024) : iblk m c 1 t (ix2 k l) = V m c main_v3 (ix2 k l) :=
  congrArg (V m c main_v3) (emb_w t k l)

/-- What a point leaves of its block. -/
theorem out_eq (t : Fin cfg0.N) (r : Fin 512) (l : Fin 1024) :
    out0_2 (iblk m c 0 t) (iblk m c 1 t) (ix2 r l) = goal m c (ix2 (row t r) l) := by
  unfold out0_2 k0_pay1
  rw [View.canon_unit_zero zero_off, View.ld_unit_zero zero_off, View.ld_unit_zero zero_off, shapeCast_self, shapeCast_self]
  exact block_eq (B := 64) rfl dot_S512x1024_S1024x1024_S512x1024_1_0_0_1_n_n rfl (V m c main_v1) (V m c main_v3) (iblk m c 0 t) (iblk m c 1 t) t
    (read_x m c t) (read_w m c t) r l

/-- What a point writes back of a block is the array's part there. -/
theorem cut_read (t : Fin cfg0.N) (X : Vec Ideal S512x1024 .f32) (G : FVec Ideal S32768x1024 .f32)
    (h : ∀ r l, X (ix2 r l) = G (ix2 (row t r) l)) :
    (cfg0.win 2).cut (grid0.coords t) X = ((cfg0.win 2).blk t).view.read (Elt Ideal) G :=
  funext (rows_eq (K := 512) (B := 64) rfl ((cfg0.win 2).rect t).emb t (emb_o t) X G h)

/-- Every index is in some point's block. -/
theorem cover (i : S32768x1024.Idx) : ∃ t : Fin cfg0.N, (cfg0.win 2).flush t = true ∧ i ∈ ((cfg0.win 2).blk t).view.set := by
  obtain ⟨t, r, l, e⟩ := exists_row (K := 512) (B := 64) rfl i
  exact ⟨t, flush0_2 t, (e.trans (emb_o t r l).symm) ▸ ((cfg0.win 2).blk t).view.emb_mem_set (ix2 r l)⟩

/-- So the result array ends at the product. -/
theorem final : (dats m 0 c).arrAt 2 cfg0.N = goal m c :=
  (dats m 0 c).arrAt_eq_of_cover 2 (goal m c) (fun t _ => (flushed2 m c t).trans (cut_read t _ _ (out_eq m c t))) cover

end Cert.ProjectBIdeal.Value

/-! ## The claims -/

namespace Cert.Proof.ProjectB

open Idealize.ShloMosaic Idealize.ShloMosaic.TcCoe Idealize.SL.Sem

theorem frame_p : Cert.quiescent_ProjectB := fun m ρ _ => Cert.ProjectB.Gen.frame m ρ
theorem frame_pi : Cert.quiescent_ProjectBIdeal := fun m ρ _ => Cert.ProjectBIdeal.Gen.frame m ρ
theorem frame_ri : Cert.quiescent_ReferenceBIdeal := fun m ρ _ =>
  (θ_run Cert.ReferenceBIdeal.defs _ _).mono (fun r h => ⟨fun c => (h c).2, sem_eq_zero_of_no_sems (by decide) r.2⟩)
    (Cert.ReferenceBIdeal.Value.run (F := Ideal) m ρ)

/-- The call and its reference end with the same array. -/
theorem algebraic : Cert.algebraic_ProjectBIdeal_ReferenceBIdeal := by
  intro m ρ m' ρ' _ hagree
  refine ⟨_, (θ_run Cert.ProjectBIdeal.defs _ _).mono
    (fun _ h c => ⟨(h c).1.trans (Cert.ProjectBIdeal.Value.final m c), (h c).2⟩)
    (Cert.ProjectBIdeal.Value.run_blocks (F := Ideal) m ρ), ?_⟩
  refine (θ_run Cert.ReferenceBIdeal.defs _ _).mono (fun _ h c => ⟨(h c).1.trans ?_, (h c).2⟩)
    (Cert.ReferenceBIdeal.Value.run (F := Ideal) m' ρ')
  rw [(hagree c).1, (hagree c).2]
  refine (Cert.Product.dot_eq Cert.ReferenceBIdeal.dot_S32768x1024_S1024x1024_S32768x1024_1_0_0_1_n_n rfl _ _).trans ?_
  unfold Cert.ProjectBIdeal.Value.goal
  rw [Cert.ProjectBIdeal.Value.V_x, Cert.ProjectBIdeal.Value.V_w]
  rfl

end Cert.Proof.ProjectB
-- ==== Proof.Project.Q.lean ====
module

public import proofs.«01_k».proof.Defs
public import proofs.«01_k».proof.Proof.Gen.ProjectQ.Frame
public import proofs.«01_k».proof.Proof.Gen.ProjectQIdeal.Value
public import proofs.«01_k».proof.Proof.Gen.ReferenceQIdeal.Run
public import proofs.«01_k».proof.Proof.Product
public import Idealize.ShloMosaic.Lib.Quiescent

@[expose] public section

set_option maxRecDepth 16384

noncomputable section

namespace Cert.ProjectQIdeal.Value

open Cert.ProjectQIdeal.Gen Cert.Product
open Idealize.ShloMosaic Idealize.ShloMosaic.TcCoe Idealize.ShloMosaic.ValueIdx Idealize.SL.Sem
open Idealize.ShloMosaic.Pipeline (Window)

/-! # The experts' queries: the call's result is the product -/

variable (m : (ℓ : Loc nD τ sig) → Buf (Elt Ideal) ℓ) (ρ : Dev nD → PrngReg) (c : Dev nD)

/-- The left array, as the call finds it: the first argument, flattened. -/
theorem V_x : V m c main_v1 = truncf (F := Ideal) (φ := .f32) .bf16 (shapeCast S32768x1024 (m ((c : Thread nD τ).loc main_arg0))
    shapeCasts_S8x4096x1024_S32768x1024) bitsLt_bf16_f32 := by
  show StableHlo.after hostOps0 (fun b => m (c, b)) (Proc.devRef .tc main_v1) = _
  simp only [hostOps0]
  after_results_simp <;> rfl

/-- The right array: the weights. -/
theorem V_w : V m c main_v2 = truncf (F := Ideal) (φ := .f32) .bf16 (m ((c : Thread nD τ).loc main_arg1)) bitsLt_bf16_f32 := by
  show StableHlo.after hostOps0 (fun b => m (c, b)) (Proc.devRef .tc main_v2) = _
  simp only [hostOps0]
  after_results_simp <;> rfl

/-- Where each window is at a point. -/
theorem index_x : ∀ t : Fin cfg0.N, (cfg0.win 0).index t 0 = t.val ∧ (cfg0.win 0).index t 1 = 0 :=
  (by decide +kernel : ∀ t : Fin grid0.N, win0_0.index t 0 = t.val ∧ win0_0.index t 1 = 0)
theorem index_w : ∀ t : Fin cfg0.N, (cfg0.win 1).index t 0 = 0 ∧ (cfg0.win 1).index t 1 = 0 :=
  (by decide +kernel : ∀ t : Fin grid0.N, win0_1.index t 0 = 0 ∧ win0_1.index t 1 = 0)
theorem index_o : ∀ t : Fin cfg0.N, (cfg0.win 2).index t 0 = t.val ∧ (cfg0.win 2).index t 1 = 0 :=
  (by decide +kernel : ∀ t : Fin grid0.N, win0_2.index t 0 = t.val ∧ win0_2.index t 1 = 0)

/-- The index of each array that an index of its block is. -/
theorem emb_x (t : Fin cfg0.N) (r : Fin 512) (k : Fin 1024) : ((cfg0.win 0).rect t).emb (ix2 r k) = ix2 (row t r) k :=
  emb_row (K := 512) (B := 64) rfl ((cfg0.win 0).rect t).emb t (index_x t).1 (index_x t).2 (fun x => Window.rect_emb_val (cfg0.win 0) t x 0 rfl)
    (fun x => Window.rect_emb_val (cfg0.win 0) t x 1 rfl) r k
theorem emb_w (t : Fin cfg0.N) (k : Fin 1024) (l : Fin 2048) : ((cfg0.win 1).rect t).emb (ix2 k l) = ix2 k l :=
  emb_whole ((cfg0.win 1).rect t).emb (index_w t).1 (index_w t).2 (fun x => Window.rect_emb_val (cfg0.win 1) t x 0 rfl)
    (fun x => Window.rect_emb_val (cfg0.win 1) t x 1 rfl) k l
theorem emb_o (t : Fin cfg0.N) (r : Fin 512) (l : Fin 2048) : ((cfg0.win 2).rect t).emb (ix2 r l) = ix2 (row t r) l :=
  emb_row (K := 512) (B := 64) rfl ((cfg0.win 2).rect t).emb t (index_o t).1 (index_o t).2 (fun x => Window.rect_emb_val (cfg0.win 2) t x 0 rfl)
    (fun x => Window.rect_emb_val (cfg0.win 2) t x 1 rfl) r l

/-- What the call computes. -/
def goal : Mat 32768 2048 := prod (V m c main_v1) (V m c main_v2)

theorem zero_off : (![0, 0] : Fin 2 → ℕ) = fun _ => 0 := by decide

/-- What a point reads of each array. -/
theorem read_x (t : Fin cfg0.N) (r : Fin 512) (k : Fin 1024) : iblk m c 0 t (ix2 r k) = V m c main_v1 (ix2 (row t r) k) :=
  congrArg (V m c main_v1) (emb_x t r k)
theorem read_w (t : Fin cfg0.N) (k : Fin 1024) (l : Fin 2048) : iblk m c 1 t (ix2 k l) = V m c main_v2 (ix2 k l) :=
  congrArg (V m c main_v2) (emb_w t k l)

/-- What a point leaves of its block. -/
theorem out_eq (t : Fin cfg0.N) (r : Fin 512) (l : Fin 2048) :
    out0_2 (iblk m c 0 t) (iblk m c 1 t) (ix2 r l) = goal m c (ix2 (row t r) l) := by
  unfold out0_2 k0_pay1
  rw [View.canon_unit_zero zero_off, View.ld_unit_zero zero_off, View.ld_unit_zero zero_off, shapeCast_self, shapeCast_self]
  exact block_eq (B := 64) rfl dot_S512x1024_S1024x2048_S512x2048_1_0_0_1_n_n rfl (V m c main_v1) (V m c main_v2) (iblk m c 0 t) (iblk m c 1 t) t
    (read_x m c t) (read_w m c t) r l

/-- What a point writes back of a block is the array's part there. -/
theorem cut_read (t : Fin cfg0.N) (X : Vec Ideal S512x2048 .f32) (G : FVec Ideal S32768x2048 .f32)
    (h : ∀ r l, X (ix2 r l) = G (ix2 (row t r) l)) :
    (cfg0.win 2).cut (grid0.coords t) X = ((cfg0.win 2).blk t).view.read (Elt Ideal) G :=
  funext (rows_eq (K := 512) (B := 64) rfl ((cfg0.win 2).rect t).emb t (emb_o t) X G h)

/-- Every index is in some point's block. -/
theorem cover (i : S32768x2048.Idx) : ∃ t : Fin cfg0.N, (cfg0.win 2).flush t = true ∧ i ∈ ((cfg0.win 2).blk t).view.set := by
  obtain ⟨t, r, l, e⟩ := exists_row (K := 512) (B := 64) rfl i
  exact ⟨t, flush0_2 t, (e.trans (emb_o t r l).symm) ▸ ((cfg0.win 2).blk t).view.emb_mem_set (ix2 r l)⟩

/-- So the result array ends at the product. -/
theorem final : (dats m 0 c).arrAt 2 cfg0.N = goal m c :=
  (dats m 0 c).arrAt_eq_of_cover 2 (goal m c) (fun t _ => (flushed2 m c t).trans (cut_read t _ _ (out_eq m c t))) cover

end Cert.ProjectQIdeal.Value

/-! ## The claims -/

namespace Cert.Proof.ProjectQ

open Idealize.ShloMosaic Idealize.ShloMosaic.TcCoe Idealize.SL.Sem

theorem frame_p : Cert.quiescent_ProjectQ := fun m ρ _ => Cert.ProjectQ.Gen.frame m ρ
theorem frame_pi : Cert.quiescent_ProjectQIdeal := fun m ρ _ => Cert.ProjectQIdeal.Gen.frame m ρ
theorem frame_ri : Cert.quiescent_ReferenceQIdeal := fun m ρ _ =>
  (θ_run Cert.ReferenceQIdeal.defs _ _).mono (fun r h => ⟨fun c => (h c).2, sem_eq_zero_of_no_sems (by decide) r.2⟩)
    (Cert.ReferenceQIdeal.Value.run (F := Ideal) m ρ)

/-- The call and its reference end with the same array. -/
theorem algebraic : Cert.algebraic_ProjectQIdeal_ReferenceQIdeal := by
  intro m ρ m' ρ' _ hagree
  refine ⟨_, (θ_run Cert.ProjectQIdeal.defs _ _).mono
    (fun _ h c => ⟨(h c).1.trans (Cert.ProjectQIdeal.Value.final m c), (h c).2⟩)
    (Cert.ProjectQIdeal.Value.run_blocks (F := Ideal) m ρ), ?_⟩
  refine (θ_run Cert.ReferenceQIdeal.defs _ _).mono (fun _ h c => ⟨(h c).1.trans ?_, (h c).2⟩)
    (Cert.ReferenceQIdeal.Value.run (F := Ideal) m' ρ')
  rw [(hagree c).1, (hagree c).2]
  refine (Cert.Product.dot_eq Cert.ReferenceQIdeal.dot_S32768x1024_S1024x2048_S32768x2048_1_0_0_1_n_n rfl _ _).trans ?_
  unfold Cert.ProjectQIdeal.Value.goal
  rw [Cert.ProjectQIdeal.Value.V_x, Cert.ProjectQIdeal.Value.V_w]
  rfl

end Cert.Proof.ProjectQ
-- ==== Proof.Project.Mem.lean ====
module

public import proofs.«01_k».proof.Defs
public import proofs.«01_k».proof.Proof.Gen.ProjectMem.Frame
public import proofs.«01_k».proof.Proof.Gen.ProjectMemIdeal.Value
public import proofs.«01_k».proof.Proof.Gen.ReferenceMemIdeal.Run
public import proofs.«01_k».proof.Proof.Product
public import Idealize.ShloMosaic.Lib.Quiescent

@[expose] public section

set_option maxRecDepth 16384

noncomputable section

namespace Cert.ProjectMemIdeal.Value

open Cert.ProjectMemIdeal.Gen Cert.Product
open Idealize.ShloMosaic Idealize.ShloMosaic.TcCoe Idealize.ShloMosaic.ValueIdx Idealize.SL.Sem
open Idealize.ShloMosaic.Pipeline (Window)

/-! # The memory's keys and values: the call's result is the product -/

variable (m : (ℓ : Loc nD τ sig) → Buf (Elt Ideal) ℓ) (ρ : Dev nD → PrngReg) (c : Dev nD)

/-- The left array, as the call finds it: the first argument, flattened. -/
theorem V_x : V m c main_v0 = shapeCast S2048x1024 (m ((c : Thread nD τ).loc main_arg0)) shapeCasts_S8x256x1024_S2048x1024 := by
  show StableHlo.after hostOps0 (fun b => m (c, b)) (Proc.devRef .tc main_v0) = _
  simp only [hostOps0]
  after_results_simp <;> rfl

/-- The right array: the second argument, without its first axis. -/
theorem V_w : V m c main_v2 = truncf (F := Ideal) (φ := .f32) .bf16
    (shapeCast S1024x512 (m ((c : Thread nD τ).loc main_arg1)) shapeCasts_S1x1024x512_S1024x512) bitsLt_bf16_f32 := by
  show StableHlo.after hostOps0 (fun b => m (c, b)) (Proc.devRef .tc main_v2) = _
  simp only [hostOps0]
  after_results_simp <;> rfl

/-- Where each window is at a point. -/
theorem index_x : ∀ t : Fin cfg0.N, (cfg0.win 0).index t 0 = t.val ∧ (cfg0.win 0).index t 1 = 0 :=
  (by decide +kernel : ∀ t : Fin grid0.N, win0_0.index t 0 = t.val ∧ win0_0.index t 1 = 0)
theorem index_w : ∀ t : Fin cfg0.N, (cfg0.win 1).index t 0 = 0 ∧ (cfg0.win 1).index t 1 = 0 :=
  (by decide +kernel : ∀ t : Fin grid0.N, win0_1.index t 0 = 0 ∧ win0_1.index t 1 = 0)
theorem index_o : ∀ t : Fin cfg0.N, (cfg0.win 2).index t 0 = t.val ∧ (cfg0.win 2).index t 1 = 0 :=
  (by decide +kernel : ∀ t : Fin grid0.N, win0_2.index t 0 = t.val ∧ win0_2.index t 1 = 0)

/-- The index of each array that an index of its block is. -/
theorem emb_x (t : Fin cfg0.N) (r : Fin 512) (k : Fin 1024) : ((cfg0.win 0).rect t).emb (ix2 r k) = ix2 (rowOf (K := 512) (B := 4) rfl t r) k :=
  emb_row (K := 512) (B := 4) rfl ((cfg0.win 0).rect t).emb t (index_x t).1 (index_x t).2 (fun x => Window.rect_emb_val (cfg0.win 0) t x 0 rfl)
    (fun x => Window.rect_emb_val (cfg0.win 0) t x 1 rfl) r k
theorem emb_w (t : Fin cfg0.N) (k : Fin 1024) (l : Fin 512) : ((cfg0.win 1).rect t).emb (ix2 k l) = ix2 k l :=
  emb_whole ((cfg0.win 1).rect t).emb (index_w t).1 (index_w t).2 (fun x => Window.rect_emb_val (cfg0.win 1) t x 0 rfl)
    (fun x => Window.rect_emb_val (cfg0.win 1) t x 1 rfl) k l
theorem emb_o (t : Fin cfg0.N) (r : Fin 512) (l : Fin 512) : ((cfg0.win 2).rect t).emb (ix2 r l) = ix2 (rowOf (K := 512) (B := 4) rfl t r) l :=
  emb_row (K := 512) (B := 4) rfl ((cfg0.win 2).rect t).emb t (index_o t).1 (index_o t).2 (fun x => Window.rect_emb_val (cfg0.win 2) t x 0 rfl)
    (fun x => Window.rect_emb_val (cfg0.win 2) t x 1 rfl) r l

/-- What the call computes. -/
def goal : Mat 2048 512 := prod (V m c main_v0) (V m c main_v2)

theorem zero_off : (![0, 0] : Fin 2 → ℕ) = fun _ => 0 := by decide

/-- What a point reads of each array. -/
theorem read_x (t : Fin cfg0.N) (r : Fin 512) (k : Fin 1024) : iblk m c 0 t (ix2 r k) = V m c main_v0 (ix2 (rowOf (K := 512) (B := 4) rfl t r) k) :=
  congrArg (V m c main_v0) (emb_x t r k)
theorem read_w (t : Fin cfg0.N) (k : Fin 1024) (l : Fin 512) : iblk m c 1 t (ix2 k l) = V m c main_v2 (ix2 k l) :=
  congrArg (V m c main_v2) (emb_w t k l)

/-- What a point leaves of its block. -/
theorem out_eq (t : Fin cfg0.N) (r : Fin 512) (l : Fin 512) :
    out0_2 (iblk m c 0 t) (iblk m c 1 t) (ix2 r l) = goal m c (ix2 (rowOf (K := 512) (B := 4) rfl t r) l) := by
  unfold out0_2 k0_pay1
  rw [View.canon_unit_zero zero_off, View.ld_unit_zero zero_off, View.ld_unit_zero zero_off, shapeCast_self, shapeCast_self]
  exact block_eq (B := 4) rfl dot_S512x1024_S1024x512_S512x512_1_0_0_1_n_n rfl (V m c main_v0) (V m c main_v2) (truncf .bf16 (iblk m c 0 t) bitsLt_bf16_f32) (iblk m c 1 t) t
    (read_x m c t) (read_w m c t) r l

/-- What a point writes back of a block is the array's part there. -/
theorem cut_read (t : Fin cfg0.N) (X : Vec Ideal S512x512 .f32) (G : FVec Ideal S2048x512 .f32)
    (h : ∀ r l, X (ix2 r l) = G (ix2 (rowOf (K := 512) (B := 4) rfl t r) l)) :
    (cfg0.win 2).cut (grid0.coords t) X = ((cfg0.win 2).blk t).view.read (Elt Ideal) G :=
  funext (rows_eq (K := 512) (B := 4) rfl ((cfg0.win 2).rect t).emb t (emb_o t) X G h)

/-- Every index is in some point's block. -/
theorem cover (i : S2048x512.Idx) : ∃ t : Fin cfg0.N, (cfg0.win 2).flush t = true ∧ i ∈ ((cfg0.win 2).blk t).view.set := by
  obtain ⟨t, r, l, e⟩ := exists_row (K := 512) (B := 4) rfl i
  exact ⟨t, flush0_2 t, (e.trans (emb_o t r l).symm) ▸ ((cfg0.win 2).blk t).view.emb_mem_set (ix2 r l)⟩

/-- So the result array ends at the product. -/
theorem final : (dats m 0 c).arrAt 2 cfg0.N = goal m c :=
  (dats m 0 c).arrAt_eq_of_cover 2 (goal m c) (fun t _ => (flushed2 m c t).trans (cut_read t _ _ (out_eq m c t))) cover

end Cert.ProjectMemIdeal.Value

/-! ## The claims -/

namespace Cert.Proof.ProjectMem

open Idealize.ShloMosaic Idealize.ShloMosaic.TcCoe Idealize.SL.Sem

theorem frame_p : Cert.quiescent_ProjectMem := fun m ρ _ => Cert.ProjectMem.Gen.frame m ρ
theorem frame_pi : Cert.quiescent_ProjectMemIdeal := fun m ρ _ => Cert.ProjectMemIdeal.Gen.frame m ρ
theorem frame_ri : Cert.quiescent_ReferenceMemIdeal := fun m ρ _ =>
  (θ_run Cert.ReferenceMemIdeal.defs _ _).mono (fun r h => ⟨fun c => (h c).2, sem_eq_zero_of_no_sems (by decide) r.2⟩)
    (Cert.ReferenceMemIdeal.Value.run (F := Ideal) m ρ)

/-- The call and its reference end with the same array. -/
theorem algebraic : Cert.algebraic_ProjectMemIdeal_ReferenceMemIdeal := by
  intro m ρ m' ρ' _ hagree
  refine ⟨_, (θ_run Cert.ProjectMemIdeal.defs _ _).mono
    (fun _ h c => ⟨(h c).1.trans (Cert.ProjectMemIdeal.Value.final m c), (h c).2⟩)
    (Cert.ProjectMemIdeal.Value.run_blocks (F := Ideal) m ρ), ?_⟩
  refine (θ_run Cert.ReferenceMemIdeal.defs _ _).mono (fun _ h c => ⟨(h c).1.trans ?_, (h c).2⟩)
    (Cert.ReferenceMemIdeal.Value.run (F := Ideal) m' ρ')
  rw [(hagree c).1, (hagree c).2]
  refine (Cert.Product.dot_eq Cert.ReferenceMemIdeal.dot_S2048x1024_S1024x512_S2048x512_1_0_0_1_n_n rfl _ _).trans ?_
  unfold Cert.ProjectMemIdeal.Value.goal
  rw [Cert.ProjectMemIdeal.Value.V_x, Cert.ProjectMemIdeal.Value.V_w]
  rfl

end Cert.Proof.ProjectMem
-- ==== Proof.LayerNorm.lean ====
module

public import Idealize.ShloMosaic.Lib.IdealHost
public import Idealize.ShloMosaic.Lib.Pointwise.Reduce
public import Idealize.ShloMosaic.Lib.ValueIdx
public import Idealize.ShloMosaic.PureOps.Ideal.Laws
public import proofs.«01_k».proof.Proof.Product

@[expose] public section

noncomputable section

namespace Cert.LayerNorm

open Idealize.ShloMosaic hiding ix1 ix2 ix3 ix4
open Idealize.ShloMosaic.ValueIdx Cert.Product

/-! # The layer norm of a row -/

/-- A row's mean. -/
def mean (f : Fin 1024 → EReal) : EReal := Ideal.div (∑ k, f k) (FloatOps.ofBits (F := Ideal) .f32 0x44800000#32)

/-- A row, less its mean. -/
def centred (f : Fin 1024 → EReal) (l : Fin 1024) : EReal := f l - mean f

/-- One entry of the row's layer norm: scaled by `g`, moved by `b`. -/
def normed (f : Fin 1024 → EReal) (g b : EReal) (l : Fin 1024) : EReal :=
  centred f l * Ideal.rsqrt (mean (fun k => centred f k * centred f k) + FloatOps.ofBits (F := Ideal) .f32 0x3727C5AC#32) * g + b

/-! ## In a block -/

/-- A column repeated along the rows. -/
theorem col_apply {M N : ℕ} (hN : M ≠ 1) (x : Mat M 1) (h : Shape.Broadcasts ⟨2, ![M, 1]⟩ ⟨2, ![M, N]⟩) (r : Fin M) (l : Fin N) :
    broadcastTo (⟨2, ![M, N]⟩ : Shape) x h (ix2 r l) = x (ix2 r (0 : Fin 1)) :=
  broadcastTo_apply x h (ix2 r l) (ix2 r (0 : Fin 1)) (by
    intro a
    match a with
    | ⟨0, _⟩ => exact (if_neg hN).symm
    | ⟨1, _⟩ => exact (if_pos rfl).symm)

/-- A row repeated in every row. -/
theorem line_apply {M : ℕ} (x : Mat 1 1024) (h : Shape.Broadcasts ⟨2, ![1, 1024]⟩ ⟨2, ![M, 1024]⟩) (r : Fin M) (l : Fin 1024) :
    broadcastTo (⟨2, ![M, 1024]⟩ : Shape) x h (ix2 r l) = x (ix2 (0 : Fin 1) l) :=
  broadcastTo_apply x h (ix2 r l) (ix2 (0 : Fin 1) l) (by
    intro a
    match a with
    | ⟨0, _⟩ => exact (if_pos rfl).symm
    | ⟨1, _⟩ => exact (if_neg (show ¬(1024 : ℕ) = 1 by decide)).symm)

/-- The sums of the rows, as a column. -/
theorem sum_apply {M N : ℕ} (y : FVec Ideal ⟨2, ![M, N]⟩ .f32) (h : Shape.Reduces ⟨2, ![M, N]⟩ [1] ⟨1, ![M]⟩)
    (hφ : FKind.Formats .f32) (hacc : (0x00000000#32 : BitVec FTy.f32.bits) = FKind.add.neutral .f32 hφ)
    (hc : Shape.ShapeCasts ⟨1, ![M]⟩ ⟨2, ![M, 1]⟩) (r : Fin M) :
    shapeCast (⟨2, ![M, 1]⟩ : Shape) (multiReduction .add [1] ⟨1, ![M]⟩ y 0x00000000#32 h hφ hacc) hc (ix2 r (0 : Fin 1))
      = ∑ k : Fin N, y (ix2 r k) := by
  rw [shapeCast_apply _ _ _ (ix1 r) (by
    simp only [Shape.rowMajor_val_one, Shape.rowMajor_val_two]
    show r.val = r.val * 1 + 0
    omega)]
  exact Ideal.reduceAdd_r2_a1 h y (ix1 r)

/-- The means of the rows. -/
theorem mean_apply {M : ℕ} (y : FVec Ideal ⟨2, ![M, 1024]⟩ .f32) (h : Shape.Reduces ⟨2, ![M, 1024]⟩ [1] ⟨1, ![M]⟩)
    (hφ : FKind.Formats .f32) (hacc : (0x00000000#32 : BitVec FTy.f32.bits) = FKind.add.neutral .f32 hφ)
    (hc : Shape.ShapeCasts ⟨1, ![M]⟩ ⟨2, ![M, 1]⟩) (r : Fin M) :
    divf (shapeCast (⟨2, ![M, 1]⟩ : Shape) (multiReduction .add [1] ⟨1, ![M]⟩ y 0x00000000#32 h hφ hacc) hc)
        (broadcast ⟨2, ![M, 1]⟩ (Scalar.ofBits (F := Ideal) .f32 0x44800000#32)) (ix2 r (0 : Fin 1))
      = mean fun k => y (ix2 r k) := by
  rw [divf_apply, sum_apply]
  rfl

/-- An array of 128 lanes read at every eighth row, from row `n`. -/
def chunk (x : Mat 4096 128) (n : Fin 8) : Mat 512 128 := fun j =>
  x (ix2 ⟨8 * (j 0).val + n.val, by have : (j 0).val < 512 := (j 0).isLt; omega⟩ (j 1))

/-- Eight such reads side by side: each eight rows of 128 lanes as one row of 1024. -/
theorem side_apply (x : Mat 4096 128)
    (h : Shape.Concatenates ((List.ofFn fun n : Fin 8 =>
      (⟨⟨2, ![512, 128]⟩, chunk x n⟩ : (s : Shape) × (s.Idx → EReal))).map (·.1)) ⟨2, ![512, 1024]⟩ 1)
    (r : Fin 512) (l : Fin 1024) :
    concatenate (⟨2, ![512, 1024]⟩ : Shape) 1 (List.ofFn fun n : Fin 8 => ⟨⟨2, ![512, 128]⟩, chunk x n⟩) h (ix2 r l)
      = x (ix2 ⟨8 * r.val + l.val / 128, by omega⟩ ⟨l.val % 128, by omega⟩) :=
  concatenate_ofFn_apply (t := ⟨2, ![512, 1024]⟩) (s₁ := ⟨2, ![512, 128]⟩) 1 (chunk x) h rfl 128 rfl (ix2 r l)
    ⟨l.val / 128, by omega⟩ rfl (ix2 r (⟨l.val % 128, by omega⟩ : Fin 128)) rfl (by
      intro b hb
      match b with
      | ⟨0, _⟩ => rfl
      | ⟨1, _⟩ => exact absurd rfl hb)

/-! ## In the whole array, with an axis of batches -/

/-- The batch of a row of all batches, and its row there. -/
def batch (r : Fin 32768) : Fin 8 := ⟨r.val / 4096, by omega⟩
def posn (r : Fin 32768) : Fin 4096 := ⟨r.val % 4096, by omega⟩

/-- An array with its batches in one, at an index. -/
theorem flat_apply {N : ℕ} (x : (⟨3, ![8, 4096, N]⟩ : Shape).Idx → EReal)
    (h : Shape.ShapeCasts ⟨3, ![8, 4096, N]⟩ ⟨2, ![32768, N]⟩) (r : Fin 32768) (l : Fin N) :
    shapeCast (⟨2, ![32768, N]⟩ : Shape) x h (ix2 r l) = x (ix3 (batch r) (posn r) l) :=
  shapeCast_apply x h _ _ (by
    simp only [Shape.rowMajor_val_three, Shape.rowMajor_val_two]
    show (r.val / 4096 * 4096 + r.val % 4096) * N + l.val = r.val * N + l.val
    rw [Nat.div_add_mod'])

/-- An array with its batches in one, from what it is at each row. -/
theorem flat_eq (y : (⟨3, ![8, 4096, 1024]⟩ : Shape).Idx → EReal) (G : Mat 32768 1024)
    (h : Shape.ShapeCasts ⟨3, ![8, 4096, 1024]⟩ ⟨2, ![32768, 1024]⟩)
    (e : ∀ r l, y (ix3 (batch r) (posn r) l) = G (ix2 r l)) : shapeCast (⟨2, ![32768, 1024]⟩ : Shape) y h = G := by
  funext j
  obtain ⟨r, l, rfl⟩ : ∃ (r : Fin 32768) (l : Fin 1024), j = ix2 r l := ⟨j 0, j 1, ValueIdx.eq_ix2 j⟩
  exact (flat_apply y h r l).trans (e r l)

/-- A row as an array of one row. -/
theorem one_apply (x : (⟨1, ![1024]⟩ : Shape).Idx → EReal) (h : Shape.ShapeCasts ⟨1, ![1024]⟩ ⟨2, ![1, 1024]⟩) (l : Fin 1024) :
    shapeCast (⟨2, ![1, 1024]⟩ : Shape) x h (ix2 (0 : Fin 1) l) = x (ix1 l) :=
  shapeCast_apply x h _ _ (by
    simp only [Shape.rowMajor_val_one, Shape.rowMajor_val_two]
    show l.val = 0 * 1024 + l.val
    omega)

/-- An array whose last axis is 1, repeated along it. -/
theorem col3_apply {B T N : ℕ} (hB : B ≠ 1) (hT : T ≠ 1) (x : (⟨3, ![B, T, 1]⟩ : Shape).Idx → EReal)
    (h : Shape.BroadcastsInDim ⟨3, ![B, T, 1]⟩ ⟨3, ![B, T, N]⟩ ![0, 1, 2]) (b : Fin B) (t : Fin T) (l : Fin N) :
    broadcastInDim (⟨3, ![B, T, N]⟩ : Shape) ![0, 1, 2] h x (ix3 b t l) = x (ix3 b t (0 : Fin 1)) :=
  broadcastInDim_apply _ h x (ix3 b t l) (ix3 b t (0 : Fin 1)) (by
    intro a
    match a with
    | ⟨0, _⟩ => exact (if_neg hB).symm
    | ⟨1, _⟩ => exact (if_neg hT).symm
    | ⟨2, _⟩ => exact (if_pos rfl).symm)

/-- A row repeated in every row of every batch. -/
theorem line3_apply {B T : ℕ} (x : (⟨1, ![1024]⟩ : Shape).Idx → EReal)
    (h : Shape.BroadcastsInDim ⟨1, ![1024]⟩ ⟨3, ![1, 1, 1024]⟩ ![2])
    (h' : Shape.BroadcastsInDim ⟨3, ![1, 1, 1024]⟩ ⟨3, ![B, T, 1024]⟩ ![0, 1, 2]) (b : Fin B) (t : Fin T) (l : Fin 1024) :
    broadcastInDim (⟨3, ![B, T, 1024]⟩ : Shape) ![0, 1, 2] h' (broadcastInDim (⟨3, ![1, 1, 1024]⟩ : Shape) ![2] h x) (ix3 b t l)
      = x (ix1 l) := by
  rw [broadcastInDim_apply _ h' _ (ix3 b t l) (ix3 (0 : Fin 1) (0 : Fin 1) l) (by
    intro a
    match a with
    | ⟨0, _⟩ => exact (if_pos rfl).symm
    | ⟨1, _⟩ => exact (if_pos rfl).symm
    | ⟨2, _⟩ => exact (if_neg (show ¬(1024 : ℕ) = 1 by decide)).symm)]
  exact broadcastInDim_apply _ h x _ (ix1 l) (by
    intro a
    match a with
    | ⟨0, _⟩ => exact (if_neg (show ¬(1024 : ℕ) = 1 by decide)).symm)

/-- The means of the rows. -/
theorem mean3_apply {B T : ℕ} (hB : B ≠ 1) (hT : T ≠ 1) (y : FVec Ideal ⟨3, ![B, T, 1024]⟩ .f32)
    (h : Shape.ReducesTo ⟨3, ![B, T, 1024]⟩ [2] ⟨2, ![B, T]⟩) (hu : 0 < (⟨0, ![]⟩ : Shape).numel)
    (hc : Shape.BroadcastsInDim ⟨2, ![B, T]⟩ ⟨3, ![B, T, 1]⟩ ![0, 1])
    (hs : Shape.BroadcastsInDim ⟨0, ![]⟩ ⟨3, ![B, T, 1]⟩ ![]) (b : Fin B) (t : Fin T) :
    Host.divf (broadcastInDim (⟨3, ![B, T, 1]⟩ : Shape) ![0, 1] hc
          (Host.reduceAdd y (constant (F := Ideal) ⟨0, ![]⟩ .f32 0x00000000#32) h hu))
        (broadcastInDim (⟨3, ![B, T, 1]⟩ : Shape) ![] hs (constant (F := Ideal) ⟨0, ![]⟩ .f32 0x44800000#32)) (ix3 b t (0 : Fin 1))
      = mean fun k => y (ix3 b t k) := by
  rw [hostDivf_apply, broadcastInDim_scalar_apply, broadcastInDim_apply _ hc _ (ix3 b t (0 : Fin 1)) (ix2 b t) (by
      intro a
      match a with
      | ⟨0, _⟩ => exact (if_neg hB).symm
      | ⟨1, _⟩ => exact (if_neg hT).symm),
    hostReduceAdd_apply, Ideal.hostReduceAdd_r3_a2]
  unfold mean
  refine congrArg₂ Ideal.div ?_ rfl
  refine (congrArg (· + _) Ideal.ofBits_zero_f32).trans ?_
  exact zero_add _

/-- The host's means of the rows, as an array whose last axis is 1. -/
abbrev means (y : FVec Ideal ⟨3, ![8, 4096, 1024]⟩ .f32) (h : Shape.ReducesTo ⟨3, ![8, 4096, 1024]⟩ [2] ⟨2, ![8, 4096]⟩)
    (hu : 0 < (⟨0, ![]⟩ : Shape).numel) (hc : Shape.BroadcastsInDim ⟨2, ![8, 4096]⟩ ⟨3, ![8, 4096, 1]⟩ ![0, 1])
    (hs : Shape.BroadcastsInDim ⟨0, ![]⟩ ⟨3, ![8, 4096, 1]⟩ ![]) : FVec Ideal ⟨3, ![8, 4096, 1]⟩ .f32 :=
  Host.divf (broadcastInDim (⟨3, ![8, 4096, 1]⟩ : Shape) ![0, 1] hc
      (Host.reduceAdd y (constant (F := Ideal) ⟨0, ![]⟩ .f32 0x00000000#32) h hu))
    (broadcastInDim (⟨3, ![8, 4096, 1]⟩ : Shape) ![] hs (constant (F := Ideal) ⟨0, ![]⟩ .f32 0x44800000#32))

/-- The rows, less their means. -/
abbrev less (y : FVec Ideal ⟨3, ![8, 4096, 1024]⟩ .f32) (h : Shape.ReducesTo ⟨3, ![8, 4096, 1024]⟩ [2] ⟨2, ![8, 4096]⟩)
    (hu : 0 < (⟨0, ![]⟩ : Shape).numel) (hc : Shape.BroadcastsInDim ⟨2, ![8, 4096]⟩ ⟨3, ![8, 4096, 1]⟩ ![0, 1])
    (hs : Shape.BroadcastsInDim ⟨0, ![]⟩ ⟨3, ![8, 4096, 1]⟩ ![])
    (hw : Shape.BroadcastsInDim ⟨3, ![8, 4096, 1]⟩ ⟨3, ![8, 4096, 1024]⟩ ![0, 1, 2]) : FVec Ideal ⟨3, ![8, 4096, 1024]⟩ .f32 :=
  subf y (broadcastInDim (⟨3, ![8, 4096, 1024]⟩ : Shape) ![0, 1, 2] hw (means y h hu hc hs))

/-- The host's layer norm of the rows, at an index. -/
theorem norm3_apply (y : FVec Ideal ⟨3, ![8, 4096, 1024]⟩ .f32) (g b : FVec Ideal ⟨1, ![1024]⟩ .f32)
    (h : Shape.ReducesTo ⟨3, ![8, 4096, 1024]⟩ [2] ⟨2, ![8, 4096]⟩) (hu : 0 < (⟨0, ![]⟩ : Shape).numel)
    (hc : Shape.BroadcastsInDim ⟨2, ![8, 4096]⟩ ⟨3, ![8, 4096, 1]⟩ ![0, 1])
    (hs : Shape.BroadcastsInDim ⟨0, ![]⟩ ⟨3, ![8, 4096, 1]⟩ ![])
    (hw : Shape.BroadcastsInDim ⟨3, ![8, 4096, 1]⟩ ⟨3, ![8, 4096, 1024]⟩ ![0, 1, 2])
    (h₁ : Shape.BroadcastsInDim ⟨1, ![1024]⟩ ⟨3, ![1, 1, 1024]⟩ ![2])
    (h₂ : Shape.BroadcastsInDim ⟨3, ![1, 1, 1024]⟩ ⟨3, ![8, 4096, 1024]⟩ ![0, 1, 2]) (i : Fin 8) (t : Fin 4096) (l : Fin 1024) :
    addf (mulf (mulf (less y h hu hc hs hw) (broadcastInDim (⟨3, ![8, 4096, 1024]⟩ : Shape) ![0, 1, 2] hw
          (Host.rsqrt (addf (means (mulf (less y h hu hc hs hw) (less y h hu hc hs hw)) h hu hc hs)
            (broadcastInDim (⟨3, ![8, 4096, 1]⟩ : Shape) ![] hs (constant (F := Ideal) ⟨0, ![]⟩ .f32 0x3727C5AC#32))))))
        (broadcastInDim (⟨3, ![8, 4096, 1024]⟩ : Shape) ![0, 1, 2] h₂ (broadcastInDim (⟨3, ![1, 1, 1024]⟩ : Shape) ![2] h₁ g)))
      (broadcastInDim (⟨3, ![8, 4096, 1024]⟩ : Shape) ![0, 1, 2] h₂ (broadcastInDim (⟨3, ![1, 1, 1024]⟩ : Shape) ![2] h₁ b))
      (ix3 i t l) = normed (fun k => y (ix3 i t k)) (g (ix1 l)) (b (ix1 l)) l := by
  have hk (k : Fin 1024) : less y h hu hc hs hw (ix3 i t k) = centred (fun k => y (ix3 i t k)) k :=
    congrArg (y (ix3 i t k) - ·) ((col3_apply (by decide) (by decide) _ _ i t k).trans (mean3_apply (by decide) (by decide) y _ _ _ _ i t))
  rw [addf_apply, mulf_apply, mulf_apply, hk, line3_apply, line3_apply, col3_apply (by decide) (by decide)]
  refine congrArg (· * _ + _) (congrArg (_ * ·) (congrArg Ideal.rsqrt (congrArg (· + _) ?_)))
  refine (mean3_apply (by decide) (by decide) _ _ _ _ _ i t).trans (congrArg mean (funext fun k => ?_))
  rw [mulf_apply, hk]

end Cert.LayerNorm
-- ==== Proof.Norm.lean ====
module

public import proofs.«01_k».proof.Defs
public import proofs.«01_k».proof.Proof.Gen.Norm.Frame
public import proofs.«01_k».proof.Proof.Gen.NormIdeal.Value
public import proofs.«01_k».proof.Proof.Gen.ReferenceNormIdeal.Run
public import proofs.«01_k».proof.Proof.LayerNorm
public import Idealize.ShloMosaic.Lib.Quiescent
public import Idealize.ShloMosaic.Lib.WritesUnit

@[expose] public section

set_option maxRecDepth 16384

noncomputable section

namespace Cert.NormIdeal.Value

open Cert.NormIdeal.Gen Cert.Product Cert.LayerNorm
open Idealize.ShloMosaic hiding ix1 ix2 ix3 ix4
open Idealize.ShloMosaic.TcCoe Idealize.ShloMosaic.ValueIdx Idealize.SL.Sem
open Idealize.ShloMosaic.Pipeline (Window)

/-! # The layer's last residual sum and layer norm -/

/-! ## A block -/

theorem zero_off : (![0, 0] : Fin 2 → ℕ) = fun _ => 0 := by decide

/-- The row of a block that is normed: its residual row, scaled, plus its eight pieces of 128 lanes side by side. -/
def line (x : Mat 4096 128) (h : Mat 512 1024) (r : Fin 512) (k : Fin 1024) : EReal :=
  FloatOps.ofBits (F := Ideal) .f32 0x3FB504F3#32 * h (ix2 r k)
    + x (ix2 ⟨8 * r.val + k.val / 128, by omega⟩ ⟨k.val % 128, by omega⟩)

theorem centre_apply (x : Mat 4096 128) (h : Mat 512 1024) (r : Fin 512) (l : Fin 1024) :
    k0_pay5 (F := Ideal) (chunk x 0) (chunk x 1) (chunk x 2) (chunk x 3) (chunk x 4) (chunk x 5) (chunk x 6) (chunk x 7) h (ix2 r l)
      = centred (line x h r) l := by
  have e (k : Fin 1024) : addf (mulf (broadcast S512x1024 (Scalar.ofBits (F := Ideal) .f32 0x3FB504F3#32)) h)
      (concatenate S512x1024 1 [⟨S512x128, chunk x 0⟩, ⟨S512x128, chunk x 1⟩, ⟨S512x128, chunk x 2⟩, ⟨S512x128, chunk x 3⟩,
        ⟨S512x128, chunk x 4⟩, ⟨S512x128, chunk x 5⟩, ⟨S512x128, chunk x 6⟩, ⟨S512x128, chunk x 7⟩]
        concatenates_S512x128_S512x128_S512x128_S512x128_S512x128_S512x128_S512x128_S512x128_S512x1024_d1) (ix2 r k) = line x h r k :=
    congrArg (FloatOps.ofBits (F := Ideal) .f32 0x3FB504F3#32 * h (ix2 r k) + ·) (side_apply x _ r k)
  unfold k0_pay5
  rw [shapeCast_self, shapeCast_self, shapeCast_self, shapeCast_self, shapeCast_self, shapeCast_self, shapeCast_self,
    shapeCast_self, shapeCast_self]
  exact congrArg₂ (· - ·) (e l) ((col_apply (by decide) _ _ r l).trans ((mean_apply _ _ _ _ _ r).trans (congrArg mean (funext e))))

theorem norm_apply (g b : Mat 1 1024) (y z : Mat 512 1024) (f : Fin 512 → Fin 1024 → EReal)
    (hy : ∀ r l, y (ix2 r l) = centred (f r) l) (hz : ∀ r l, z (ix2 r l) = centred (f r) l * centred (f r) l) (r : Fin 512) (l : Fin 1024) :
    k0_pay1 (F := Ideal) g b y z (ix2 r l) = normed (f r) (g (ix2 0 l)) (b (ix2 0 l)) l := by
  unfold k0_pay1
  rw [addf_apply, mulf_apply, mulf_apply, line_apply, line_apply, col_apply (by decide), hy]
  unfold normed
  have e := (mean_apply z reduces_S512x1024_S512 (.inl rfl) rfl shapeCasts_S512_S512x1 r).trans (congrArg mean (funext (hz r)))
  rw [← e]
  rfl

/-- A load of every eighth row. -/
theorem read_chunk (a : Memref sig .tc .vmem S4096x128 .f32) (ha : a.IsWhole) (x : Vec Ideal S4096x128 .f32) (n : ℕ) (hn : n < 8) (inb) :
    a.view.readAt (Elt Ideal) (⟨![n, 0], S512x128.size, ![8, 1], inb⟩ : LoadRect S4096x128) (ha.unread x) = chunk x ⟨n, hn⟩ := by
  funext j
  rw [View.readAt_apply, ha.read_unread]
  refine congrArg x (Shape.idx_ext₂ ?_ ?_)
  · show n + 8 * (j 0).val = 8 * (j 0).val + n
    omega
  · show 0 + 1 * (j 1).val = (j 1).val
    omega

/-- A load of a whole block. -/
theorem read_all {M N : ℕ} (a : Memref sig .tc .vmem ⟨2, ![M, N]⟩ .f32) (ha : a.IsWhole) (x : Vec Ideal ⟨2, ![M, N]⟩ .f32) (inb) :
    a.view.readAt (Elt Ideal) (Rect.unit (s := ⟨2, ![M, N]⟩) ![0, 0] ![M, N] inb).toLoadRect (ha.unread x) = x := by
  funext j
  rw [View.readAt_apply, ha.read_unread]
  refine congrArg x (Shape.idx_ext₂ ?_ ?_)
  · show 0 + 1 * (j 0).val = (j 0).val
    omega
  · show 0 + 1 * (j 1).val = (j 1).val
    omega

variable (c : Dev nD) (i : grid0.Coords) (a1 : Memref sig .tc .vmem S4096x128 .f32) (h1 : a1.IsWhole)
  (a2 : Memref sig .tc .vmem S512x1024 .f32) (h2 : a2.IsWhole) (a3 : Memref sig .tc .vmem S1x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S512x1024 .bf16) (h6 : a6.IsWhole) (x : Vec Ideal S4096x128 .f32) (h : Vec Ideal S512x1024 .f32)
  (g b : Vec Ideal S1x1024 .f32)

theorem kept_g : kernelRun0_A.sl.r (F := Ideal) c a3 h3 g = g := by
  unfold kernelRun0_A.sl.r k0_pay3
  rw [shapeCast_self]
  exact read_all a3 h3 g _

theorem kept_b : kernelRun0_A.sl.r_1 (F := Ideal) c a4 h4 b = b := by
  unfold kernelRun0_A.sl.r_1 k0_pay4
  rw [shapeCast_self]
  exact read_all a4 h4 b _

theorem kept_y (r : Fin 512) (l : Fin 1024) :
    kernelRun0_A.sl.r_2 (F := Ideal) c a1 h1 a2 h2 x h (ix2 r l) = centred (line x h r) l := by
  unfold kernelRun0_A.sl.r_2
  rw [read_chunk a1 h1 x 0 (by decide), read_chunk a1 h1 x 1 (by decide), read_chunk a1 h1 x 2 (by decide),
    read_chunk a1 h1 x 3 (by decide), read_chunk a1 h1 x 4 (by decide), read_chunk a1 h1 x 5 (by decide),
    read_chunk a1 h1 x 6 (by decide), read_chunk a1 h1 x 7 (by decide)]
  refine Eq.trans ?_ (centre_apply x h r l)
  exact congrFun (congrArg (k0_pay5 _ _ _ _ _ _ _ _) (read_all a2 h2 h _)) _

theorem kept_z (r : Fin 512) (l : Fin 1024) :
    kernelRun0_A.sl.r_3 (F := Ideal) c a1 h1 a2 h2 x h (ix2 r l) = centred (line x h r) l * centred (line x h r) l :=
  congrArg₂ (· * ·) (kept_y c a1 h1 a2 h2 x h r l) (kept_y c a1 h1 a2 h2 x h r l)

/-- What a point leaves of the two results. -/
theorem out_f (r : Fin 512) (l : Fin 1024) :
    out0_A_4 c i a1 h1 a2 h2 a3 h3 a4 h4 a5 h5 a6 h6 x h g b (ix2 r l) = normed (line x h r) (g (ix2 0 l)) (b (ix2 0 l)) l := by
  unfold out0_A_4 kernelRun0_A
  dsimp only
  refine (View.read_writes_cons_unit_of_mem (size := ![512, 1024]) VO0_4 _ inb_S512x1024_S512x1024_0_0 _ [] (ix2 r l) (ix2 r l)
    zero_off (fun a => (Nat.zero_add _).symm)).trans ?_
  rw [kept_g, kept_b]
  exact norm_apply g b _ _ (line x h) (kept_y c a1 h1 a2 h2 x h) (kept_z c a1 h1 a2 h2 x h) r l

theorem out_b (r : Fin 512) (l : Fin 1024) :
    out0_A_5 c i a1 h1 a2 h2 a3 h3 a4 h4 a5 h5 a6 h6 x h g b (ix2 r l) = normed (line x h r) (g (ix2 0 l)) (b (ix2 0 l)) l := by
  unfold out0_A_5 kernelRun0_A
  dsimp only
  refine (View.read_writes_cons_unit_of_mem (size := ![512, 1024]) VO0_5 _ inb_S512x1024_S512x1024_0_0 _ [] (ix2 r l) (ix2 r l)
    zero_off (fun a => (Nat.zero_add _).symm)).trans ?_
  rw [kept_g, kept_b]
  exact norm_apply g b _ _ (line x h) (kept_y c a1 h1 a2 h2 x h) (kept_z c a1 h1 a2 h2 x h) r l

/-! ## The whole arrays -/

variable (m : (ℓ : Loc nD τ sig) → Buf (Elt Ideal) ℓ) (ρ : Dev nD → PrngReg)

/-- What the call is given: the first argument in rows of 128 lanes, the second in rows of 1024, and one row of each of the
    other two. -/
theorem V_x : V m c main_v0 = shapeCast S262144x128 (m ((c : Thread nD τ).loc main_arg0)) shapeCasts_S8x4096x1024_S262144x128 := by
  show StableHlo.after hostOps0 (fun b => m (c, b)) (Proc.devRef .tc main_v0) = _
  simp only [hostOps0]
  after_results_simp <;> rfl
theorem V_h : V m c main_v1 = shapeCast S32768x1024 (m ((c : Thread nD τ).loc main_arg1)) shapeCasts_S8x4096x1024_S32768x1024 := by
  show StableHlo.after hostOps0 (fun b => m (c, b)) (Proc.devRef .tc main_v1) = _
  simp only [hostOps0]
  after_results_simp <;> rfl
def pick (x : (⟨3, ![2, 2, 1024]⟩ : Shape).Idx → EReal) : (⟨1, ![1024]⟩ : Shape).Idx → EReal :=
  shapeCast S1024 (extractStridedSlice S1x1x1024 ![1, 1, 0] x slices_S2x2x1024_S1x1x1024_1_1_0) shapeCasts_S1x1x1024_S1024
theorem V_g : V m c main_v4 = shapeCast S1x1024 (pick (m ((c : Thread nD τ).loc main_arg2))) shapeCasts_S1024_S1x1024 := by
  show StableHlo.after hostOps0 (fun b => m (c, b)) (Proc.devRef .tc main_v4) = _
  simp only [hostOps0]
  after_results_simp <;> rfl
theorem V_b : V m c main_v7 = shapeCast S1x1024 (pick (m ((c : Thread nD τ).loc main_arg3))) shapeCasts_S1024_S1x1024 := by
  show StableHlo.after hostOps0 (fun b => m (c, b)) (Proc.devRef .tc main_v7) = _
  simp only [hostOps0]
  after_results_simp <;> rfl

theorem flat128_apply (x : (⟨3, ![8, 4096, 1024]⟩ : Shape).Idx → EReal)
    (h : Shape.ShapeCasts ⟨3, ![8, 4096, 1024]⟩ ⟨2, ![262144, 128]⟩) (r : Fin 32768) (l : Fin 1024) (p : Fin 262144) (q : Fin 128)
    (hp : p.val = 8 * r.val + l.val / 128) (hq : q.val = l.val % 128) :
    shapeCast (⟨2, ![262144, 128]⟩ : Shape) x h (ix2 p q) = x (ix3 (batch r) (posn r) l) :=
  shapeCast_apply x h _ _ (by
    simp only [Shape.rowMajor_val_three, Shape.rowMajor_val_two]
    show (r.val / 4096 * 4096 + r.val % 4096) * 1024 + l.val = p.val * 128 + q.val
    omega)

/-- Where each window is at a point. -/
theorem index_x : ∀ t : Fin cfg0.N, (cfg0.win 0).index t 0 = t.val ∧ (cfg0.win 0).index t 1 = 0 :=
  (by decide +kernel : ∀ t : Fin grid0.N, win0_0.index t 0 = t.val ∧ win0_0.index t 1 = 0)
theorem index_h : ∀ t : Fin cfg0.N, (cfg0.win 1).index t 0 = t.val ∧ (cfg0.win 1).index t 1 = 0 :=
  (by decide +kernel : ∀ t : Fin grid0.N, win0_1.index t 0 = t.val ∧ win0_1.index t 1 = 0)
theorem index_g : ∀ t : Fin cfg0.N, (cfg0.win 2).index t 0 = 0 ∧ (cfg0.win 2).index t 1 = 0 :=
  (by decide +kernel : ∀ t : Fin grid0.N, win0_2.index t 0 = 0 ∧ win0_2.index t 1 = 0)
theorem index_b : ∀ t : Fin cfg0.N, (cfg0.win 3).index t 0 = 0 ∧ (cfg0.win 3).index t 1 = 0 :=
  (by decide +kernel : ∀ t : Fin grid0.N, win0_3.index t 0 = 0 ∧ win0_3.index t 1 = 0)
theorem index_o : ∀ t : Fin cfg0.N, (cfg0.win 4).index t 0 = t.val ∧ (cfg0.win 4).index t 1 = 0 :=
  (by decide +kernel : ∀ t : Fin grid0.N, win0_4.index t 0 = t.val ∧ win0_4.index t 1 = 0)
theorem index_o' : ∀ t : Fin cfg0.N, (cfg0.win 5).index t 0 = t.val ∧ (cfg0.win 5).index t 1 = 0 :=
  (by decide +kernel : ∀ t : Fin grid0.N, win0_5.index t 0 = t.val ∧ win0_5.index t 1 = 0)

/-- The index of each array that an index of its block is. -/
theorem emb_x (t : Fin cfg0.N) (p : Fin 4096) (q : Fin 128) :
    ((cfg0.win 0).rect t).emb (ix2 p q) = ix2 (⟨4096 * t.val + p.val, by have : t.val < 64 := t.isLt; omega⟩ : Fin 262144) q := by
  refine Shape.idx_ext₂ ((Window.rect_emb_val (cfg0.win 0) t _ 0 rfl).trans ?_) ((Window.rect_emb_val (cfg0.win 0) t _ 1 rfl).trans ?_)
  · rw [(index_x t).1]
    show t.val * 4096 + p.val = 4096 * t.val + p.val
    omega
  · rw [(index_x t).2]
    show 0 * 128 + q.val = q.val
    omega
theorem emb_h (t : Fin cfg0.N) (r : Fin 512) (l : Fin 1024) : ((cfg0.win 1).rect t).emb (ix2 r l) = ix2 (row t r) l :=
  emb_row (K := 512) (B := 64) rfl ((cfg0.win 1).rect t).emb t (index_h t).1 (index_h t).2 (fun x => Window.rect_emb_val (cfg0.win 1) t x 0 rfl)
    (fun x => Window.rect_emb_val (cfg0.win 1) t x 1 rfl) r l
theorem emb_g (t : Fin cfg0.N) (r : Fin 1) (l : Fin 1024) : ((cfg0.win 2).rect t).emb (ix2 r l) = ix2 r l :=
  emb_whole ((cfg0.win 2).rect t).emb (index_g t).1 (index_g t).2 (fun x => Window.rect_emb_val (cfg0.win 2) t x 0 rfl)
    (fun x => Window.rect_emb_val (cfg0.win 2) t x 1 rfl) r l
theorem emb_b (t : Fin cfg0.N) (r : Fin 1) (l : Fin 1024) : ((cfg0.win 3).rect t).emb (ix2 r l) = ix2 r l :=
  emb_whole ((cfg0.win 3).rect t).emb (index_b t).1 (index_b t).2 (fun x => Window.rect_emb_val (cfg0.win 3) t x 0 rfl)
    (fun x => Window.rect_emb_val (cfg0.win 3) t x 1 rfl) r l
theorem emb_o (t : Fin cfg0.N) (r : Fin 512) (l : Fin 1024) : ((cfg0.win 4).rect t).emb (ix2 r l) = ix2 (row t r) l :=
  emb_row (K := 512) (B := 64) rfl ((cfg0.win 4).rect t).emb t (index_o t).1 (index_o t).2 (fun x => Window.rect_emb_val (cfg0.win 4) t x 0 rfl)
    (fun x => Window.rect_emb_val (cfg0.win 4) t x 1 rfl) r l
theorem emb_o' (t : Fin cfg0.N) (r : Fin 512) (l : Fin 1024) : ((cfg0.win 5).rect t).emb (ix2 r l) = ix2 (row t r) l :=
  emb_row (K := 512) (B := 64) rfl ((cfg0.win 5).rect t).emb t (index_o' t).1 (index_o' t).2 (fun x => Window.rect_emb_val (cfg0.win 5) t x 0 rfl)
    (fun x => Window.rect_emb_val (cfg0.win 5) t x 1 rfl) r l

/-- A row of the whole arrays that is normed. -/
def whole (x h : (⟨3, ![8, 4096, 1024]⟩ : Shape).Idx → EReal) (r : Fin 32768) (k : Fin 1024) : EReal :=
  FloatOps.ofBits (F := Ideal) .f32 0x3FB504F3#32 * h (ix3 (batch r) (posn r) k) + x (ix3 (batch r) (posn r) k)

/-- What the call computes. -/
def goal : Mat 32768 1024 := fun j =>
  normed (whole (m ((c : Thread nD τ).loc main_arg0)) (m ((c : Thread nD τ).loc main_arg1)) (j 0))
    (pick (m ((c : Thread nD τ).loc main_arg2)) (ix1 (j 1))) (pick (m ((c : Thread nD τ).loc main_arg3)) (ix1 (j 1))) (j 1)

/-- The rows that a point norms are the whole arrays' rows. -/
theorem line_eq (t : Fin cfg0.N) (r : Fin 512) :
    line (iblk m c 0 t) (iblk m c 1 t) r
      = whole (m ((c : Thread nD τ).loc main_arg0)) (m ((c : Thread nD τ).loc main_arg1)) (row t r) := by
  funext k
  have e₁ : iblk m c 1 t (ix2 r k) = m ((c : Thread nD τ).loc main_arg1) (ix3 (batch (row t r)) (posn (row t r)) k) :=
    (congrArg (V m c main_v1) (emb_h t r k)).trans ((congrFun (V_h c m) _).trans (flat_apply _ _ (row t r) k))
  have e₀ : iblk m c 0 t (ix2 (⟨8 * r.val + k.val / 128, by omega⟩ : Fin 4096) (⟨k.val % 128, by omega⟩ : Fin 128))
      = m ((c : Thread nD τ).loc main_arg0) (ix3 (batch (row t r)) (posn (row t r)) k) :=
    (congrArg (V m c main_v0) (emb_x t _ _)).trans ((congrFun (V_x c m) _).trans (flat128_apply _ _ (row t r) k _ _ (by
      show 4096 * t.val + (8 * r.val + k.val / 128) = 8 * (512 * t.val + r.val) + k.val / 128
      omega) rfl))
  unfold line whole
  rw [e₀, e₁]

theorem gain_eq (t : Fin cfg0.N) (l : Fin 1024) : iblk m c 2 t (ix2 (0 : Fin 1) l) = pick (m ((c : Thread nD τ).loc main_arg2)) (ix1 l) :=
  (congrArg (V m c main_v4) (emb_g t 0 l)).trans ((congrFun (V_g c m) _).trans (one_apply _ _ l))
theorem bias_eq (t : Fin cfg0.N) (l : Fin 1024) : iblk m c 3 t (ix2 (0 : Fin 1) l) = pick (m ((c : Thread nD τ).loc main_arg3)) (ix1 l) :=
  (congrArg (V m c main_v7) (emb_b t 0 l)).trans ((congrFun (V_b c m) _).trans (one_apply _ _ l))

/-- What a point writes back of a block is the array's part there. -/
theorem cut_f (t : Fin cfg0.N) (X : Vec Ideal S512x1024 .f32) (G : FVec Ideal S32768x1024 .f32)
    (h : ∀ r l, X (ix2 r l) = G (ix2 (row t r) l)) :
    (cfg0.win 4).cut (grid0.coords t) X = ((cfg0.win 4).blk t).view.read (Elt Ideal) G :=
  funext (rows_eq (K := 512) (B := 64) rfl ((cfg0.win 4).rect t).emb t (emb_o t) X G h)
theorem cut_b (t : Fin cfg0.N) (X : Vec Ideal S512x1024 .bf16) (G : FVec Ideal S32768x1024 .bf16)
    (h : ∀ r l, X (ix2 r l) = G (ix2 (row t r) l)) :
    (cfg0.win 5).cut (grid0.coords t) X = ((cfg0.win 5).blk t).view.read (Elt Ideal) G :=
  funext (rows_eq (K := 512) (B := 64) rfl ((cfg0.win 5).rect t).emb t (emb_o' t) X G h)

/-- Every index is in some point's block. -/
theorem cover_f (j : S32768x1024.Idx) : ∃ t : Fin cfg0.N, (cfg0.win 4).flush t = true ∧ j ∈ ((cfg0.win 4).blk t).view.set := by
  obtain ⟨t, r, l, e⟩ := exists_row (K := 512) (B := 64) rfl j
  exact ⟨t, flush0_4 t, (e.trans (emb_o t r l).symm) ▸ ((cfg0.win 4).blk t).view.emb_mem_set (ix2 r l)⟩
theorem cover_b (j : S32768x1024.Idx) : ∃ t : Fin cfg0.N, (cfg0.win 5).flush t = true ∧ j ∈ ((cfg0.win 5).blk t).view.set := by
  obtain ⟨t, r, l, e⟩ := exists_row (K := 512) (B := 64) rfl j
  exact ⟨t, flush0_5 t, (e.trans (emb_o' t r l).symm) ▸ ((cfg0.win 5).blk t).view.emb_mem_set (ix2 r l)⟩

/-- A block's norm, read as the whole array's. -/
theorem goal_eq (t : Fin cfg0.N) (r : Fin 512) (l : Fin 1024) :
    normed (line (iblk m c 0 t) (iblk m c 1 t) r) (iblk m c 2 t (ix2 (0 : Fin 1) l)) (iblk m c 3 t (ix2 (0 : Fin 1) l)) l
      = goal c m (ix2 (row t r) l) := by
  rw [line_eq, gain_eq, bias_eq]
  rfl

/-- So both result arrays end at the norm. -/
theorem final_f : (dats m 0 c).arrAt 4 cfg0.N = goal c m :=
  (dats m 0 c).arrAt_eq_of_cover 4 (goal c m) (fun t _ => (flushed4_A m c t).trans (cut_f t _ _ (fun r l =>
    (out_f c _ _ _ _ _ _ _ _ _ _ _ _ _ _ _ _ _ r l).trans (goal_eq c m t r l)))) cover_f
theorem final_b : (dats m 0 c).arrAt 5 cfg0.N = goal c m :=
  (dats m 0 c).arrAt_eq_of_cover 5 (goal c m) (fun t _ => (flushed5_A m c t).trans (cut_b t _ _ (fun r l =>
    (out_b c _ _ _ _ _ _ _ _ _ _ _ _ _ _ _ _ _ r l).trans (goal_eq c m t r l)))) cover_b

end Cert.NormIdeal.Value

/-! ## The claims -/

namespace Cert.Proof.Norm

open Idealize.ShloMosaic hiding ix1 ix2 ix3 ix4
open Idealize.ShloMosaic.TcCoe Idealize.ShloMosaic.ValueIdx Idealize.SL.Sem
open Cert.Product Cert.LayerNorm Cert.NormIdeal.Value

theorem frame_p : Cert.quiescent_Norm := fun m ρ _ => Cert.Norm.Gen.frame m ρ
theorem frame_pi : Cert.quiescent_NormIdeal := fun m ρ _ => Cert.NormIdeal.Gen.frame m ρ
theorem frame_ri : Cert.quiescent_ReferenceNormIdeal := fun m ρ _ =>
  (θ_run Cert.ReferenceNormIdeal.defs _ _).mono (fun r h => ⟨fun c => (h c).2.2, sem_eq_zero_of_no_sems (by decide) r.2⟩)
    (Cert.ReferenceNormIdeal.Value.run (F := Ideal) m ρ)

/-- The call and its reference end with the same two arrays. -/
theorem algebraic : Cert.algebraic_NormIdeal_ReferenceNormIdeal := by
  intro m ρ m' ρ' _ hagree
  refine ⟨fun c => goal c m, fun c => goal c m, (θ_run Cert.NormIdeal.defs _ _).mono
    (fun _ h c => ⟨(h c).1.trans (final_f c m), (h c).2.1.trans (final_b c m), (h c).2.2⟩)
    (Cert.NormIdeal.Value.run_blocks (F := Ideal) m ρ), ?_⟩
  refine (θ_run Cert.ReferenceNormIdeal.defs _ _).mono (fun _ h c => ⟨(h c).1.trans ?_, (h c).2.1.trans ?_, (h c).2.2⟩)
    (Cert.ReferenceNormIdeal.Value.run (F := Ideal) m' ρ')
  all_goals
    rw [(hagree c).1, (hagree c).2.1, (hagree c).2.2.1, (hagree c).2.2.2]
    refine flat_eq _ _ _ fun r l => (norm3_apply _ _ _ _ _ _ _ _ _ _ _ _ l).trans ?_
    rfl

end Cert.Proof.Norm
-- ==== Proof.Bits.Mix.Body.lean ====
module

public import proofs.«01_k».proof.Proof.Gen.Mix.Frame
public import proofs.«01_k».proof.Proof.Gen.Mix.Skeleton
public import Idealize.ShloMosaic.Lib.Claim
public import Idealize.ShloMosaic.Lib.Pipeline.Value

@[expose] public section

set_option maxRecDepth 16384

noncomputable section

namespace Cert.Mix.Block

open Cert.Mix.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-! # The output projection with its layer norm at one grid point, as a triple -/

/-- Four strided stores, the last first: each of every fourth row of the packed words. -/
def strips (x₀ x₁ x₂ x₃ : Vec F S256x128 .i32) : List (View.Piece (Elt F) S1024x128 .i32) :=
  [⟨⟨(⟨![3, 0], S256x128.size, ![4, 1], inb_S1024x128_S256x128_3_0_s_4_1⟩ : LoadRect S1024x128), spos_4_1⟩, x₃⟩,
    ⟨⟨(⟨![2, 0], S256x128.size, ![4, 1], inb_S1024x128_S256x128_2_0_s_4_1⟩ : LoadRect S1024x128), spos_4_1⟩, x₂⟩,
    ⟨⟨(⟨![1, 0], S256x128.size, ![4, 1], inb_S1024x128_S256x128_1_0_s_4_1⟩ : LoadRect S1024x128), spos_4_1⟩, x₁⟩,
    ⟨⟨(⟨![0, 0], S256x128.size, ![4, 1], inb_S1024x128_S256x128_0_0_s_4_1⟩ : LoadRect S1024x128), spos_4_1⟩, x₀⟩]

/-- They cover it. -/
theorem strips_cover (x₀ x₁ x₂ x₃ : Vec F S256x128 .i32) (y : S1024x128.Idx) : ∃ p ∈ strips x₀ x₁ x₂ x₃, y ∈ p.1.set := by
  have h0 : (y 0).val < 1024 := (y 0).isLt
  have h1 : (y 1).val < 128 := (y 1).isLt
  have hk : (y 0).val % 4 = 3 ∨ (y 0).val % 4 = 2 ∨ (y 0).val % 4 = 1 ∨ (y 0).val % 4 = 0 := by omega
  unfold strips
  rcases hk with hk | hk | hk | hk
  on_goal 1 => refine ⟨_, .head _, ?_⟩
  on_goal 2 => refine ⟨_, .tail _ (.head _), ?_⟩
  on_goal 3 => refine ⟨_, .tail _ (.tail _ (.head _)), ?_⟩
  on_goal 4 => refine ⟨_, .tail _ (.tail _ (.tail _ (.head _))), ?_⟩
  all_goals
    refine (LoadRect.mem_set _).mpr fun a => ?_
    fin_cases a
    · exact ⟨(y 0).val / 4, show (y 0).val / 4 < 256 by omega, by show (y 0).val = _ + 4 * ((y 0).val / 4); simp; omega⟩
    · exact ⟨(y 1).val, h1, by show (y 1).val = 0 + 1 * (y 1).val; omega⟩

/-- The block of normed rows, -/
def outBlk (a₁ : Vec F S256x768 .f32) (a₂ : Vec F S256x256 .f32) (h : Vec F S256x1024 .f32) (w₁ : Vec F S768x1024 .bf16)
    (w₂ : Vec F S256x1024 .bf16) (g b : Vec F S1x1024 .f32) : Vec F S256x1024 .f32 :=
  k0_pay7 (k0_pay3 g) (k0_pay4 b) (k0_pay5 a₁ w₁ a₂ w₂ h) (k0_pay6 a₁ w₁ a₂ w₂ h)

/-- its copy in bf16, -/
def outBlk16 (a₁ : Vec F S256x768 .f32) (a₂ : Vec F S256x256 .f32) (h : Vec F S256x1024 .f32) (w₁ : Vec F S768x1024 .bf16)
    (w₂ : Vec F S256x1024 .bf16) (g b : Vec F S1x1024 .f32) : Vec F S256x1024 .bf16 :=
  k0_pay8 (k0_pay3 g) (k0_pay4 b) (k0_pay5 a₁ w₁ a₂ w₂ h) (k0_pay6 a₁ w₁ a₂ w₂ h)

/-- and the words with its copy packed in pairs: four strided stores, each of every fourth row. -/
def packedBlk (a₁ : Vec F S256x768 .f32) (a₂ : Vec F S256x256 .f32) (h : Vec F S256x1024 .f32) (w₁ : Vec F S768x1024 .bf16)
    (w₂ : Vec F S256x1024 .bf16) (g b : Vec F S1x1024 .f32) : Vec F S1024x128 .i32 :=
  View.canon (Val := Elt F) (strips (k0_pay9 (k0_pay3 g) (k0_pay4 b) (k0_pay5 a₁ w₁ a₂ w₂ h) (k0_pay6 a₁ w₁ a₂ w₂ h))
    (k0_pay10 (k0_pay3 g) (k0_pay4 b) (k0_pay5 a₁ w₁ a₂ w₂ h) (k0_pay6 a₁ w₁ a₂ w₂ h))
    (k0_pay1 (k0_pay11 (k0_pay3 g) (k0_pay4 b) (k0_pay5 a₁ w₁ a₂ w₂ h) (k0_pay6 a₁ w₁ a₂ w₂ h)) (k0_pay12 (k0_pay3 g) (k0_pay4 b) (k0_pay5 a₁ w₁ a₂ w₂ h) (k0_pay6 a₁ w₁ a₂ w₂ h)))
    (k0_pay2 (outBlk a₁ a₂ h w₁ w₂ g b)))

theorem off00 : (![0, 0] : Fin 2 → ℕ) = fun _ => 0 := by decide

/-- What one store over the whole of a buffer leaves. -/
theorem read_whole {sp : Space} {S : Shape} {e : EltTy} (v : View sig .tc sp S e) (f : v.ty.Contents (Elt F)) {off : Fin S.rank → ℕ}
    (hoff : off = fun _ => 0) (inb : ∀ a, off a + S.size a ≤ S.size a) (w : Vec F S e) :
    v.read (Elt F) (v.writes (Elt F) f [⟨Rect.unit off S.size inb, w⟩]) = w := by
  subst hoff
  rw [View.read_writes_eq_canon _ _ _ (fun y => ⟨_, List.mem_cons_self, by
    show y ∈ (Rect.whole S).set; rw [Rect.set_whole]; exact Finset.mem_univ y⟩)]
  exact View.canon_unit_zero rfl inb w

set_option maxHeartbeats 1600000 in
theorem sound_kernel (c : Dev nD) (i : grid0.Coords) (arg1 : Memref sig .tc .vmem S256x768 .f32) (harg1 : arg1.IsWhole) (arg2 : Memref sig .tc .vmem S256x256 .f32) (harg2 : arg2.IsWhole) (arg3 : Memref sig .tc .vmem S256x1024 .f32) (harg3 : arg3.IsWhole) (arg4 : Memref sig .tc .vmem S768x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S1024x128 .i32) (harg10 : arg10.IsWhole)
    (a₁ : Vec F S256x768 .f32) (a₂ : Vec F S256x256 .f32) (h : Vec F S256x1024 .f32) (w₁ : Vec F S768x1024 .bf16)
    (w₂ : Vec F S256x1024 .bf16) (g b : Vec F S1x1024 .f32) (Q : PUnit → sProp 𝕄) :
    iprop(owns (c : Thread nD τ) arg1 fullShare a₁ ∗ owns (c : Thread nD τ) arg2 fullShare a₂ ∗ owns (c : Thread nD τ) arg3 fullShare h
        ∗ owns (c : Thread nD τ) arg4 fullShare w₁ ∗ owns (c : Thread nD τ) arg5 fullShare w₂ ∗ owns (c : Thread nD τ) arg6 fullShare g
        ∗ owns (c : Thread nD τ) arg7 fullShare b ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare a₁ ∗ owns (c : Thread nD τ) arg2 fullShare a₂ ∗ owns (c : Thread nD τ) arg3 fullShare h
        ∗ owns (c : Thread nD τ) arg4 fullShare w₁ ∗ owns (c : Thread nD τ) arg5 fullShare w₂ ∗ owns (c : Thread nD τ) arg6 fullShare g
        ∗ owns (c : Thread nD τ) arg7 fullShare b ∗ owns (c : Thread nD τ) arg8 fullShare (outBlk a₁ a₂ h w₁ w₂ g b)
        ∗ owns (c : Thread nD τ) arg9 fullShare (outBlk16 a₁ a₂ h w₁ w₂ g b) ∗ owns (c : Thread nD τ) arg10 fullShare (packedBlk a₁ a₂ h w₁ w₂ g b)) -∗ Q ⟨⟩))
      ⊢ wp frame (wpE (defs₀ (F := F)) Variants.none c none) Set.univ (cc0_proj_ln i arg1 harg1 arg2 harg2 arg3 harg3 arg4 harg4 arg5 harg5 arg6 harg6 arg7 harg7 arg8 harg8 arg9 harg9 arg10 harg10) Q := by
  simp only [cc0_proj_ln_eq_skeleton]
  unfold cc0_proj_ln_skel
  simp only [k0_part1_eq_skeleton, k0_part2_eq_skeleton]
  unfold k0_part1_skel k0_part2_skel owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, Hk⟩
  subst h1 h2 h3 h4 h5 h6 h7
  sl_exec
  sl_step
  sl_unfold_words
  have e1 : View.readAt (Elt F) arg1.view (Rect.unit (s := S256x768) ![0, 0] S256x768.size inb_S256x768_S256x768_0_0).toLoadRect f1 = arg1.view.read (Elt F) f1 :=
    View.ld_unit_zero off00 _ _
  have e2 : View.readAt (Elt F) arg2.view (Rect.unit (s := S256x256) ![0, 0] S256x256.size inb_S256x256_S256x256_0_0).toLoadRect f2 = arg2.view.read (Elt F) f2 :=
    View.ld_unit_zero off00 _ _
  have e3 : View.readAt (Elt F) arg3.view (Rect.unit (s := S256x1024) ![0, 0] S256x1024.size inb_S256x1024_S256x1024_0_0).toLoadRect f3 = arg3.view.read (Elt F) f3 :=
    View.ld_unit_zero off00 _ _
  have e4 : View.readAt (Elt F) arg4.view (Rect.unit (s := S768x1024) ![0, 0] S768x1024.size inb_S768x1024_S768x1024_0_0).toLoadRect f4 = arg4.view.read (Elt F) f4 :=
    View.ld_unit_zero off00 _ _
  have e5 : View.readAt (Elt F) arg5.view (Rect.unit (s := S256x1024) ![0, 0] S256x1024.size inb_S256x1024_S256x1024_0_0).toLoadRect f5 = arg5.view.read (Elt F) f5 :=
    View.ld_unit_zero off00 _ _
  have e6 : View.readAt (Elt F) arg6.view (Rect.unit (s := S1x1024) ![0, 0] S1x1024.size inb_S1x1024_S1x1024_0_0).toLoadRect f6 = arg6.view.read (Elt F) f6 :=
    View.ld_unit_zero off00 _ _
  have e7 : View.readAt (Elt F) arg7.view (Rect.unit (s := S1x1024) ![0, 0] S1x1024.size inb_S1x1024_S1x1024_0_0).toLoadRect f7 = arg7.view.read (Elt F) f7 :=
    View.ld_unit_zero off00 _ _
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    refine (read_whole _ _ off00 _ _).trans ?_
    rw [e1, e2, e3, e4, e5, e6, e7]
    rfl
  isplitl [H9]
  · iexists _; isplitr
    swap; · iexact H9
    ipureintro
    refine (read_whole _ _ off00 _ _).trans ?_
    rw [e1, e2, e3, e4, e5, e6, e7]
    rfl
  iexists _; isplitr
  swap; · iexact H10
  ipureintro
  refine (View.read_writes_eq_canon _ _ (strips _ _ _ _) (strips_cover _ _ _ _)).trans ?_
  rw [e1, e2, e3, e4, e5, e6, e7]
  rfl

end Cert.Mix.Block
-- ==== Proof.Mix.Body.lean ====
module

public import proofs.«01_k».proof.Proof.Gen.MixIdeal.Frame
public import proofs.«01_k».proof.Proof.Gen.MixIdeal.Skeleton
public import Idealize.ShloMosaic.Lib.Claim
public import Idealize.ShloMosaic.Lib.Pipeline.Value

@[expose] public section

set_option maxRecDepth 16384

noncomputable section

namespace Cert.MixIdeal.Block

open Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The output projection with its layer norm at one grid point, as a triple -/

/-- Four strided stores, the last first: each of every fourth row of the packed words. -/
def strips (x₀ x₁ x₂ x₃ : Vec F S256x2x128 .bf16) : List (View.Piece (Elt F) S1024x2x128 .bf16) :=
  [⟨⟨(⟨![3, 0, 0], S256x2x128.size, ![4, 1, 1], inb_S1024x2x128_S256x2x128_3_0_0_s_4_1_1⟩ : LoadRect S1024x2x128), spos_4_1_1⟩, x₃⟩,
    ⟨⟨(⟨![2, 0, 0], S256x2x128.size, ![4, 1, 1], inb_S1024x2x128_S256x2x128_2_0_0_s_4_1_1⟩ : LoadRect S1024x2x128), spos_4_1_1⟩, x₂⟩,
    ⟨⟨(⟨![1, 0, 0], S256x2x128.size, ![4, 1, 1], inb_S1024x2x128_S256x2x128_1_0_0_s_4_1_1⟩ : LoadRect S1024x2x128), spos_4_1_1⟩, x₁⟩,
    ⟨⟨(⟨![0, 0, 0], S256x2x128.size, ![4, 1, 1], inb_S1024x2x128_S256x2x128_0_0_0_s_4_1_1⟩ : LoadRect S1024x2x128), spos_4_1_1⟩, x₀⟩]

/-- They cover it. -/
theorem strips_cover (x₀ x₁ x₂ x₃ : Vec F S256x2x128 .bf16) (y : S1024x2x128.Idx) : ∃ p ∈ strips x₀ x₁ x₂ x₃, y ∈ p.1.set := by
  have h0 : (y 0).val < 1024 := (y 0).isLt
  have h1 : (y 1).val < 2 := (y 1).isLt
  have h2 : (y 2).val < 128 := (y 2).isLt
  have hk : (y 0).val % 4 = 3 ∨ (y 0).val % 4 = 2 ∨ (y 0).val % 4 = 1 ∨ (y 0).val % 4 = 0 := by omega
  unfold strips
  rcases hk with hk | hk | hk | hk
  on_goal 1 => refine ⟨_, .head _, ?_⟩
  on_goal 2 => refine ⟨_, .tail _ (.head _), ?_⟩
  on_goal 3 => refine ⟨_, .tail _ (.tail _ (.head _)), ?_⟩
  on_goal 4 => refine ⟨_, .tail _ (.tail _ (.tail _ (.head _))), ?_⟩
  all_goals
    refine (LoadRect.mem_set _).mpr fun a => ?_
    fin_cases a
    · exact ⟨(y 0).val / 4, show (y 0).val / 4 < 256 by omega, by show (y 0).val = _ + 4 * ((y 0).val / 4); simp; omega⟩
    · exact ⟨(y 1).val, h1, by show (y 1).val = 0 + 1 * (y 1).val; omega⟩
    · exact ⟨(y 2).val, h2, by show (y 2).val = 0 + 1 * (y 2).val; omega⟩

/-- The block of normed rows, -/
def outBlk (a₁ : Vec F S256x768 .f32) (a₂ : Vec F S256x256 .f32) (h : Vec F S256x1024 .f32) (w₁ : Vec F S768x1024 .bf16)
    (w₂ : Vec F S256x1024 .bf16) (g b : Vec F S1x1024 .f32) : Vec F S256x1024 .f32 :=
  k0_pay6 (k0_pay2 g) (k0_pay3 b) (k0_pay4 a₁ w₁ a₂ w₂ h) (k0_pay5 a₁ w₁ a₂ w₂ h)

/-- its copy in bf16, -/
def outBlk16 (a₁ : Vec F S256x768 .f32) (a₂ : Vec F S256x256 .f32) (h : Vec F S256x1024 .f32) (w₁ : Vec F S768x1024 .bf16)
    (w₂ : Vec F S256x1024 .bf16) (g b : Vec F S1x1024 .f32) : Vec F S256x1024 .bf16 :=
  k0_pay7 (k0_pay2 g) (k0_pay3 b) (k0_pay4 a₁ w₁ a₂ w₂ h) (k0_pay5 a₁ w₁ a₂ w₂ h)

/-- and its copy in bf16 packed, two pieces of 128 lanes to a row of words: four strided stores, each of every fourth row. -/
def packedBlk (a₁ : Vec F S256x768 .f32) (a₂ : Vec F S256x256 .f32) (h : Vec F S256x1024 .f32) (w₁ : Vec F S768x1024 .bf16)
    (w₂ : Vec F S256x1024 .bf16) (g b : Vec F S1x1024 .f32) : Vec F S1024x2x128 .bf16 :=
  View.canon (Val := Elt F) (strips (k0_pay8 (k0_pay2 g) (k0_pay3 b) (k0_pay4 a₁ w₁ a₂ w₂ h) (k0_pay5 a₁ w₁ a₂ w₂ h))
    (k0_pay9 (k0_pay2 g) (k0_pay3 b) (k0_pay4 a₁ w₁ a₂ w₂ h) (k0_pay5 a₁ w₁ a₂ w₂ h))
    (k0_pay10 (k0_pay2 g) (k0_pay3 b) (k0_pay4 a₁ w₁ a₂ w₂ h) (k0_pay5 a₁ w₁ a₂ w₂ h))
    (k0_pay1 (outBlk a₁ a₂ h w₁ w₂ g b) (k0_pay11 (k0_pay2 g) (k0_pay3 b) (k0_pay4 a₁ w₁ a₂ w₂ h) (k0_pay5 a₁ w₁ a₂ w₂ h))))

theorem off00 : (![0, 0] : Fin 2 → ℕ) = fun _ => 0 := by decide

/-- What one store over the whole of a buffer leaves. -/
theorem read_whole {sp : Space} {S : Shape} {e : EltTy} (v : View sig .tc sp S e) (f : v.ty.Contents (Elt F)) {off : Fin S.rank → ℕ}
    (hoff : off = fun _ => 0) (inb : ∀ a, off a + S.size a ≤ S.size a) (w : Vec F S e) :
    v.read (Elt F) (v.writes (Elt F) f [⟨Rect.unit off S.size inb, w⟩]) = w := by
  subst hoff
  rw [View.read_writes_eq_canon _ _ _ (fun y => ⟨_, List.mem_cons_self, by
    show y ∈ (Rect.whole S).set; rw [Rect.set_whole]; exact Finset.mem_univ y⟩)]
  exact View.canon_unit_zero rfl inb w

set_option maxHeartbeats 1600000 in
theorem sound_kernel (c : Dev nD) (i : grid0.Coords) (arg1 : Memref sig .tc .vmem S256x768 .f32) (harg1 : arg1.IsWhole) (arg2 : Memref sig .tc .vmem S256x256 .f32) (harg2 : arg2.IsWhole) (arg3 : Memref sig .tc .vmem S256x1024 .f32) (harg3 : arg3.IsWhole) (arg4 : Memref sig .tc .vmem S768x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S1024x2x128 .bf16) (harg10 : arg10.IsWhole)
    (a₁ : Vec F S256x768 .f32) (a₂ : Vec F S256x256 .f32) (h : Vec F S256x1024 .f32) (w₁ : Vec F S768x1024 .bf16)
    (w₂ : Vec F S256x1024 .bf16) (g b : Vec F S1x1024 .f32) (Q : PUnit → sProp 𝕄) :
    iprop(owns (c : Thread nD τ) arg1 fullShare a₁ ∗ owns (c : Thread nD τ) arg2 fullShare a₂ ∗ owns (c : Thread nD τ) arg3 fullShare h
        ∗ owns (c : Thread nD τ) arg4 fullShare w₁ ∗ owns (c : Thread nD τ) arg5 fullShare w₂ ∗ owns (c : Thread nD τ) arg6 fullShare g
        ∗ owns (c : Thread nD τ) arg7 fullShare b ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare a₁ ∗ owns (c : Thread nD τ) arg2 fullShare a₂ ∗ owns (c : Thread nD τ) arg3 fullShare h
        ∗ owns (c : Thread nD τ) arg4 fullShare w₁ ∗ owns (c : Thread nD τ) arg5 fullShare w₂ ∗ owns (c : Thread nD τ) arg6 fullShare g
        ∗ owns (c : Thread nD τ) arg7 fullShare b ∗ owns (c : Thread nD τ) arg8 fullShare (outBlk a₁ a₂ h w₁ w₂ g b)
        ∗ owns (c : Thread nD τ) arg9 fullShare (outBlk16 a₁ a₂ h w₁ w₂ g b) ∗ owns (c : Thread nD τ) arg10 fullShare (packedBlk a₁ a₂ h w₁ w₂ g b)) -∗ Q ⟨⟩))
      ⊢ wp frame (wpE (defs₀ (F := F)) Variants.none c none) Set.univ (cc0_proj_ln i arg1 harg1 arg2 harg2 arg3 harg3 arg4 harg4 arg5 harg5 arg6 harg6 arg7 harg7 arg8 harg8 arg9 harg9 arg10 harg10) Q := by
  simp only [cc0_proj_ln_eq_skeleton]
  unfold cc0_proj_ln_skel
  simp only [k0_part1_eq_skeleton, k0_part2_eq_skeleton]
  unfold k0_part1_skel k0_part2_skel owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, Hk⟩
  subst h1 h2 h3 h4 h5 h6 h7
  sl_exec
  sl_step
  sl_unfold_words
  have e1 : View.readAt (Elt F) arg1.view (Rect.unit (s := S256x768) ![0, 0] S256x768.size inb_S256x768_S256x768_0_0).toLoadRect f1 = arg1.view.read (Elt F) f1 :=
    View.ld_unit_zero off00 _ _
  have e2 : View.readAt (Elt F) arg2.view (Rect.unit (s := S256x256) ![0, 0] S256x256.size inb_S256x256_S256x256_0_0).toLoadRect f2 = arg2.view.read (Elt F) f2 :=
    View.ld_unit_zero off00 _ _
  have e3 : View.readAt (Elt F) arg3.view (Rect.unit (s := S256x1024) ![0, 0] S256x1024.size inb_S256x1024_S256x1024_0_0).toLoadRect f3 = arg3.view.read (Elt F) f3 :=
    View.ld_unit_zero off00 _ _
  have e4 : View.readAt (Elt F) arg4.view (Rect.unit (s := S768x1024) ![0, 0] S768x1024.size inb_S768x1024_S768x1024_0_0).toLoadRect f4 = arg4.view.read (Elt F) f4 :=
    View.ld_unit_zero off00 _ _
  have e5 : View.readAt (Elt F) arg5.view (Rect.unit (s := S256x1024) ![0, 0] S256x1024.size inb_S256x1024_S256x1024_0_0).toLoadRect f5 = arg5.view.read (Elt F) f5 :=
    View.ld_unit_zero off00 _ _
  have e6 : View.readAt (Elt F) arg6.view (Rect.unit (s := S1x1024) ![0, 0] S1x1024.size inb_S1x1024_S1x1024_0_0).toLoadRect f6 = arg6.view.read (Elt F) f6 :=
    View.ld_unit_zero off00 _ _
  have e7 : View.readAt (Elt F) arg7.view (Rect.unit (s := S1x1024) ![0, 0] S1x1024.size inb_S1x1024_S1x1024_0_0).toLoadRect f7 = arg7.view.read (Elt F) f7 :=
    View.ld_unit_zero off00 _ _
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    refine (read_whole _ _ off00 _ _).trans ?_
    rw [e1, e2, e3, e4, e5, e6, e7]
    rfl
  isplitl [H9]
  · iexists _; isplitr
    swap; · iexact H9
    ipureintro
    refine (read_whole _ _ off00 _ _).trans ?_
    rw [e1, e2, e3, e4, e5, e6, e7]
    rfl
  iexists _; isplitr
  swap; · iexact H10
  ipureintro
  refine (View.read_writes_eq_canon _ _ (strips _ _ _ _) (strips_cover _ _ _ _)).trans ?_
  rw [e1, e2, e3, e4, e5, e6, e7]
  rfl

end Cert.MixIdeal.Block
-- ==== Proof.Mix.Run.lean ====
module

public import proofs.«01_k».proof.Proof.Gen.MixIdeal.Frame
public import proofs.«01_k».proof.Proof.Mix.Body
public import Idealize.ShloMosaic.Lib.Claim

@[expose] public section

set_option maxRecDepth 16384

noncomputable section

namespace Cert.MixIdeal.Block

open Cert.MixIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The run: every grid point in order, and the arguments left alone -/

variable (m : (ℓ : Loc nD τ sig) → Buf (Elt F) ℓ) (ρ : Dev nD → PrngReg)

/-- The arrays as the region finds them; after the body at point `t` each input's buffer at its block and the three
    outputs' at the normed rows of the input blocks, their copy and their packed copy. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk (iblk m c 0 t) (iblk m c 1 t) (iblk m c 2 t) (iblk m c 3 t) (iblk m c 4 t) (iblk m c 5 t) (iblk m c 6 t)
    | ⟨8, _⟩ => outBlk16 (iblk m c 0 t) (iblk m c 1 t) (iblk m c 2 t) (iblk m c 3 t) (iblk m c 4 t) (iblk m c 5 t) (iblk m c 6 t)
    | ⟨9, _⟩ => packedBlk (iblk m c 0 t) (iblk m c 1 t) (iblk m c 2 t) (iblk m c 3 t) (iblk m c 4 t) (iblk m c 5 t) (iblk m c 6 t)
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

/-- What each window's buffer holds after a point, -/
theorem after0_0 (c : Dev nD) (t : Fin cfg0.N) : (dats m 0 c).after 0 t = iblk m c 0 t := by
  dsimp only [dats]
theorem after0_1 (c : Dev nD) (t : Fin cfg0.N) : (dats m 0 c).after 1 t = iblk m c 1 t := by
  dsimp only [dats]
theorem after0_2 (c : Dev nD) (t : Fin cfg0.N) : (dats m 0 c).after 2 t = iblk m c 2 t := by
  dsimp only [dats]
theorem after0_3 (c : Dev nD) (t : Fin cfg0.N) : (dats m 0 c).after 3 t = iblk m c 3 t := by
  dsimp only [dats]
theorem after0_4 (c : Dev nD) (t : Fin cfg0.N) : (dats m 0 c).after 4 t = iblk m c 4 t := by
  dsimp only [dats]
theorem after0_5 (c : Dev nD) (t : Fin cfg0.N) : (dats m 0 c).after 5 t = iblk m c 5 t := by
  dsimp only [dats]
theorem after0_6 (c : Dev nD) (t : Fin cfg0.N) : (dats m 0 c).after 6 t = iblk m c 6 t := by
  dsimp only [dats]
theorem after0_7 (c : Dev nD) (t : Fin cfg0.N) : (dats m 0 c).after 7 t = outBlk (iblk m c 0 t) (iblk m c 1 t) (iblk m c 2 t) (iblk m c 3 t) (iblk m c 4 t) (iblk m c 5 t) (iblk m c 6 t) := by
  dsimp only [dats]
theorem after0_8 (c : Dev nD) (t : Fin cfg0.N) : (dats m 0 c).after 8 t = outBlk16 (iblk m c 0 t) (iblk m c 1 t) (iblk m c 2 t) (iblk m c 3 t) (iblk m c 4 t) (iblk m c 5 t) (iblk m c 6 t) := by
  dsimp only [dats]
theorem after0_9 (c : Dev nD) (t : Fin cfg0.N) : (dats m 0 c).after 9 t = packedBlk (iblk m c 0 t) (iblk m c 1 t) (iblk m c 2 t) (iblk m c 3 t) (iblk m c 4 t) (iblk m c 5 t) (iblk m c 6 t) := by
  dsimp only [dats]

/-- and what each input's holds before it. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every fair execution ends, each window's array at what the blocks add up to, the rest as found, and every
    counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.MixIdeal.Block
-- ==== Proof.Mix.Value.lean ====
module

public import proofs.«01_k».proof.Defs
public import proofs.«01_k».proof.Proof.Gen.ReferenceMixIdeal.Run
public import proofs.«01_k».proof.Proof.LayerNorm
public import proofs.«01_k».proof.Proof.Bits.Mix.Run
public import proofs.«01_k».proof.Proof.Mix.Run
public import Idealize.ShloMosaic.Lib.Bf16PairInverse
public import Idealize.ShloMosaic.Lib.Quiescent

@[expose] public section

set_option maxRecDepth 16384

noncomputable section

namespace Cert.MixIdeal.Block

open Cert.MixIdeal.Gen Cert.Product Cert.LayerNorm
open Idealize.ShloMosaic hiding ix1 ix2 ix3 ix4
open Idealize.ShloMosaic.TcCoe Idealize.ShloMosaic.ValueIdx Idealize.SL.Sem
open Idealize.ShloMosaic.Pipeline (Window)

/-! # What the output projection computes -/

/-! ## A block -/

/-- The row of a block that is normed: its residual row, scaled, plus its rows of the two mixers' outputs, each times its
    rows of the weights. -/
def line (a₁ : Mat 256 768) (a₂ : Mat 256 256) (h : Mat 256 1024) (w₁ : Mat 768 1024) (w₂ : Mat 256 1024) (r : Fin 256)
    (k : Fin 1024) : EReal :=
  FloatOps.ofBits (F := Ideal) .f32 0x3FB504F3#32 * h (ix2 r k) + (prod a₁ w₁ (ix2 r k) + prod a₂ w₂ (ix2 r k))

variable (a₁ : Mat 256 768) (a₂ : Mat 256 256) (h : Mat 256 1024) (w₁ : Mat 768 1024) (w₂ : Mat 256 1024) (g b : Mat 1 1024)

theorem centre_apply (r : Fin 256) (l : Fin 1024) :
    k0_pay4 (F := Ideal) a₁ w₁ a₂ w₂ h (ix2 r l) = centred (line a₁ a₂ h w₁ w₂ r) l := by
  have e (k : Fin 1024) : addf (mulf (broadcast S256x1024 (Scalar.ofBits (F := Ideal) .f32 0x3FB504F3#32)) h)
      (addf (matmul (φ₂ := .bf16) dot_S256x768_S768x1024_S256x1024_1_0_0_1_n_n none (truncf (F := Ideal) (φ := .f32) .bf16 a₁ bitsLt_bf16_f32)
          w₁ (constant S256x1024 .f32 0x00000000#32))
        (matmul (φ₂ := .bf16) dot_S256x256_S256x1024_S256x1024_1_0_0_1_n_n none (truncf (F := Ideal) (φ := .f32) .bf16 a₂ bitsLt_bf16_f32)
          w₂ (constant S256x1024 .f32 0x00000000#32))) (ix2 r k) = line a₁ a₂ h w₁ w₂ r k :=
    congrArg (FloatOps.ofBits (F := Ideal) .f32 0x3FB504F3#32 * h (ix2 r k) + ·)
      (congrArg₂ (· + ·) (matmul_apply (φ₂ := .bf16) _ rfl _ _ r k) (matmul_apply (φ₂ := .bf16) _ rfl _ _ r k))
  unfold k0_pay4
  rw [shapeCast_self, shapeCast_self, shapeCast_self, shapeCast_self, shapeCast_self]
  exact congrArg₂ (· - ·) (e l) ((col_apply (by decide) _ _ r l).trans ((mean_apply _ _ _ _ _ r).trans (congrArg mean (funext e))))

theorem scale_apply (r : Fin 256) (l : Fin 1024) :
    k0_pay5 (F := Ideal) a₁ w₁ a₂ w₂ h (ix2 r l)
      = Ideal.rsqrt (mean (fun k => centred (line a₁ a₂ h w₁ w₂ r) k * centred (line a₁ a₂ h w₁ w₂ r) k)
        + FloatOps.ofBits (F := Ideal) .f32 0x3727C5AC#32) := by
  unfold k0_pay5
  rw [col_apply (by decide)]
  exact congrArg Ideal.rsqrt (congrArg (· + _) ((mean_apply _ _ _ _ _ r).trans (congrArg mean (funext fun k =>
    congrArg₂ (· * ·) (centre_apply a₁ a₂ h w₁ w₂ r k) (centre_apply a₁ a₂ h w₁ w₂ r k)))))

/-- What a point leaves of the first result, -/
theorem out_apply (r : Fin 256) (l : Fin 1024) :
    outBlk (F := Ideal) a₁ a₂ h w₁ w₂ g b (ix2 r l) = normed (line a₁ a₂ h w₁ w₂ r) (g (ix2 0 l)) (b (ix2 0 l)) l := by
  unfold outBlk k0_pay6 k0_pay2 k0_pay3
  rw [addf_apply, mulf_apply, mulf_apply, line_apply, line_apply, centre_apply, scale_apply, shapeCast_self, shapeCast_self]
  rfl

/-- and of the second. -/
theorem out16_apply (r : Fin 256) (l : Fin 1024) :
    outBlk16 (F := Ideal) a₁ a₂ h w₁ w₂ g b (ix2 r l) = normed (line a₁ a₂ h w₁ w₂ r) (g (ix2 0 l)) (b (ix2 0 l)) l :=
  out_apply a₁ a₂ h w₁ w₂ g b r l

/-! ## The whole arrays -/

variable (m : (ℓ : Loc nD τ sig) → Buf (Elt Ideal) ℓ) (ρ : Dev nD → PrngReg) (c : Dev nD)

/-- The weights, without their first axis. -/
def weights (w : (⟨3, ![1, 1024, 1024]⟩ : Shape).Idx → EReal) : Mat 1024 1024 :=
  shapeCast S1024x1024 w shapeCasts_S1x1024x1024_S1024x1024

/-- One row of a table of two by two rows. -/
def pick (x : (⟨3, ![2, 2, 1024]⟩ : Shape).Idx → EReal) : (⟨1, ![1024]⟩ : Shape).Idx → EReal :=
  shapeCast S1024 (extractStridedSlice S1x1x1024 ![1, 0, 0] x slices_S2x2x1024_S1x1x1024_1_0_0) shapeCasts_S1x1x1024_S1024

/-- What the call is given: the mixers' outputs and the residual with their batches in one, the weights in two pieces, and one
    row of each of the other two. -/
theorem V_o : V m c main_v2 = shapeCast S32768x768 (m ((c : Thread nD τ).loc main_arg0)) shapeCasts_S8x4096x768_S32768x768 := by
  show StableHlo.after hostOps0 (fun b => m (c, b)) (Proc.devRef .tc main_v2) = _
  simp only [hostOps0]
  after_results_simp <;> rfl
theorem V_m : V m c main_v3 = shapeCast S32768x256 (m ((c : Thread nD τ).loc main_arg1)) shapeCasts_S8x4096x256_S32768x256 := by
  show StableHlo.after hostOps0 (fun b => m (c, b)) (Proc.devRef .tc main_v3) = _
  simp only [hostOps0]
  after_results_simp <;> rfl
theorem V_h : V m c main_v4 = shapeCast S32768x1024 (m ((c : Thread nD τ).loc main_arg2)) shapeCasts_S8x4096x1024_S32768x1024 := by
  show StableHlo.after hostOps0 (fun b => m (c, b)) (Proc.devRef .tc main_v4) = _
  simp only [hostOps0]
  after_results_simp <;> rfl
theorem V_w₁ : V m c main_v5 = extractStridedSlice S768x1024 ![0, 0] (weights (m ((c : Thread nD τ).loc main_arg3)))
    slices_S1024x1024_S768x1024_0_0 := by
  show StableHlo.after hostOps0 (fun b => m (c, b)) (Proc.devRef .tc main_v5) = _
  simp only [hostOps0]
  after_results_simp <;> rfl
theorem V_w₂ : V m c main_v6 = extractStridedSlice S256x1024 ![768, 0] (weights (m ((c : Thread nD τ).loc main_arg3)))
    slices_S1024x1024_S256x1024_768_0 := by
  show StableHlo.after hostOps0 (fun b => m (c, b)) (Proc.devRef .tc main_v6) = _
  simp only [hostOps0]
  after_results_simp <;> rfl
theorem V_g : V m c main_v9 = shapeCast S1x1024 (pick (m ((c : Thread nD τ).loc main_arg4))) shapeCasts_S1024_S1x1024 := by
  show StableHlo.after hostOps0 (fun b => m (c, b)) (Proc.devRef .tc main_v9) = _
  simp only [hostOps0]
  after_results_simp <;> rfl
theorem V_b : V m c main_v12 = shapeCast S1x1024 (pick (m ((c : Thread nD τ).loc main_arg5))) shapeCasts_S1024_S1x1024 := by
  show StableHlo.after hostOps0 (fun b => m (c, b)) (Proc.devRef .tc main_v12) = _
  simp only [hostOps0]
  after_results_simp <;> rfl

/-- Where each window is at a point: the `i`th block of rows, or all of its array. -/
theorem index_rows : ∀ t : Fin cfg0.N, (((cfg0.win 0).index t 0 = t.val ∧ (cfg0.win 0).index t 1 = 0)
      ∧ ((cfg0.win 1).index t 0 = t.val ∧ (cfg0.win 1).index t 1 = 0) ∧ ((cfg0.win 2).index t 0 = t.val ∧ (cfg0.win 2).index t 1 = 0))
    ∧ ((cfg0.win 7).index t 0 = t.val ∧ (cfg0.win 7).index t 1 = 0) ∧ ((cfg0.win 8).index t 0 = t.val ∧ (cfg0.win 8).index t 1 = 0) :=
  (by decide +kernel : ∀ t : Fin grid0.N, ((win0_0.index t 0 = t.val ∧ win0_0.index t 1 = 0)
      ∧ (win0_1.index t 0 = t.val ∧ win0_1.index t 1 = 0) ∧ (win0_2.index t 0 = t.val ∧ win0_2.index t 1 = 0))
    ∧ (win0_7.index t 0 = t.val ∧ win0_7.index t 1 = 0) ∧ (win0_8.index t 0 = t.val ∧ win0_8.index t 1 = 0))
theorem index_all : ∀ t : Fin cfg0.N, (((cfg0.win 3).index t 0 = 0 ∧ (cfg0.win 3).index t 1 = 0)
      ∧ ((cfg0.win 4).index t 0 = 0 ∧ (cfg0.win 4).index t 1 = 0))
    ∧ ((cfg0.win 5).index t 0 = 0 ∧ (cfg0.win 5).index t 1 = 0) ∧ ((cfg0.win 6).index t 0 = 0 ∧ (cfg0.win 6).index t 1 = 0) :=
  (by decide +kernel : ∀ t : Fin grid0.N, ((win0_3.index t 0 = 0 ∧ win0_3.index t 1 = 0)
      ∧ (win0_4.index t 0 = 0 ∧ win0_4.index t 1 = 0))
    ∧ (win0_5.index t 0 = 0 ∧ win0_5.index t 1 = 0) ∧ (win0_6.index t 0 = 0 ∧ win0_6.index t 1 = 0))

/-- The row of the whole arrays that a row of a point's blocks is. -/
abbrev rowAt (t : Fin 128) (r : Fin 256) : Fin 32768 := rowOf (K := 256) (B := 128) rfl t r

/-- What a point reads of each array. -/
theorem read_o (t : Fin cfg0.N) (r : Fin 256) (k : Fin 768) : iblk m c 0 t (ix2 r k)
    = m ((c : Thread nD τ).loc main_arg0) (ix3 (batch (rowAt t r)) (posn (rowAt t r)) k) :=
  (congrArg (V m c main_v2) (emb_row (K := 256) (B := 128) rfl ((cfg0.win 0).rect t).emb t (index_rows t).1.1.1 (index_rows t).1.1.2
    (fun x => Window.rect_emb_val (cfg0.win 0) t x 0 rfl) (fun x => Window.rect_emb_val (cfg0.win 0) t x 1 rfl) r k)).trans
    ((congrFun (V_o m c) _).trans (flat_apply _ _ (rowAt t r) k))
theorem read_m (t : Fin cfg0.N) (r : Fin 256) (k : Fin 256) : iblk m c 1 t (ix2 r k)
    = m ((c : Thread nD τ).loc main_arg1) (ix3 (batch (rowAt t r)) (posn (rowAt t r)) k) :=
  (congrArg (V m c main_v3) (emb_row (K := 256) (B := 128) rfl ((cfg0.win 1).rect t).emb t (index_rows t).1.2.1.1 (index_rows t).1.2.1.2
    (fun x => Window.rect_emb_val (cfg0.win 1) t x 0 rfl) (fun x => Window.rect_emb_val (cfg0.win 1) t x 1 rfl) r k)).trans
    ((congrFun (V_m m c) _).trans (flat_apply _ _ (rowAt t r) k))
theorem read_h (t : Fin cfg0.N) (r : Fin 256) (k : Fin 1024) : iblk m c 2 t (ix2 r k)
    = m ((c : Thread nD τ).loc main_arg2) (ix3 (batch (rowAt t r)) (posn (rowAt t r)) k) :=
  (congrArg (V m c main_v4) (emb_row (K := 256) (B := 128) rfl ((cfg0.win 2).rect t).emb t (index_rows t).1.2.2.1 (index_rows t).1.2.2.2
    (fun x => Window.rect_emb_val (cfg0.win 2) t x 0 rfl) (fun x => Window.rect_emb_val (cfg0.win 2) t x 1 rfl) r k)).trans
    ((congrFun (V_h m c) _).trans (flat_apply _ _ (rowAt t r) k))
theorem read_w₁ (t : Fin cfg0.N) (k : Fin 768) (l : Fin 1024) : iblk m c 3 t (ix2 k l)
    = weights (m ((c : Thread nD τ).loc main_arg3)) (ix2 (Fin.castAdd 256 k) l) :=
  (congrArg (V m c main_v5) (emb_whole ((cfg0.win 3).rect t).emb (index_all t).1.1.1 (index_all t).1.1.2
    (fun x => Window.rect_emb_val (cfg0.win 3) t x 0 rfl) (fun x => Window.rect_emb_val (cfg0.win 3) t x 1 rfl) k l)).trans
    ((congrFun (V_w₁ m c) _).trans (extractStridedSlice_apply ![0, 0] _ _ (ix2 k l) (ix2 (Fin.castAdd 256 k) l) fun a => match a with
      | ⟨0, _⟩ => (Nat.zero_add _).symm
      | ⟨1, _⟩ => (Nat.zero_add _).symm))
theorem read_w₂ (t : Fin cfg0.N) (k : Fin 256) (l : Fin 1024) : iblk m c 4 t (ix2 k l)
    = weights (m ((c : Thread nD τ).loc main_arg3)) (ix2 (Fin.natAdd 768 k) l) :=
  (congrArg (V m c main_v6) (emb_whole ((cfg0.win 4).rect t).emb (index_all t).1.2.1 (index_all t).1.2.2
    (fun x => Window.rect_emb_val (cfg0.win 4) t x 0 rfl) (fun x => Window.rect_emb_val (cfg0.win 4) t x 1 rfl) k l)).trans
    ((congrFun (V_w₂ m c) _).trans (extractStridedSlice_apply ![768, 0] _ _ (ix2 k l) (ix2 (Fin.natAdd 768 k) l) fun a => match a with
      | ⟨0, _⟩ => rfl
      | ⟨1, _⟩ => (Nat.zero_add _).symm))
theorem read_g (t : Fin cfg0.N) (l : Fin 1024) : iblk m c 5 t (ix2 (0 : Fin 1) l) = pick (m ((c : Thread nD τ).loc main_arg4)) (ix1 l) :=
  (congrArg (V m c main_v9) (emb_whole ((cfg0.win 5).rect t).emb (index_all t).2.1.1 (index_all t).2.1.2
    (fun x => Window.rect_emb_val (cfg0.win 5) t x 0 rfl) (fun x => Window.rect_emb_val (cfg0.win 5) t x 1 rfl) 0 l)).trans
    ((congrFun (V_g m c) _).trans (one_apply _ _ l))
theorem read_b (t : Fin cfg0.N) (l : Fin 1024) : iblk m c 6 t (ix2 (0 : Fin 1) l) = pick (m ((c : Thread nD τ).loc main_arg5)) (ix1 l) :=
  (congrArg (V m c main_v12) (emb_whole ((cfg0.win 6).rect t).emb (index_all t).2.2.1 (index_all t).2.2.2
    (fun x => Window.rect_emb_val (cfg0.win 6) t x 0 rfl) (fun x => Window.rect_emb_val (cfg0.win 6) t x 1 rfl) 0 l)).trans
    ((congrFun (V_b m c) _).trans (one_apply _ _ l))

/-- A row of the first mixer's output with the second's beside it. -/
def beside (x : Fin 768 → EReal) (y : Fin 256 → EReal) (k : Fin 1024) : EReal := Fin.append (m := 768) (n := 256) x y k

theorem beside_left (x : Fin 768 → EReal) (y : Fin 256 → EReal) (k : Fin 768) : beside x y (Fin.castAdd 256 k) = x k :=
  Fin.append_left (m := 768) (n := 256) x y k
theorem beside_right (x : Fin 768 → EReal) (y : Fin 256 → EReal) (k : Fin 256) : beside x y (Fin.natAdd 768 k) = y k :=
  Fin.append_right (m := 768) (n := 256) x y k

/-- A row of the whole arrays that is normed. -/
def whole (o : (⟨3, ![8, 4096, 768]⟩ : Shape).Idx → EReal) (z : (⟨3, ![8, 4096, 256]⟩ : Shape).Idx → EReal)
    (h : (⟨3, ![8, 4096, 1024]⟩ : Shape).Idx → EReal) (w : Mat 1024 1024) (i : Fin 8) (t : Fin 4096) (l : Fin 1024) : EReal :=
  FloatOps.ofBits (F := Ideal) .f32 0x3FB504F3#32 * h (ix3 i t l)
    + ∑ k : Fin 1024, beside (fun k => o (ix3 i t k)) (fun k => z (ix3 i t k)) k * w (ix2 k l)

/-- What the call computes. -/
def goal : Mat 32768 1024 := fun j =>
  normed (whole (m ((c : Thread nD τ).loc main_arg0)) (m ((c : Thread nD τ).loc main_arg1)) (m ((c : Thread nD τ).loc main_arg2))
      (weights (m ((c : Thread nD τ).loc main_arg3))) (batch (j 0)) (posn (j 0)))
    (pick (m ((c : Thread nD τ).loc main_arg4)) (ix1 (j 1))) (pick (m ((c : Thread nD τ).loc main_arg5)) (ix1 (j 1))) (j 1)

/-- The rows that a point norms are the whole arrays' rows: the sum over all lanes is that over the first mixer's, plus that over
    the second's. -/
theorem line_eq (t : Fin cfg0.N) (r : Fin 256) :
    line (iblk m c 0 t) (iblk m c 1 t) (iblk m c 2 t) (iblk m c 3 t) (iblk m c 4 t) r
      = whole (m ((c : Thread nD τ).loc main_arg0)) (m ((c : Thread nD τ).loc main_arg1)) (m ((c : Thread nD τ).loc main_arg2))
        (weights (m ((c : Thread nD τ).loc main_arg3))) (batch (rowAt t r)) (posn (rowAt t r)) := by
  funext l
  unfold line whole
  rw [read_h, prod_apply, prod_apply]
  refine congrArg (FloatOps.ofBits (F := Ideal) .f32 0x3FB504F3#32 * _ + ·) (Eq.trans ?_ (Fin.sum_univ_add (a := 768) (b := 256) _).symm)
  refine congrArg₂ (· + ·) (Finset.sum_congr rfl fun k _ => ?_) (Finset.sum_congr rfl fun k _ => ?_)
  · rw [read_o, read_w₁, beside_left]
  · rw [read_m, read_w₂, beside_right]

/-- A block's norm, read as the whole array's. -/
theorem goal_eq (t : Fin cfg0.N) (r : Fin 256) (l : Fin 1024) :
    normed (line (iblk m c 0 t) (iblk m c 1 t) (iblk m c 2 t) (iblk m c 3 t) (iblk m c 4 t) r) (iblk m c 5 t (ix2 (0 : Fin 1) l))
      (iblk m c 6 t (ix2 (0 : Fin 1) l)) l = goal m c (ix2 (rowAt t r) l) := by
  rw [line_eq, read_g, read_b]
  rfl

/-- Where a block of each result lies. -/
theorem emb_f (t : Fin cfg0.N) (r : Fin 256) (l : Fin 1024) : ((cfg0.win 7).rect t).emb (ix2 r l) = ix2 (rowAt t r) l :=
  emb_row (K := 256) (B := 128) rfl ((cfg0.win 7).rect t).emb t (index_rows t).2.1.1 (index_rows t).2.1.2
    (fun x => Window.rect_emb_val (cfg0.win 7) t x 0 rfl) (fun x => Window.rect_emb_val (cfg0.win 7) t x 1 rfl) r l
theorem emb_b (t : Fin cfg0.N) (r : Fin 256) (l : Fin 1024) : ((cfg0.win 8).rect t).emb (ix2 r l) = ix2 (rowAt t r) l :=
  emb_row (K := 256) (B := 128) rfl ((cfg0.win 8).rect t).emb t (index_rows t).2.2.1 (index_rows t).2.2.2
    (fun x => Window.rect_emb_val (cfg0.win 8) t x 0 rfl) (fun x => Window.rect_emb_val (cfg0.win 8) t x 1 rfl) r l

/-- What a point writes back of a block is the array's part there. -/
theorem cut_f (t : Fin cfg0.N) (X : Vec Ideal S256x1024 .f32) (G : FVec Ideal S32768x1024 .f32)
    (h : ∀ r l, X (ix2 r l) = G (ix2 (rowAt t r) l)) :
    (cfg0.win 7).cut (grid0.coords t) X = ((cfg0.win 7).blk t).view.read (Elt Ideal) G :=
  funext (rows_eq (K := 256) (B := 128) rfl ((cfg0.win 7).rect t).emb t (emb_f t) X G h)
theorem cut_b (t : Fin cfg0.N) (X : Vec Ideal S256x1024 .bf16) (G : FVec Ideal S32768x1024 .bf16)
    (h : ∀ r l, X (ix2 r l) = G (ix2 (rowAt t r) l)) :
    (cfg0.win 8).cut (grid0.coords t) X = ((cfg0.win 8).blk t).view.read (Elt Ideal) G :=
  funext (rows_eq (K := 256) (B := 128) rfl ((cfg0.win 8).rect t).emb t (emb_b t) X G h)

/-- Every index is in some point's block. -/
theorem cover_f (j : S32768x1024.Idx) : ∃ t : Fin cfg0.N, (cfg0.win 7).flush t = true ∧ j ∈ ((cfg0.win 7).blk t).view.set := by
  obtain ⟨t, r, l, e⟩ := exists_row (K := 256) (B := 128) rfl j
  exact ⟨t, flush0_7 t, (e.trans (emb_f t r l).symm) ▸ ((cfg0.win 7).blk t).view.emb_mem_set (ix2 r l)⟩
theorem cover_b (j : S32768x1024.Idx) : ∃ t : Fin cfg0.N, (cfg0.win 8).flush t = true ∧ j ∈ ((cfg0.win 8).blk t).view.set := by
  obtain ⟨t, r, l, e⟩ := exists_row (K := 256) (B := 128) rfl j
  exact ⟨t, flush0_8 t, (e.trans (emb_b t r l).symm) ▸ ((cfg0.win 8).blk t).view.emb_mem_set (ix2 r l)⟩

/-- What a point writes back of the two results. -/
theorem flushed_f (t : Fin cfg0.N) : (dats m 0 c).flushed 7 t = (cfg0.win 7).cut (grid0.coords t)
    (outBlk (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]
theorem flushed_b (t : Fin cfg0.N) : (dats m 0 c).flushed 8 t = (cfg0.win 8).cut (grid0.coords t)
    (outBlk16 (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8]

/-- So both result arrays end at the norm. -/
theorem final_f : (dats m 0 c).arrAt 7 cfg0.N = goal m c :=
  (dats m 0 c).arrAt_eq_of_cover 7 (goal m c) (fun t _ => (flushed_f m c t).trans (cut_f t _ _ (fun r l =>
    (out_apply _ _ _ _ _ _ _ r l).trans (goal_eq m c t r l)))) cover_f
theorem final_b : (dats m 0 c).arrAt 8 cfg0.N = goal m c :=
  (dats m 0 c).arrAt_eq_of_cover 8 (goal m c) (fun t _ => (flushed_b m c t).trans (cut_b t _ _ (fun r l =>
    (out16_apply _ _ _ _ _ _ _ r l).trans (goal_eq m c t r l)))) cover_b

/-- The run, with both results at the norm. -/
theorem run_goal : θ_run defs (onTc (τ := τ) (main (F := Ideal))) ⟨m, fun _ => 0, ρ⟩ fun r => ∀ c : Dev nD,
      r.2.mem ((c : Thread nD τ).loc main_v13_0) = goal m c ∧ r.2.mem ((c : Thread nD τ).loc main_v13_1) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(((h.1 c).1 7).trans (final_f m c)), ((h.1 c).1 8).trans (final_b m c), h.2 c⟩)
    (θ_run_and (run_main m ρ) (unchanged m ρ))

end Cert.MixIdeal.Block

/-! ## The claims -/

namespace Cert.Proof.Mix

open Idealize.ShloMosaic hiding ix1 ix2 ix3 ix4
open Idealize.ShloMosaic.TcCoe Idealize.ShloMosaic.ValueIdx Idealize.SL.Sem
open Cert.Product Cert.LayerNorm Cert.MixIdeal.Block

theorem frame_p : Cert.quiescent_Mix := fun m ρ _ => Cert.Mix.Block.frame m ρ
theorem frame_pi : Cert.quiescent_MixIdeal := fun m ρ _ => Cert.MixIdeal.Block.frame m ρ
theorem frame_ri : Cert.quiescent_ReferenceMixIdeal := fun m ρ _ =>
  (θ_run Cert.ReferenceMixIdeal.defs _ _).mono (fun r h => ⟨fun c => (h c).2.2, sem_eq_zero_of_no_sems (by decide) r.2⟩)
    (Cert.ReferenceMixIdeal.Value.run (F := Ideal) m ρ)

/-- Packing in pairs loses nothing. -/
theorem preserves : Cert.preserves_Mix_MixIdeal :=
  ⟨IdealRules.bf16_pair.bufferStatement _ _, IdealRules.bf16_pair.bufferStatement _ _, IdealRules.bf16_pair.statement _ _,
    IdealRules.bf16_pack.statement _⟩

/-- The two mixers' outputs side by side, at an index. -/
theorem beside_apply (o : (⟨3, ![8, 4096, 768]⟩ : Shape).Idx → EReal) (z : (⟨3, ![8, 4096, 256]⟩ : Shape).Idx → EReal)
    (h : Shape.Concatenates [⟨3, ![8, 4096, 768]⟩, ⟨3, ![8, 4096, 256]⟩] ⟨3, ![8, 4096, 1024]⟩ 2) (i : Fin 8) (t : Fin 4096) (k : Fin 1024) :
    concatenate (⟨3, ![8, 4096, 1024]⟩ : Shape) 2 [⟨_, o⟩, ⟨_, z⟩] h (ix3 i t k)
      = beside (fun k => o (ix3 i t k)) (fun k => z (ix3 i t k)) k := by
  by_cases hk : k.val < 768
  · obtain ⟨k', rfl⟩ : ∃ k' : Fin 768, k = Fin.castAdd 256 k' := ⟨⟨k.val, hk⟩, rfl⟩
    refine (concatenate_pair_apply_left (t := ⟨3, ![8, 4096, 1024]⟩) 2 o z h _ rfl (ix3 i t k') (fun b => ?_)).trans
      (beside_left (fun k => o (ix3 i t k)) (fun k => z (ix3 i t k)) k').symm
    match b with
    | ⟨0, _⟩ => rfl
    | ⟨1, _⟩ => rfl
    | ⟨2, _⟩ => rfl
  · obtain ⟨k', rfl⟩ : ∃ k' : Fin 256, k = Fin.natAdd 768 k' := ⟨⟨k.val - 768, by omega⟩, Fin.ext (by show k.val = 768 + (k.val - 768); omega)⟩
    refine (concatenate_pair_apply_right (t := ⟨3, ![8, 4096, 1024]⟩) 2 o z h _ rfl rfl (ix3 i t k') (fun b hb => ?_) ?_).trans
      (beside_right (fun k => o (ix3 i t k)) (fun k => z (ix3 i t k)) k').symm
    · match b with
      | ⟨0, _⟩ => rfl
      | ⟨1, _⟩ => rfl
      | ⟨2, _⟩ => exact absurd rfl hb
    · show k'.val + 768 = 768 + k'.val
      omega

open Cert.ReferenceMixIdeal in
/-- The host's product of an array with batches and one without, at an index. -/
theorem dot3_apply (x : FVec Ideal S8x4096x1024 .f32) (w : FVec Ideal S1024x1024 .f32) (i : Fin 8) (t : Fin 4096) (l : Fin 1024) :
    Host.dotGeneral dot_S8x4096x1024_S1024x1024_S8x4096x1024_2_0_01_1_n_n none x w (ix3 i t l)
      = ∑ k : Fin 1024, x (ix3 i t k) * w (ix2 k l) := by
  simp only [Host.dotGeneral]
  rw [Ideal.dotGeneral_apply,
    ← Equiv.sum_comp (contrEquiv1 dot_S8x4096x1024_S1024x1024_S8x4096x1024_2_0_01_1_n_n 1024 rfl rfl).symm]
  refine Finset.sum_congr rfl fun k _ => ?_
  congr 2
  · funext a
    match a with
    | ⟨0, _⟩ => rfl
    | ⟨1, _⟩ => rfl
    | ⟨2, _⟩ => rfl
  · exact Shape.idx_ext₂ rfl rfl

open Cert.ReferenceMixIdeal Cert.ReferenceMixIdeal.Gen in
/-- What the reference norms, at an index. -/
theorem mixed_apply (o : FVec Ideal S8x4096x768 .f32) (z : FVec Ideal S8x4096x256 .f32) (h : FVec Ideal S8x4096x1024 .f32)
    (w : FVec Ideal S1x1024x1024 .f32) (i : Fin 8) (t : Fin 4096) (l : Fin 1024) :
    addf (mulf (broadcastInDim S8x4096x1024 ![] bcast_S_S8x4096x1024 (constant (F := Ideal) S_ .f32 0x3FB504F3#32)) h)
      (Host.dotGeneral dot_S8x4096x1024_S1024x1024_S8x4096x1024_2_0_01_1_n_n none
        (concatenate S8x4096x1024 2 [⟨S8x4096x768, o⟩, ⟨S8x4096x256, z⟩] concatenates_S8x4096x768_S8x4096x256_S8x4096x1024_d2)
        (shapeCast S1024x1024 w shapeCasts_S1x1024x1024_S1024x1024)) (ix3 i t l) = whole o z h (weights w) i t l := by
  rw [addf_apply, mulf_apply, dot3_apply]
  exact congrArg (_ + ·) (Finset.sum_congr rfl fun k _ => congrArg (· * _) (beside_apply o z _ i t k))

/-- The call and its reference end with the same two arrays. -/
theorem algebraic : Cert.algebraic_MixIdeal_ReferenceMixIdeal := by
  intro m ρ m' ρ' _ hagree
  refine ⟨fun c => goal m c, fun c => goal m c, run_goal m ρ, ?_⟩
  refine (θ_run Cert.ReferenceMixIdeal.defs _ _).mono (fun _ h c => ⟨(h c).1.trans ?_, (h c).2.1.trans ?_, (h c).2.2⟩)
    (Cert.ReferenceMixIdeal.Value.run (F := Ideal) m' ρ')
  all_goals
    first | unfold Cert.ReferenceMixIdeal.Value.res_main_v34 | unfold Cert.ReferenceMixIdeal.Value.res_main_v35
    rw [(hagree c).1, (hagree c).2.1, (hagree c).2.2.1, (hagree c).2.2.2.1, (hagree c).2.2.2.2.1, (hagree c).2.2.2.2.2]
    refine flat_eq _ _ _ fun r l => (norm3_apply _ _ _ _ _ _ _ _ _ _ _ _ l).trans ?_
    exact congrArg (fun f => normed f _ _ l) (funext fun k => mixed_apply _ _ _ _ _ _ k)

end Cert.Proof.Mix
-- ==== Proof.Memory.Block.lean ====
module

public import proofs.«01_k».proof.Proof.Gen.MemoryIdeal.Value
public import proofs.«01_k».proof.Proof.LayerNorm
public import proofs.«01_k».proof.Proof.Reads

@[expose] public section

set_option maxRecDepth 16384

noncomputable section

namespace Cert.Memory

open Idealize.ShloMosaic hiding ix1 ix2 ix3 ix4
open Idealize.ShloMosaic.ValueIdx
open Cert.Product Cert.LayerNorm

/-! # The softmax of a row -/

/-- The largest entry of a row. -/
def peak {N : ℕ} (f : Fin N → EReal) : EReal :=
  (Finset.univ : Finset (Fin N)).fold max (FloatOps.ofBits (F := Ideal) .f32 0xFF800000#32) f

/-- The largest entry is at least what the search for it starts from. -/
theorem max_peak {N : ℕ} (f : Fin N → EReal) : max (FloatOps.ofBits (F := Ideal) .f32 0xFF800000#32) (peak f) = peak f :=
  max_eq_right ((Finset.le_fold_max _).2 (Or.inl le_rfl))

/-- A row's entries less the largest, exponentiated, -/
def raised {N : ℕ} (f : Fin N → EReal) (s : Fin N) : EReal := Ideal.exp (f s - peak f)

/-- and over their sum. -/
def soft {N : ℕ} (f : Fin N → EReal) (s : Fin N) : EReal := Ideal.div (raised f s) (∑ k, raised f k)

/-- A query's score with a key. -/
def score (x y : Fin 64 → EReal) : EReal := (∑ d, x d * y d) * FloatOps.ofBits (F := Ideal) .f32 0x3E000000#32

/-- What a query takes of the values `v`, one to a key. -/
def attend (x : Fin 64 → EReal) (y : Fin 256 → Fin 64 → EReal) (v : Fin 256 → EReal) : EReal :=
  ∑ s, soft (fun s => score x (y s)) s * v s

/-- The largest entries of the rows, as a column. -/
theorem peak_apply {M N : ℕ} (y : FVec Ideal ⟨2, ![M, N]⟩ .f32) (h : Shape.Reduces ⟨2, ![M, N]⟩ [1] ⟨1, ![M]⟩)
    (hφ : FKind.Formats .f32) (hacc : (0xFF800000#32 : BitVec FTy.f32.bits) = FKind.maximumf.neutral .f32 hφ)
    (hc : Shape.ShapeCasts ⟨1, ![M]⟩ ⟨2, ![M, 1]⟩) (r : Fin M) :
    shapeCast (⟨2, ![M, 1]⟩ : Shape) (multiReduction .maximumf [1] ⟨1, ![M]⟩ y 0xFF800000#32 h hφ hacc) hc (ix2 r (0 : Fin 1))
      = peak fun k => y (ix2 r k) := by
  rw [shapeCast_apply _ _ _ (ix1 r) (by
    simp only [Shape.rowMajor_val_one, Shape.rowMajor_val_two]
    show r.val = r.val * 1 + 0
    omega), multiReduction_maximumf_eq_fold]
  exact h.fold_fiber_r2_a1 (ix1 r) max _ y

/-! # The two heads of a block of 128 lanes -/

/-- A row's lanes, with those of one head alone. -/
theorem sum_lower (f g : Fin 128 → EReal) (h : ∀ d : Fin 64, g (Fin.natAdd 64 d) = 0) :
    ∑ l, g l * f l = ∑ d : Fin 64, g (Fin.castAdd 64 d) * f (Fin.castAdd 64 d) := by
  refine (Fin.sum_univ_add (a := 64) (b := 64) _).trans ((congrArg (_ + ·) ?_).trans (add_zero _))
  exact Finset.sum_eq_zero fun d _ => by rw [h, zero_mul]
theorem sum_upper (f g : Fin 128 → EReal) (h : ∀ d : Fin 64, g (Fin.castAdd 64 d) = 0) :
    ∑ l, g l * f l = ∑ d : Fin 64, g (Fin.natAdd 64 d) * f (Fin.natAdd 64 d) := by
  refine (Fin.sum_univ_add (a := 64) (b := 64) _).trans ((congrArg (· + _) ?_).trans (zero_add _))
  exact Finset.sum_eq_zero fun d _ => by rw [h, zero_mul]

/-- Lane `d` of the head in which lane `l` is. -/
def lane {N : ℕ} (hN : 64 ∣ N) (l : Fin N) (d : Fin 64) : Fin N := ⟨l.val / 64 * 64 + d.val, by
  obtain ⟨n, rfl⟩ := hN
  have := Nat.div_lt_of_lt_mul l.isLt
  omega⟩

end Cert.Memory

namespace Cert.MemoryIdeal.Block

open Cert.MemoryIdeal.Gen Cert.Product Cert.LayerNorm Cert.Memory
open Idealize.ShloMosaic hiding ix1 ix2 ix3 ix4
open Idealize.ShloMosaic.TcCoe Idealize.ShloMosaic.ValueIdx Idealize.SL.Sem

/-! # A piece of two heads -/

/-- The scores of the queries with the keys, scaled, -/
def scores (q : FVec Ideal S512x128 .f32) (k : FVec Ideal S256x128 .f32) : FVec Ideal S512x256 .f32 :=
  mulf (matmul dot_S512x128_S256x128_S512x256_1_1_0_0_n_n none (truncf .bf16 q bitsLt_bf16_f32) (truncf .bf16 k bitsLt_bf16_f32)
    (constant S512x256 .f32 0x00000000#32)) (broadcast S512x256 (Scalar.ofBits (F := Ideal) .f32 0x3E000000#32))

/-- less the largest of the row and exponentiated, -/
def raisedRows (z : FVec Ideal S512x256 .f32) : FVec Ideal S512x256 .f32 :=
  exp (subf z (broadcastTo S512x256 (shapeCast S512x1 (multiReduction .maximumf [1] S512 z 0xFF800000#32 reduces_S512x256_S512
    (.inl rfl) rfl) shapeCasts_S512_S512x1) broadcasts_S512x1_S512x256))

/-- over the row's sum, times the values. -/
def taken (e : FVec Ideal S512x256 .f32) (v : FVec Ideal S256x128 .f32) : FVec Ideal S512x128 .f32 :=
  matmul dot_S512x256_S256x128_S512x128_1_0_0_1_n_n none (truncf .bf16 (divf e (broadcastTo S512x256 (shapeCast S512x1
    (multiReduction .add [1] S512 e 0x00000000#32 reduces_S512x256_S512 (.inl rfl) rfl) shapeCasts_S512_S512x1)
    broadcasts_S512x1_S512x256)) bitsLt_bf16_f32) (truncf .bf16 v bitsLt_bf16_f32) (constant S512x128 .f32 0x00000000#32)

/-- The queries with the second head's lanes at zero, and with the first's. -/
def lower (q : FVec Ideal S512x128 .f32) : FVec Ideal S512x128 .f32 :=
  select k0_pay2 q (broadcast S512x128 (Scalar.ofBits (F := Ideal) .f32 0x00000000#32))
def upper (q : FVec Ideal S512x128 .f32) : FVec Ideal S512x128 .f32 :=
  select (xori k0_pay2 (constantI S512x128 1 1#1)) q (broadcast S512x128 (Scalar.ofBits (F := Ideal) .f32 0x00000000#32))

/-- What the body stores of one piece: on each head's lanes, what its queries take. -/
def piece (q : FVec Ideal S512x128 .f32) (k v : FVec Ideal S256x128 .f32) : FVec Ideal S512x128 .f32 :=
  select k0_pay2 (taken (raisedRows (scores (lower q) k)) v) (taken (raisedRows (scores (upper q) k)) v)

theorem scores_apply (q : FVec Ideal S512x128 .f32) (k : FVec Ideal S256x128 .f32) (r : Fin 512) (s : Fin 256) :
    scores q k (ix2 r s) = (∑ l : Fin 128, q (ix2 r l) * k (ix2 s l)) * FloatOps.ofBits (F := Ideal) .f32 0x3E000000#32 := by
  refine congrArg (· * _) ?_
  simp only [matmul]
  rw [Ideal.matmul_constant_zero_apply,
    ← Equiv.sum_comp (contrEquiv1 dot_S512x128_S256x128_S512x256_1_1_0_0_n_n 128 rfl rfl).symm]
  refine Finset.sum_congr rfl fun l _ => ?_
  congr 2
  · exact Shape.idx_ext₂ rfl rfl
  · exact Shape.idx_ext₂ rfl rfl

theorem raisedRows_apply (z : FVec Ideal S512x256 .f32) (r : Fin 512) (s : Fin 256) :
    raisedRows z (ix2 r s) = raised (fun s => z (ix2 r s)) s :=
  congrArg Ideal.exp (congrArg (z (ix2 r s) - ·) ((col_apply (by decide) _ _ r s).trans (peak_apply z _ _ _ _ r)))

theorem taken_apply (z : FVec Ideal S512x256 .f32) (v : FVec Ideal S256x128 .f32) (r : Fin 512) (l : Fin 128) :
    taken (raisedRows z) v (ix2 r l) = ∑ s : Fin 256, soft (fun s => z (ix2 r s)) s * v (ix2 s l) := by
  unfold taken
  refine (matmul_apply _ rfl _ _ r l).trans (Finset.sum_congr rfl fun s _ => congrArg (· * _) ?_)
  refine congrArg₂ Ideal.div (raisedRows_apply z r s) ((col_apply (by decide) _ _ r s).trans ((sum_apply _ _ _ _ _ r).trans ?_))
  exact Finset.sum_congr rfl fun s _ => raisedRows_apply z r s

theorem lanes_apply (r : Fin 512) (l : Fin 128) : k0_pay2 (ix2 r l) = if l.val < 64 then 1#1 else 0#1 := by
  unfold k0_pay2
  show IntOp.cmpi .slt (iota .tc S512x128 32 [1] iota_S512x128_d1_w32 (ix2 r l)) (BitVec.ofNat 32 64) = _
  rw [iota_single_apply]
  exact Cert.KernelIdeal.Stick.slt_ofNat (by have := l.isLt; show l.val < 4096; omega) (by omega)

theorem lower_apply (q : FVec Ideal S512x128 .f32) (r : Fin 512) (l : Fin 128) :
    lower q (ix2 r l) = if l.val < 64 then q (ix2 r l) else 0 := by
  unfold lower
  rw [select_apply, lanes_apply]
  by_cases h : l.val < 64
  · rw [if_pos h, if_pos h, select_one]
  · rw [if_neg h, if_neg h, select_zero]; exact Ideal.ofBits_zero_f32

theorem upper_apply (q : FVec Ideal S512x128 .f32) (r : Fin 512) (l : Fin 128) :
    upper q (ix2 r l) = if l.val < 64 then 0 else q (ix2 r l) := by
  unfold upper
  rw [select_apply]
  show Scalar.select (k0_pay2 (ix2 r l) ^^^ 1#1) _ _ = _
  rw [lanes_apply]
  by_cases h : l.val < 64
  · rw [if_pos h, if_pos h]; exact Ideal.ofBits_zero_f32
  · rw [if_neg h, if_neg h]; rfl

/-- A piece, at an index: what the query's lanes of the head there take of the values of the lane. -/
theorem piece_apply (q : FVec Ideal S512x128 .f32) (k v : FVec Ideal S256x128 .f32) (r : Fin 512) (l : Fin 128) :
    piece q k v (ix2 r l) = attend (fun d => q (ix2 r (lane (by decide) l d))) (fun s d => k (ix2 s (lane (by decide) l d)))
      (fun s => v (ix2 s l)) := by
  unfold piece
  rw [select_apply, lanes_apply]
  by_cases h : l.val < 64
  · rw [if_pos h, select_one, taken_apply]
    refine Finset.sum_congr rfl fun s _ => congrArg (soft · s * _) (funext fun s => ?_)
    rw [scores_apply, sum_lower _ (fun l => lower q (ix2 r l)) fun d => by
      rw [lower_apply, if_neg (by show ¬64 + d.val < 64; omega)]]
    refine congrArg (· * _) (Finset.sum_congr rfl fun d _ => ?_)
    have e : Fin.castAdd 64 d = lane (N := 128) (by decide) l d := Fin.ext (by show d.val = l.val / 64 * 64 + d.val; omega)
    rw [lower_apply, if_pos (by show d.val < 64; omega), e]
  · rw [if_neg h, select_zero, taken_apply]
    refine Finset.sum_congr rfl fun s _ => congrArg (soft · s * _) (funext fun s => ?_)
    rw [scores_apply, sum_upper _ (fun l => upper q (ix2 r l)) fun d => by
      rw [upper_apply, if_pos (by show d.val < 64; omega)]]
    refine congrArg (· * _) (Finset.sum_congr rfl fun d _ => ?_)
    have e : Fin.natAdd 64 d = lane (N := 128) (by decide) l d := Fin.ext (by
      have := l.isLt
      show 64 + d.val = l.val / 64 * 64 + d.val
      omega)
    rw [upper_apply, if_neg (by show ¬64 + d.val < 64; omega), e]

/-! # A block -/

/-- What a point leaves of its block of 256 lanes. -/
theorem out_eq (x : Vec Ideal S512x256 .f32) (y : Vec Ideal S256x512 .f32) : out0_2 x y = View.canon (Val := Elt Ideal) (s := S512x256) (e := .f32)
      [⟨r0_3, piece (View.ld x r0_3) (View.ld y r0_4) (View.ld y r0_5)⟩, ⟨r0_0, piece (View.ld x r0_0) (View.ld y r0_1) (View.ld y r0_2)⟩] := by
  unfold out0_2
  refine congrArg₂ (fun a b => View.canon (Val := Elt Ideal) (s := S512x256) (e := .f32) [⟨r0_3, a⟩, ⟨r0_0, b⟩]) ?_ ?_
  · unfold k0_pay1 k0_pay12 k0_pay13 k0_pay11 k0_pay10 k0_pay9
    rw [shapeCast_self, shapeCast_self, shapeCast_self]
    rfl
  · unfold k0_pay8 k0_pay7 k0_pay6 k0_pay5 k0_pay4 k0_pay3
    rw [shapeCast_self, shapeCast_self, shapeCast_self]
    rfl

end Cert.MemoryIdeal.Block
-- ==== Proof.Memory.Value.lean ====
module

public import proofs.«01_k».proof.Defs
public import proofs.«01_k».proof.Proof.Gen.Memory.Frame
public import proofs.«01_k».proof.Proof.Memory.Block
public import Idealize.ShloMosaic.Lib.Quiescent

@[expose] public section

set_option maxRecDepth 16384

noncomputable section

namespace Cert.MemoryIdeal.Block

open Cert.MemoryIdeal.Gen Cert.Product Cert.LayerNorm Cert.Memory
open Idealize.ShloMosaic hiding ix1 ix2 ix3 ix4
open Idealize.ShloMosaic.TcCoe Idealize.ShloMosaic.ValueIdx Idealize.SL.Sem
open Idealize.ShloMosaic.Pipeline (Window)

/-! # What the memory attention computes -/

/-! ## A block -/

/-- 128 lanes from lane `o`, at an index. -/
theorem ld_apply {M N : ℕ} (X : Mat M N) (o : ℕ) (inb : ∀ a, (![0, o] : Fin 2 → ℕ) a + (![M, 128] : Fin 2 → ℕ) a ≤ (![M, N] : Fin 2 → ℕ) a)
    (r : Fin M) (l : Fin 128) (l' : Fin N) (h : l'.val = o + l.val) :
    X ((Rect.unit (s := ⟨2, ![M, N]⟩) ![0, o] ![M, 128] inb).emb (ix2 r l)) = X (ix2 r l') := by
  refine congrArg X (Shape.idx_ext₂ ?_ ?_)
  · show 0 + 1 * r.val = r.val
    omega
  · show o + 1 * l.val = l'.val
    omega

/-- A lane before `o` is not one of them. -/
theorem before_not_mem {M N : ℕ} (o : ℕ) (inb : ∀ a, (![0, o] : Fin 2 → ℕ) a + (![M, 128] : Fin 2 → ℕ) a ≤ (![M, N] : Fin 2 → ℕ) a)
    (r : Fin M) (l : Fin N) (h : l.val < o) : (ix2 r l : (⟨2, ![M, N]⟩ : Shape).Idx) ∉ (Rect.unit (s := ⟨2, ![M, N]⟩) ![0, o] ![M, 128] inb).set := by
  rw [Rect.mem_set_unit]
  exact fun hm => absurd (hm 1).1 (Nat.not_le.2 h)

/-- A block stored as two pieces, at an index of each. -/
theorem first_apply (u v : Vec Ideal S512x128 .f32) (r : Fin 512) (l : Fin 128) :
    View.canon (Val := Elt Ideal) (s := S512x256) (e := .f32) [⟨r0_3, u⟩, ⟨r0_0, v⟩] (ix2 r (Fin.castAdd 128 l)) = v (ix2 r l) := by
  have e : (ix2 r (Fin.castAdd 128 l) : S512x256.Idx) = r0_0.emb (ix2 r l) := Shape.idx_ext₂
    (by show r.val = 0 + 1 * r.val; omega) (by show l.val = 0 + 1 * l.val; omega)
  refine (View.canon_cons_of_not_mem _ _ ?_).trans ?_
  · exact before_not_mem 128 inb_S512x256_S512x128_0_128 r (Fin.castAdd 128 l) l.isLt
  · rw [e]
    exact View.canon_cons_emb _ _ _ _
theorem second_apply (u v : Vec Ideal S512x128 .f32) (r : Fin 512) (l : Fin 128) :
    View.canon (Val := Elt Ideal) (s := S512x256) (e := .f32) [⟨r0_3, u⟩, ⟨r0_0, v⟩] (ix2 r (Fin.natAdd 128 l)) = u (ix2 r l) := by
  have e : (ix2 r (Fin.natAdd 128 l) : S512x256.Idx) = r0_3.emb (ix2 r l) := Shape.idx_ext₂
    (by show r.val = 0 + 1 * r.val; omega) (by show 128 + l.val = 128 + 1 * l.val; omega)
  rw [e]
  exact View.canon_cons_emb _ _ _ _

/-- What a query's lanes take is the same where the lanes, the keys and the values are. -/
theorem attend_congr {x x' : Fin 64 → EReal} {y y' : Fin 256 → Fin 64 → EReal} {v v' : Fin 256 → EReal} (hx : ∀ d, x d = x' d)
    (hy : ∀ s d, y s d = y' s d) (hv : ∀ s, v s = v' s) : attend x y v = attend x' y' v' := by
  rw [show x = x' from funext hx, show y = y' from funext fun s => funext (hy s), show v = v' from funext hv]

/-- What a point leaves of its block, at an index: what the query's lanes of the head there take of the values of the lane. -/
theorem out_apply (x : Vec Ideal S512x256 .f32) (y : Vec Ideal S256x512 .f32) (r : Fin 512) (l : Fin 256) :
    out0_2 x y (ix2 r l) = attend (fun d => x (ix2 r (lane (by decide) l d)))
      (fun s d => y (ix2 s (Fin.castAdd 256 (lane (by decide) l d)))) (fun s => y (ix2 s (Fin.natAdd 256 l))) := by
  rw [out_eq]
  by_cases h : l.val < 128
  · obtain ⟨k, rfl⟩ : ∃ k : Fin 128, l = Fin.castAdd 128 k := ⟨⟨l.val, h⟩, rfl⟩
    refine (first_apply _ _ r k).trans ((piece_apply _ _ _ r k).trans (attend_congr (fun d => ?_) (fun s d => ?_) fun s => ?_))
    · exact ld_apply x 0 _ r _ _ (by show k.val / 64 * 64 + d.val = 0 + (k.val / 64 * 64 + d.val); omega)
    · exact ld_apply y 0 _ s _ _ (by show k.val / 64 * 64 + d.val = 0 + (k.val / 64 * 64 + d.val); omega)
    · exact ld_apply y 256 _ s _ _ rfl
  · obtain ⟨k, rfl⟩ : ∃ k : Fin 128, l = Fin.natAdd 128 k := ⟨⟨l.val - 128, by omega⟩, Fin.ext (by show l.val = 128 + (l.val - 128); omega)⟩
    refine (second_apply _ _ r k).trans ((piece_apply _ _ _ r k).trans (attend_congr (fun d => ?_) (fun s d => ?_) fun s => ?_))
    · exact ld_apply x 128 _ r _ _ (by show (128 + k.val) / 64 * 64 + d.val = 128 + (k.val / 64 * 64 + d.val); omega)
    · exact ld_apply y 128 _ s _ _ (by show (128 + k.val) / 64 * 64 + d.val = 128 + (k.val / 64 * 64 + d.val); omega)
    · exact ld_apply y 384 _ s _ _ (by show 256 + (128 + k.val) = 384 + k.val; omega)

/-! ## The whole arrays -/

variable (m : (ℓ : Loc nD τ sig) → Buf (Elt Ideal) ℓ) (ρ : Dev nD → PrngReg) (c : Dev nD)

/-- What the call is given: the activations and the memory's keys and values, each with its batches in one. -/
theorem V_q : V m c main_v0 = shapeCast S32768x1024 (m ((c : Thread nD τ).loc main_arg0)) shapeCasts_S8x4096x1024_S32768x1024 := by
  show StableHlo.after hostOps0 (fun b => m (c, b)) (Proc.devRef .tc main_v0) = _
  simp only [hostOps0]
  after_results_simp <;> rfl
theorem V_kv : V m c main_v1 = shapeCast S2048x512 (m ((c : Thread nD τ).loc main_arg1)) shapeCasts_S8x256x512_S2048x512 := by
  show StableHlo.after hostOps0 (fun b => m (c, b)) (Proc.devRef .tc main_v1) = _
  simp only [hostOps0]
  after_results_simp <;> rfl

/-- Where each window is at a point. -/
theorem index_q : ∀ t : Fin cfg0.N, (cfg0.win 0).index t 0 = t.val ∧ (cfg0.win 0).index t 1 = 3 :=
  (by decide +kernel : ∀ t : Fin grid0.N, win0_0.index t 0 = t.val ∧ win0_0.index t 1 = 3)
theorem index_kv : ∀ t : Fin cfg0.N, (cfg0.win 1).index t 0 = t.val / 8 ∧ (cfg0.win 1).index t 1 = 0 :=
  (by decide +kernel : ∀ t : Fin grid0.N, win0_1.index t 0 = t.val / 8 ∧ win0_1.index t 1 = 0)
theorem index_o : ∀ t : Fin cfg0.N, (cfg0.win 2).index t 0 = t.val ∧ (cfg0.win 2).index t 1 = 0 :=
  (by decide +kernel : ∀ t : Fin grid0.N, win0_2.index t 0 = t.val ∧ win0_2.index t 1 = 0)

/-- The index of each array that an index of its block is. -/
theorem emb_q (t : Fin cfg0.N) (r : Fin 512) (l : Fin 256) :
    ((cfg0.win 0).rect t).emb (ix2 r l) = ix2 (row t r) (Fin.natAdd 768 l) := by
  refine Shape.idx_ext₂ ((Window.rect_emb_val (cfg0.win 0) t _ 0 rfl).trans ?_) ((Window.rect_emb_val (cfg0.win 0) t _ 1 rfl).trans ?_)
  · rw [(index_q t).1]
    show t.val * 512 + r.val = 512 * t.val + r.val
    omega
  · rw [(index_q t).2]
    rfl
theorem emb_kv (t : Fin cfg0.N) (s : Fin 256) (l : Fin 512) :
    ((cfg0.win 1).rect t).emb (ix2 s l) = ix2 (⟨t.val / 8 * 256 + s.val, by have : t.val < 64 := t.isLt; omega⟩ : Fin 2048) l := by
  refine Shape.idx_ext₂ ((Window.rect_emb_val (cfg0.win 1) t _ 0 rfl).trans ?_) ((Window.rect_emb_val (cfg0.win 1) t _ 1 rfl).trans ?_)
  · rw [(index_kv t).1]
    rfl
  · rw [(index_kv t).2]
    show 0 * 512 + l.val = l.val
    omega
theorem emb_o (t : Fin cfg0.N) (r : Fin 512) (l : Fin 256) : ((cfg0.win 2).rect t).emb (ix2 r l) = ix2 (row t r) l :=
  emb_row (K := 512) (B := 64) rfl ((cfg0.win 2).rect t).emb t (index_o t).1 (index_o t).2 (fun x => Window.rect_emb_val (cfg0.win 2) t x 0 rfl)
    (fun x => Window.rect_emb_val (cfg0.win 2) t x 1 rfl) r l

/-- The keys and values of every batch in one, at an index. -/
theorem flatKv_apply (y : (⟨3, ![8, 256, 512]⟩ : Shape).Idx → EReal) (h : Shape.ShapeCasts ⟨3, ![8, 256, 512]⟩ ⟨2, ![2048, 512]⟩)
    (b : Fin 8) (s : Fin 256) (l : Fin 512) (R : Fin 2048) (hR : R.val = b.val * 256 + s.val) :
    shapeCast (⟨2, ![2048, 512]⟩ : Shape) y h (ix2 R l) = y (ix3 b s l) :=
  shapeCast_apply _ _ _ (ix3 b s l) (by
    simp only [Shape.rowMajor_val_three, Shape.rowMajor_val_two]
    show (b.val * 256 + s.val) * 512 + l.val = R.val * 512 + l.val
    omega)

/-- What a point reads of each. -/
theorem read_q (t : Fin cfg0.N) (r : Fin 512) (l : Fin 256) : iblk m c 0 t (ix2 r l)
    = m ((c : Thread nD τ).loc main_arg0) (ix3 (batch (row t r)) (posn (row t r)) (Fin.natAdd 768 l)) :=
  (congrArg (V m c main_v0) (emb_q t r l)).trans ((congrFun (V_q m c) _).trans (flat_apply _ _ (row t r) _))
theorem read_kv (t : Fin cfg0.N) (r : Fin 512) (s : Fin 256) (l : Fin 512) : iblk m c 1 t (ix2 s l)
    = m ((c : Thread nD τ).loc main_arg1) (ix3 (batch (row t r)) s l) :=
  (congrArg (V m c main_v1) (emb_kv t s l)).trans ((congrFun (V_kv m c) _).trans (flatKv_apply _ _ _ s l _ (by
    show t.val / 8 * 256 + s.val = (512 * t.val + r.val) / 4096 * 256 + s.val
    omega)))

/-- What the call computes, from the activations and the memory's keys and values. -/
def goal (x : (⟨3, ![8, 4096, 1024]⟩ : Shape).Idx → EReal) (y : (⟨3, ![8, 256, 512]⟩ : Shape).Idx → EReal) : Mat 32768 256 := fun j =>
  attend (fun d => x (ix3 (batch (j 0)) (posn (j 0)) (Fin.natAdd 768 (lane (by decide) (j 1) d))))
    (fun s d => y (ix3 (batch (j 0)) s (Fin.castAdd 256 (lane (by decide) (j 1) d)))) (fun s => y (ix3 (batch (j 0)) s (Fin.natAdd 256 (j 1))))

/-- A block, read as the whole array's. -/
theorem goal_eq (t : Fin cfg0.N) (r : Fin 512) (l : Fin 256) : out0_2 (iblk m c 0 t) (iblk m c 1 t) (ix2 r l)
    = goal (m ((c : Thread nD τ).loc main_arg0)) (m ((c : Thread nD τ).loc main_arg1)) (ix2 (row t r) l) :=
  (out_apply _ _ r l).trans (attend_congr (fun d => read_q m c t r _) (fun s d => read_kv m c t r s _) fun s => read_kv m c t r s _)

theorem cut_o (t : Fin cfg0.N) (X : Vec Ideal S512x256 .f32) (G : FVec Ideal S32768x256 .f32)
    (h : ∀ r l, X (ix2 r l) = G (ix2 (row t r) l)) :
    (cfg0.win 2).cut (grid0.coords t) X = ((cfg0.win 2).blk t).view.read (Elt Ideal) G :=
  funext (rows_eq (K := 512) (B := 64) rfl ((cfg0.win 2).rect t).emb t (emb_o t) X G h)

/-- Every index is in some point's block. -/
theorem cover_o (j : S32768x256.Idx) : ∃ t : Fin cfg0.N, (cfg0.win 2).flush t = true ∧ j ∈ ((cfg0.win 2).blk t).view.set := by
  obtain ⟨t, r, l, e⟩ := exists_row (K := 512) (B := 64) rfl j
  exact ⟨t, flush0_2 t, (e.trans (emb_o t r l).symm) ▸ ((cfg0.win 2).blk t).view.emb_mem_set (ix2 r l)⟩

/-- So the result array ends at the attention. -/
theorem final : (dats m 0 c).arrAt 2 cfg0.N
    = goal (m ((c : Thread nD τ).loc main_arg0)) (m ((c : Thread nD τ).loc main_arg1)) :=
  (dats m 0 c).arrAt_eq_of_cover 2 _ (fun t _ => (Cert.MemoryIdeal.Value.flushed2 m c t).trans (cut_o t _ _ (goal_eq m c t))) cover_o

end Cert.MemoryIdeal.Block
-- ==== Proof.Memory.Reference.lean ====
module

public import proofs.«01_k».proof.Proof.Gen.ReferenceMemoryIdeal.Run
public import proofs.«01_k».proof.Proof.Memory.Value
public import proofs.«01_k».proof.Proof.Reference
public import Idealize.ShloMosaic.Lib.KernelVsHost

@[expose] public section

set_option maxRecDepth 16384

noncomputable section

namespace Cert.ReferenceMemoryIdeal.Attend

open Cert.ReferenceMemoryIdeal Cert.ReferenceMemoryIdeal.Gen Cert.Product Cert.LayerNorm Cert.Memory
open Cert.ReferenceIdeal.Stick (idx_ext4)
open Idealize.ShloMosaic hiding ix1 ix2 ix3 ix4
open Idealize.ShloMosaic.TcCoe Idealize.ShloMosaic.ValueIdx

/-! # What the memory attention's reference computes -/

/-- An entry per head, query and key, and one per head and query. -/
abbrev Pairs := FVec Ideal S8x4x4096x256 .f32
abbrev Rows := FVec Ideal S8x4x4096 .f32

/-- The queries, -/
def queries (x : FVec Ideal S8x4096x1024 .f32) : FVec Ideal S8x4096x4x64 .f32 :=
  shapeCast S8x4096x4x64 (extractStridedSlice S8x4096x256 ![0, 0, 768] x slices_S8x4096x1024_S8x4096x256_0_0_768)
    shapeCasts_S8x4096x256_S8x4096x4x64

/-- the keys -/
def keys (y : FVec Ideal S8x256x512 .f32) : FVec Ideal S8x256x4x64 .f32 :=
  shapeCast S8x256x4x64 (extractStridedSlice S8x256x256 ![0, 0, 0] y slices_S8x256x512_S8x256x256_0_0_0)
    shapeCasts_S8x256x256_S8x256x4x64

/-- and the values, as 4 heads of 64 lanes. -/
def vals (y : FVec Ideal S8x256x512 .f32) : FVec Ideal S8x256x4x64 .f32 :=
  shapeCast S8x256x4x64 (extractStridedSlice S8x256x256 ![0, 0, 256] y slices_S8x256x512_S8x256x256_0_0_256)
    shapeCasts_S8x256x256_S8x256x4x64

/-- The scores. -/
def scores (q : FVec Ideal S8x4096x4x64 .f32) (k : FVec Ideal S8x256x4x64 .f32) : Pairs :=
  mulf (Host.dotGeneral dot_S8x4096x4x64_S8x256x4x64_S8x4x4096x256_3_3_1_1_02_02 none q k)
    (broadcastInDim S8x4x4096x256 ![] bcast_S_S8x4x4096x256 (constant S_ .f32 0x3E000000#32))

/-- An entry per head and query, at every key. -/
def atKeys (a : Rows) : Pairs :=
  broadcastInDim S8x4x4096x256 ![0, 1, 2, 3] bcast_S8x4x4096x1_S8x4x4096x256_0_1_2_3
    (broadcastInDim S8x4x4096x1 ![0, 1, 2] bcast_S8x4x4096_S8x4x4096x1_0_1_2 a)

/-- The largest score of each query, -/
def peaks (z : Pairs) : Rows :=
  maximumf (broadcastInDim S8x4x4096 ![] bcast_S_S8x4x4096 (constant S_ .f32 0xFF800000#32))
    (Host.reduce FloatOps.maximumf z (constant S_ .f32 0xFF800000#32) reducesTo_S8x4x4096x256_S8x4x4096_d3 h_S_)

/-- the scores less it, exponentiated, -/
def raisedPairs (z : Pairs) : Pairs := Host.exp (subf z (atKeys (peaks z)))

/-- and over their sum. -/
def weights (z : Pairs) : Pairs :=
  Host.divf (raisedPairs z) (atKeys (Host.reduceAdd (raisedPairs z) (constant S_ .f32 0x00000000#32)
    reducesTo_S8x4x4096x256_S8x4x4096_d3 h_S_))

/-- The output, the heads side by side and the batches in one. -/
def result (x : FVec Ideal S8x4096x1024 .f32) (y : FVec Ideal S8x256x512 .f32) : FVec Ideal S32768x256 .f32 :=
  shapeCast S32768x256 (transpose S8x4096x4x64 [0, 3, 1, 2]
    (Host.dotGeneral dot_S8x256x4x64_S8x4x4096x256_S8x4x64x4096_1_3_3_2_02_01 none (vals y) (weights (scores (queries x) (keys y))))
    transposes_S8x4x64x4096_S8x4096x4x64_0_3_1_2) shapeCasts_S8x4096x4x64_S32768x256

/-! ## Each piece at an entry -/

/-- Lane `d` of head `h`. -/
def lane256 (h : Fin 4) (d : Fin 64) : Fin 256 := ⟨64 * h.val + d.val, by omega⟩

/-- Lanes as 4 heads of 64. -/
theorem split_apply {N : ℕ} (x : (⟨3, ![8, N, 256]⟩ : Shape).Idx → EReal) (hc : Shape.ShapeCasts ⟨3, ![8, N, 256]⟩ ⟨4, ![8, N, 4, 64]⟩)
    (b : Fin 8) (t : Fin N) (h : Fin 4) (d : Fin 64) :
    shapeCast (⟨4, ![8, N, 4, 64]⟩ : Shape) x hc (ix4 b t h d) = x (ix3 b t (lane256 h d)) :=
  shapeCast_apply _ _ _ (ix3 b t (lane256 h d)) (by
    simp only [Shape.rowMajor_val_four, Shape.rowMajor_val_three]
    show (b.val * N + t.val) * 256 + (64 * h.val + d.val) = ((b.val * N + t.val) * 4 + h.val) * 64 + d.val
    omega)

/-- 256 lanes from lane `o`. -/
theorem slice_apply {N L : ℕ} (o : ℕ) (x : (⟨3, ![8, N, L]⟩ : Shape).Idx → EReal)
    (hs : Shape.Slices ⟨3, ![8, N, L]⟩ ![0, 0, o] ⟨3, ![8, N, 256]⟩) (b : Fin 8) (t : Fin N) (l : Fin 256) (l' : Fin L)
    (e : l'.val = o + l.val) : extractStridedSlice (⟨3, ![8, N, 256]⟩ : Shape) ![0, 0, o] x hs (ix3 b t l) = x (ix3 b t l') :=
  extractStridedSlice_apply _ _ _ _ (ix3 b t l') fun a => by
    match a with
    | ⟨0, _⟩ => show b.val = 0 + b.val; omega
    | ⟨1, _⟩ => show t.val = 0 + t.val; omega
    | ⟨2, _⟩ => exact e

theorem queries_apply (x : FVec Ideal S8x4096x1024 .f32) (b : Fin 8) (t : Fin 4096) (h : Fin 4) (d : Fin 64) :
    queries x (ix4 b t h d) = x (ix3 b t (Fin.natAdd 768 (lane256 h d))) :=
  (split_apply _ _ b t h d).trans (slice_apply 768 x _ b t _ _ rfl)
theorem keys_apply (y : FVec Ideal S8x256x512 .f32) (b : Fin 8) (s : Fin 256) (h : Fin 4) (d : Fin 64) :
    keys y (ix4 b s h d) = y (ix3 b s (Fin.castAdd 256 (lane256 h d))) :=
  (split_apply _ _ b s h d).trans (slice_apply 0 y _ b s _ _ (by show 64 * h.val + d.val = 0 + (64 * h.val + d.val); omega))
theorem vals_apply (y : FVec Ideal S8x256x512 .f32) (b : Fin 8) (s : Fin 256) (h : Fin 4) (d : Fin 64) :
    vals y (ix4 b s h d) = y (ix3 b s (Fin.natAdd 256 (lane256 h d))) :=
  (split_apply _ _ b s h d).trans (slice_apply 256 y _ b s _ _ rfl)

theorem scores_apply (q : FVec Ideal S8x4096x4x64 .f32) (k : FVec Ideal S8x256x4x64 .f32) (b : Fin 8) (h : Fin 4) (t : Fin 4096)
    (s : Fin 256) : scores q k (ix4 b h t s) = score (fun d => q (ix4 b t h d)) (fun d => k (ix4 b s h d)) := by
  refine congrArg₂ (· * ·) ?_ (broadcastInDim_scalar_apply _ _ _)
  simp only [Host.dotGeneral]
  rw [Ideal.dotGeneral_apply,
    ← Equiv.sum_comp (contrEquiv1 dot_S8x4096x4x64_S8x256x4x64_S8x4x4096x256_3_3_1_1_02_02 64 rfl rfl).symm]
  refine Finset.sum_congr rfl fun l _ => ?_
  congr 2
  · exact idx_ext4 rfl rfl rfl rfl
  · exact idx_ext4 rfl rfl rfl rfl

theorem taken_apply (v : FVec Ideal S8x256x4x64 .f32) (p : Pairs) (b : Fin 8) (h : Fin 4) (d : Fin 64) (t : Fin 4096) :
    Host.dotGeneral dot_S8x256x4x64_S8x4x4096x256_S8x4x64x4096_1_3_3_2_02_01 none v p (ix4 b h d t)
      = ∑ s : Fin 256, p (ix4 b h t s) * v (ix4 b s h d) := by
  simp only [Host.dotGeneral]
  rw [Ideal.dotGeneral_apply,
    ← Equiv.sum_comp (contrEquiv1 dot_S8x256x4x64_S8x4x4096x256_S8x4x64x4096_1_3_3_2_02_01 256 rfl rfl).symm]
  refine Finset.sum_congr rfl fun l _ => ?_
  rw [mul_comm]
  congr 2
  · exact idx_ext4 rfl rfl rfl rfl
  · exact idx_ext4 rfl rfl rfl rfl

theorem atKeys_apply (a : Rows) (b : Fin 8) (h : Fin 4) (t : Fin 4096) (s : Fin 256) : atKeys a (ix4 b h t s) = a (ix3 b h t) := by
  unfold atKeys
  rw [broadcastInDim_apply _ _ _ (ix4 b h t s) (ix4 b h t (0 : Fin 1)) (by intro a; fin_cases a <;> rfl),
    broadcastInDim_apply _ _ _ (ix4 b h t (0 : Fin 1)) (ix3 b h t) (by intro a; fin_cases a <;> rfl)]

theorem reduces_pairs : Shape.Reduces S8x4x4096x256 [3] S8x4x4096 := ⟨rfl, by decide, fun b => by fin_cases b <;> rfl⟩

/-- The largest entry along the last axis, at an index. -/
theorem largest_apply {n₀ n₁ n₂ n₃ : ℕ} (z : FVec Ideal ⟨4, ![n₀, n₁, n₂, n₃]⟩ .f32)
    (h : Shape.ReducesTo ⟨4, ![n₀, n₁, n₂, n₃]⟩ [3] ⟨3, ![n₀, n₁, n₂]⟩) (hr : Shape.Reduces ⟨4, ![n₀, n₁, n₂, n₃]⟩ [3] ⟨3, ![n₀, n₁, n₂]⟩)
    (hu : 0 < (⟨0, ![]⟩ : Shape).numel)
    (hφ : FKind.Formats .f32) (hacc : (0xFF800000#32 : BitVec FTy.f32.bits) = FKind.maximumf.neutral .f32 hφ) (i : Fin n₀) (j : Fin n₁) (k : Fin n₂) :
    Host.reduce FloatOps.maximumf z (constant (⟨0, ![]⟩ : Shape) .f32 0xFF800000#32) h hu (ix3 i j k) = peak fun s => z (ix4 i j k s) := by
  refine (congrFun (hostReduce_maximumf_eq_multiReduction z 0xFF800000#32 h hu hr hφ hacc) (ix3 i j k)).trans ?_
  rw [multiReduction_maximumf_eq_fold]
  exact hr.fold_fiber_r4_a3 (ix3 i j k) max _ z

theorem peaks_apply (z : Pairs) (b : Fin 8) (h : Fin 4) (t : Fin 4096) : peaks z (ix3 b h t) = peak fun s => z (ix4 b h t s) := by
  unfold peaks
  rw [ValueIdx.maximumf_apply, broadcastInDim_scalar_apply, largest_apply z _ reduces_pairs _ (.inl rfl) rfl b h t]
  exact max_peak _

theorem raisedPairs_apply (z : Pairs) (b : Fin 8) (h : Fin 4) (t : Fin 4096) (s : Fin 256) :
    raisedPairs z (ix4 b h t s) = raised (fun s => z (ix4 b h t s)) s :=
  congrArg Ideal.exp (congrArg (z (ix4 b h t s) - ·) ((atKeys_apply _ b h t s).trans (peaks_apply z b h t)))

theorem sums_apply (z : Pairs) (b : Fin 8) (h : Fin 4) (t : Fin 4096) :
    Host.reduceAdd z (constant S_ .f32 0x00000000#32) reducesTo_S8x4x4096x256_S8x4x4096_d3 h_S_ (ix3 b h t)
      = ∑ s, z (ix4 b h t s) := by
  rw [hostReduceAdd_apply]
  refine (Ideal.hostReduceAdd_r4_a3 _ z _ (ix3 b h t)).trans ?_
  refine (congrArg (· + _) Ideal.ofBits_zero_f32).trans (zero_add _)

theorem weights_apply (z : Pairs) (b : Fin 8) (h : Fin 4) (t : Fin 4096) (s : Fin 256) :
    weights z (ix4 b h t s) = soft (fun s => z (ix4 b h t s)) s := by
  unfold weights
  rw [hostDivf_apply]
  exact congrArg₂ Ideal.div (raisedPairs_apply z b h t s) ((atKeys_apply _ b h t s).trans ((sums_apply _ b h t).trans
    (Finset.sum_congr rfl fun s _ => raisedPairs_apply z b h t s)))

/-- The heads side by side and the batches in one, at an index. -/
theorem join_apply (x : (⟨4, ![8, 4096, 4, 64]⟩ : Shape).Idx → EReal)
    (hc : Shape.ShapeCasts ⟨4, ![8, 4096, 4, 64]⟩ ⟨2, ![32768, 256]⟩) (R : Fin 32768) (l : Fin 256) :
    shapeCast (⟨2, ![32768, 256]⟩ : Shape) x hc (ix2 R l)
      = x (ix4 (batch R) (posn R) (⟨l.val / 64, by omega⟩ : Fin 4) (⟨l.val % 64, by omega⟩ : Fin 64)) :=
  shapeCast_apply _ _ _ _ (by
    simp only [Shape.rowMajor_val_four, Shape.rowMajor_val_two]
    show ((R.val / 4096 * 4096 + R.val % 4096) * 4 + l.val / 64) * 64 + l.val % 64 = R.val * 256 + l.val
    omega)

/-- The reference's result is the attention. -/
theorem result_eq (x : FVec Ideal S8x4096x1024 .f32) (y : FVec Ideal S8x256x512 .f32) :
    result x y = Cert.MemoryIdeal.Block.goal x y := by
  funext j
  obtain ⟨R, l, rfl⟩ : ∃ (R : Fin 32768) (l : Fin 256), j = ix2 R l := ⟨j 0, j 1, ValueIdx.eq_ix2 j⟩
  have e (d : Fin 64) : lane256 ⟨l.val / 64, by omega⟩ d = lane (by decide) l d := Fin.ext (by
    show 64 * (l.val / 64) + d.val = l.val / 64 * 64 + d.val
    omega)
  have e' : lane256 ⟨l.val / 64, by omega⟩ ⟨l.val % 64, by omega⟩ = l := Fin.ext (by
    show 64 * (l.val / 64) + l.val % 64 = l.val
    omega)
  unfold result
  rw [join_apply, transpose_apply _ _ _ _ (ix4 (batch R) (⟨l.val / 64, by omega⟩ : Fin 4) (⟨l.val % 64, by omega⟩ : Fin 64) (posn R))
    (by intro a; fin_cases a <;> rfl), taken_apply]
  refine Finset.sum_congr rfl fun s _ => congrArg₂ (· * ·) ?_ ((vals_apply y _ s _ _).trans (by rw [e']))
  rw [weights_apply]
  refine congrArg (soft · s) (funext fun s => (scores_apply _ _ _ _ _ s).trans (congrArg₂ score (funext fun d => ?_) (funext fun d => ?_)))
  · rw [queries_apply, e]
    rfl
  · rw [keys_apply, e]

end Cert.ReferenceMemoryIdeal.Attend

/-! ## The claims -/

namespace Cert.Proof.Memory

open Idealize.ShloMosaic hiding ix1 ix2 ix3 ix4
open Idealize.ShloMosaic.TcCoe Idealize.ShloMosaic.ValueIdx Idealize.SL.Sem
open Cert.MemoryIdeal.Block

theorem frame_p : Cert.quiescent_Memory := fun m ρ _ => Cert.Memory.Gen.frame m ρ
theorem frame_pi : Cert.quiescent_MemoryIdeal := fun m ρ _ => Cert.MemoryIdeal.Gen.frame m ρ
theorem frame_ri : Cert.quiescent_ReferenceMemoryIdeal := fun m ρ _ =>
  (θ_run Cert.ReferenceMemoryIdeal.defs _ _).mono (fun r h => ⟨fun c => (h c).2, sem_eq_zero_of_no_sems (by decide) r.2⟩)
    (Cert.ReferenceMemoryIdeal.Value.run (F := Ideal) m ρ)

/-- The call and its reference end with the same array. -/
theorem algebraic : Cert.algebraic_MemoryIdeal_ReferenceMemoryIdeal := by
  intro m ρ m' ρ' _ hagree
  refine ⟨fun c => goal (m ((c.tc : Thread Cert.MemoryIdeal.nD Cert.MemoryIdeal.τ).loc Cert.MemoryIdeal.main_arg0))
    (m ((c.tc : Thread Cert.MemoryIdeal.nD Cert.MemoryIdeal.τ).loc Cert.MemoryIdeal.main_arg1)), (θ_run Cert.MemoryIdeal.defs _ _).mono
    (fun _ h c => ⟨(h c).1.trans (final m c), (h c).2⟩) (Cert.MemoryIdeal.Value.run_blocks (F := Ideal) m ρ), ?_⟩
  refine (θ_run Cert.ReferenceMemoryIdeal.defs _ _).mono (fun _ h c => ⟨(h c).1.trans ?_, (h c).2⟩)
    (Cert.ReferenceMemoryIdeal.Value.run (F := Ideal) m' ρ')
  rw [(hagree c).1, (hagree c).2]
  exact Cert.ReferenceMemoryIdeal.Attend.result_eq _ _

end Cert.Proof.Memory
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores
public import proofs.«01_k».proof.Proof.Bits.Run
public import proofs.«01_k».proof.Proof.Equation
public import proofs.«01_k».proof.Proof.Gen.ProjectIn
public import proofs.«01_k».proof.Proof.Gen.ProjectInIdeal
public import proofs.«01_k».proof.Proof.Gen.ReferenceInIdeal
public import proofs.«01_k».proof.Proof.Project.In
public import proofs.«01_k».proof.Proof.Gen.ProjectKv
public import proofs.«01_k».proof.Proof.Gen.ProjectKvIdeal
public import proofs.«01_k».proof.Proof.Gen.ReferenceKvIdeal
public import proofs.«01_k».proof.Proof.Project.Kv
public import proofs.«01_k».proof.Proof.Gen.ProjectB
public import proofs.«01_k».proof.Proof.Gen.ProjectBIdeal
public import proofs.«01_k».proof.Proof.Gen.ReferenceBIdeal
public import proofs.«01_k».proof.Proof.Project.B
public import proofs.«01_k».proof.Proof.Gen.ProjectQ
public import proofs.«01_k».proof.Proof.Gen.ProjectQIdeal
public import proofs.«01_k».proof.Proof.Gen.ReferenceQIdeal
public import proofs.«01_k».proof.Proof.Project.Q
public import proofs.«01_k».proof.Proof.Gen.ProjectMem
public import proofs.«01_k».proof.Proof.Gen.ProjectMemIdeal
public import proofs.«01_k».proof.Proof.Gen.ReferenceMemIdeal
public import proofs.«01_k».proof.Proof.Project.Mem
public import proofs.«01_k».proof.Proof.Gen.Norm
public import proofs.«01_k».proof.Proof.Gen.NormIdeal
public import proofs.«01_k».proof.Proof.Gen.ReferenceNormIdeal
public import proofs.«01_k».proof.Proof.Norm
public import proofs.«01_k».proof.Proof.Gen.Mix
public import proofs.«01_k».proof.Proof.Gen.MixIdeal
public import proofs.«01_k».proof.Proof.Gen.ReferenceMixIdeal
public import proofs.«01_k».proof.Proof.Mix.Value
public import proofs.«01_k».proof.Proof.Gen.Memory
public import proofs.«01_k».proof.Proof.Gen.MemoryIdeal
public import proofs.«01_k».proof.Proof.Gen.ReferenceMemoryIdeal
public import proofs.«01_k».proof.Proof.Memory.Reference
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference runs, its arguments unchanged and every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one rewritten constant: the score of a masked pair stands for minus infinity. -/
theorem preserves : Cert.preserves_Kernel_KernelIdeal :=
  IdealRules.named_const.statement Cert.KernelIdeal.κ "masked" .f32 0xF149F2CA#32 ⊥ rfl

/-- Where the queries and the keys are finite, kernel and reference end with the same array. -/
theorem algebraic : Cert.algebraic_KernelIdeal_ReferenceIdeal_pre_finite_scores := by
  intro m ρ m' ρ' hpre hagree
  refine ⟨_, Cert.KernelIdeal.Stick.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Stick.res_eq, (hagree c).1, (hagree c).2]
  rfl

theorem claim : Cert.Claim :=
  ⟨Cert.Kernel.Gen.facts, Cert.KernelIdeal.Gen.facts, Cert.ReferenceIdeal.Gen.facts,
    Cert.ProjectIn.Gen.facts, Cert.ProjectInIdeal.Gen.facts, Cert.ReferenceInIdeal.Gen.facts,
    Cert.ProjectKv.Gen.facts, Cert.ProjectKvIdeal.Gen.facts, Cert.ReferenceKvIdeal.Gen.facts,
    Cert.ProjectB.Gen.facts, Cert.ProjectBIdeal.Gen.facts, Cert.ReferenceBIdeal.Gen.facts,
    Cert.ProjectQ.Gen.facts, Cert.ProjectQIdeal.Gen.facts, Cert.ReferenceQIdeal.Gen.facts,
    Cert.ProjectMem.Gen.facts, Cert.ProjectMemIdeal.Gen.facts, Cert.ReferenceMemIdeal.Gen.facts,
    Cert.Norm.Gen.facts, Cert.NormIdeal.Gen.facts, Cert.ReferenceNormIdeal.Gen.facts,
    Cert.Mix.Gen.facts, Cert.MixIdeal.Gen.facts, Cert.ReferenceMixIdeal.Gen.facts,
    Cert.Memory.Gen.facts, Cert.MemoryIdeal.Gen.facts, Cert.ReferenceMemoryIdeal.Gen.facts,
    Cert.Pre_finite_scores.Gen.facts,
    fun m ρ _ => Cert.Kernel.Stick.frame m ρ, fun m ρ _ => Cert.KernelIdeal.Stick.frame m ρ,
    fun m ρ _ => Cert.KernelIdeal.Stick.frame m ρ, frame_reference, fun m ρ _ => frame_reference m ρ trivial,
    ProjectIn.frame_p, ProjectIn.frame_pi, ProjectIn.frame_ri,
    ProjectKv.frame_p, ProjectKv.frame_pi, ProjectKv.frame_ri,
    ProjectB.frame_p, ProjectB.frame_pi, ProjectB.frame_ri,
    ProjectQ.frame_p, ProjectQ.frame_pi, ProjectQ.frame_ri,
    ProjectMem.frame_p, ProjectMem.frame_pi, ProjectMem.frame_ri,
    Norm.frame_p, Norm.frame_pi, Norm.frame_ri,
    Mix.frame_p, Mix.frame_pi, Mix.frame_ri,
    Memory.frame_p, Memory.frame_pi, Memory.frame_ri,
    preserves, algebraic,
    trivial, ProjectIn.algebraic,
    trivial, ProjectKv.algebraic,
    trivial, ProjectB.algebraic,
    trivial, ProjectQ.algebraic,
    trivial, ProjectMem.algebraic,
    trivial, Norm.algebraic,
    Mix.preserves, Mix.algebraic,
    trivial, Memory.algebraic⟩

end Cert.Proof
